-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v24) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_v76) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v17)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v32) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v17) = v0 c
          ∧ r.2.mem ((c.tc : Thread Cert.Reference17Ideal.nD Cert.Reference17Ideal.τ).loc Cert.Reference17Ideal.main_v18) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  IdealRules.named_const.Statement Cert.Kernel18Ideal.κ "inv_1" .f32 0x3FC48605#32 ((8388608 / 5463681 : ℝ) : EReal)
  ∧ IdealRules.named_const.Statement Cert.Kernel18Ideal.κ "inv_2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "inv_1" .f32 0x3FC48605#32 ((8388608 / 5463681 : ℝ) : EReal)
  ∧ IdealRules.named_const.Statement Cert.Kernel19Ideal.κ "inv_2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v31) = v0 c
          ∧ r.2.mem ((c.tc : Thread Cert.Reference19Ideal.nD Cert.Reference19Ideal.τ).loc Cert.Reference19Ideal.main_v33) = v1 c
          ∧ r.2.mem ((c.tc : Thread Cert.Reference19Ideal.nD Cert.Reference19Ideal.τ).loc Cert.Reference19Ideal.main_v35) = v2 c
          ∧ r.2.mem ((c.tc : Thread Cert.Reference19Ideal.nD Cert.Reference19Ideal.τ).loc Cert.Reference19Ideal.main_v37) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel20_Kernel20Ideal : Prop :=
  IdealRules.named_const.Statement Cert.Kernel20Ideal.κ "inv_1" .f32 0x3FC48605#32 ((8388608 / 5463681 : ℝ) : EReal)
  ∧ IdealRules.named_const.Statement Cert.Kernel20Ideal.κ "inv_2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v29) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v31) = v2 c
          ∧ r.2.mem ((c.tc : Thread Cert.Reference20Ideal.nD Cert.Reference20Ideal.τ).loc Cert.Reference20Ideal.main_v32) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4112x2816 : Shape := ⟨2, ![4112, 2816]⟩
abbrev S2816x1024 : Shape := ⟨2, ![2816, 1024]⟩
abbrev S1024 : Shape := ⟨1, ![1024]⟩
abbrev S4112x1024 : Shape := ⟨2, ![4112, 1024]⟩
abbrev S_ : Shape := ⟨0, ![]⟩

class Facts : Prop where
  bcast_S_S4112x2816 : S_.BroadcastsInDim S4112x2816 (![] : Fin 0 → Fin S4112x2816.rank)
  reducesTo_S4112x2816_S_d0_1 : S4112x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_
  bcast_S_S4112x1024 : S_.BroadcastsInDim S4112x1024 (![] : Fin 0 → Fin S4112x1024.rank)
  reducesTo_S4112x1024_S_d0_1 : S4112x1024.ReducesTo [0, 1] S_

variable [Facts]

def fn_part1 {F : FTy → Type} [FloatOps F] (main_arg4 : FVec F S4112x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4112x1024 .f32 := Host.absf main_arg4
  let main_cst_6 : FVec F S_ .f32 := constant S_ .f32 0x7F800000#32
  let main_v20 : FVec F S4112x1024 .f32 := broadcastInDim S4112x1024 ![] bcast_S_S4112x1024 main_cst_6
  let main_v21 : IVec S4112x1024 1 := cmpf .olt main_v19 main_v20
  let main_c_7 : IVec S_ 1 := constantI S_ 1 1#1
  let main_v22 : IVec S_ 1 := (fun x v => Host.reduce IntOp.andi x v reducesTo_S4112x1024_S_d0_1 h_S_) main_v21 main_c_7
  let main_v23 : IVec S_ 1 := andi main_v18 main_v22
  main_v23

def fn {F : FTy → Type} [FloatOps F] (main_arg0 : FVec F S4112x2816 .f32) (main_arg1 : FVec F S4112x2816 .f32) (main_arg2 : FVec F S2816x1024 .f32) (main_arg3 : FVec F S1024 .f32) (main_arg4 : FVec F S4112x1024 .f32) : IVec S_ 1 :=
  let main_v0 : FVec F S4112x2816 .f32 := Host.absf main_arg0
  let main_cst : FVec F S_ .f32 := constant S_ .f32 0x7F800000#32
  let main_v1 : FVec F S4112x2816 .f32 := broadcastInDim S4112x2816 ![] bcast_S_S4112x2816 main_cst
  let main_v2 : IVec S4112x2816 1 := cmpf .olt main_v0 main_v1
  let main_c : IVec S_ 1 := constantI S_ 1 1#1
  let main_v3 : IVec S_ 1 := (fun x v => Host.reduce IntOp.andi x v reducesTo_S4112x2816_S_d0_1 h_S_) main_v2 main_c
  let main_v4 : FVec F S4112x2816 .f32 := Host.absf main_arg1
  let main_cst_0 : FVec F S_ .f32 := constant S_ .f32 0x7F800000#32
  let main_v5 : FVec F S4112x2816 .f32 := broadcastInDim S4112x2816 ![] bcast_S_S4112x2816 main_cst_0
  let main_v6 : IVec S4112x2816 1 := cmpf .olt main_v4 main_v5
  let main_c_1 : IVec S_ 1 := constantI S_ 1 1#1
  let main_v7 : IVec S_ 1 := (fun x v => Host.reduce IntOp.andi x v reducesTo_S4112x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4112x2816 : Shape := ⟨2, ![4112, 2816]⟩
abbrev S2816x1024 : Shape := ⟨2, ![2816, 1024]⟩
abbrev S1024 : Shape := ⟨1, ![1024]⟩
abbrev S4112x1024 : Shape := ⟨2, ![4112, 1024]⟩
abbrev S_ : Shape := ⟨0, ![]⟩
abbrev S4224x1024 : Shape := ⟨2, ![4224, 1024]⟩
abbrev S1x1024 : Shape := ⟨2, ![1, 1024]⟩
abbrev S4224x2816 : Shape := ⟨2, ![4224, 2816]⟩
abbrev S4224x5632 : Shape := ⟨2, ![4224, 5632]⟩
abbrev S384x1024 : Shape := ⟨2, ![384, 1024]⟩
abbrev S384x2816 : Shape := ⟨2, ![384, 2816]⟩
abbrev S384x5632 : Shape := ⟨2, ![384, 5632]⟩
abbrev S384 : Shape := ⟨1, ![384]⟩
abbrev S384x1 : Shape := ⟨2, ![384, 1]⟩

abbrev nBuf : Space → Nat
  | .hbm => 35
  | .vmem => 15
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S2816x1024, .f32⟩
  | .hbm, ⟨3, _⟩ => ⟨S1024, .f32⟩
  | .hbm, ⟨4, _⟩ => ⟨S4112x1024, .f32⟩
  | .hbm, ⟨5, _⟩ => ⟨S4112x2816, .f32⟩
  | .hbm, ⟨6, _⟩ => ⟨S4112x2816, .f32⟩
  | .hbm, ⟨7, _⟩ => ⟨S_, .f32⟩
  | .hbm, ⟨8, _⟩ => ⟨S4112x2816, .f32⟩
  | .hbm, ⟨9, _⟩ => ⟨S4112x2816, .f32⟩
  | .hbm, ⟨10, _⟩ => ⟨S_, .f32⟩
  | .hbm, ⟨11, _⟩ => ⟨S4112x2816, .f32⟩
  | .hbm, ⟨12, _⟩ => ⟨S4112x2816, .f32⟩
  | .hbm, ⟨13, _⟩ => ⟨S4112x2816, .f32⟩
  | .hbm, ⟨14, _⟩ => ⟨S4112x2816, .f32⟩
  | .hbm, ⟨15, _⟩ => ⟨S4112x1024, .f32⟩
  | .hbm, ⟨16, _⟩ => ⟨S_, .i32⟩
  | .hbm, ⟨17, _⟩ => ⟨S_, .f32⟩
  | .hbm, ⟨18, _⟩ => ⟨S4224x1024, .f32⟩
  | .hbm, ⟨19, _⟩ => ⟨S_, .i32⟩
  | .hbm, ⟨20, _⟩ => ⟨S_, .f32⟩
  | .hbm, ⟨21, _⟩ => ⟨S4224x1024, .f32⟩
  | .hbm, ⟨22, _⟩ => ⟨S1x1024, .f32⟩
  | .hbm, ⟨23, _⟩ => ⟨S2816x1024, .bf16⟩
  | .hbm, ⟨24, _⟩ => ⟨S_, .i32⟩
  | .hbm, ⟨25, _⟩ => ⟨S_, .f32⟩
  | .hbm, ⟨26, _⟩ => ⟨S4224x2816, .f32⟩
  | .hbm, ⟨27, _⟩ => ⟨S4224x2816, .bf16⟩
  | .hbm, ⟨28, _⟩ => ⟨S_, .i32⟩
  | .hbm, ⟨29, _⟩ => ⟨S_, .f32⟩
  | .hbm, ⟨30, _⟩ => ⟨S4224x2816, .f32⟩
  | .hbm, ⟨31, _⟩ => ⟨S4224x2816, .bf16⟩
  | .hbm, ⟨32, _⟩ => ⟨S4224x1024, .bf16⟩
  | .hbm, ⟨33, _⟩ => ⟨S1x1024, .f32⟩
  | .hbm, ⟨34, _⟩ => ⟨S4224x5632, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S2816x1024, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | .local _ .vmem, ⟨10, _⟩ => ⟨S384x1024, .bf16⟩
  | .local _ .vmem, ⟨11, _⟩ => ⟨S384x1024, .bf16⟩
  | .local _ .vmem, ⟨12, _⟩ => ⟨S1x1024, .f32⟩
  | .local _ .vmem, ⟨13, _⟩ => ⟨S384x5632, .bf16⟩
  | .local _ .vmem, ⟨14, _⟩ => ⟨S384x5632, .bf16⟩
  | _, _ => ⟨S4112x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call1_v0 : Ref sig .tc := ⟨.hbm, 17, rfl⟩
abbrev main_v3 : Ref sig .tc := ⟨.hbm, 18, rfl⟩
abbrev main_c_0 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_call3_v0 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_call4_v0 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4112x2816 : Shape := ⟨2, ![4112, 2816]⟩
abbrev S2816x1024 : Shape := ⟨2, ![2816, 1024]⟩
abbrev S1024 : Shape := ⟨1, ![1024]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩
abbrev S4112x5632 : Shape := ⟨2, ![4112, 5632]⟩
abbrev S4224x5632 : Shape := ⟨2, ![4224, 5632]⟩

abbrev nBuf : Space → Nat
  | .hbm => 88
  | .vmem => 0
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S2816x1024, .f32⟩
  | .hbm, ⟨3, _⟩ => ⟨S1024, .f32⟩
  | .hbm, ⟨4, _⟩ => ⟨S4112x1024, .f32⟩
  | .hbm, ⟨5, _⟩ => ⟨S4112x2816, .f32⟩
  | .hbm, ⟨6, _⟩ => ⟨S4112x2816, .f32⟩
  | .hbm, ⟨7, _⟩ => ⟨S_, .f32⟩
  | .hbm, ⟨8, _⟩ => ⟨S4112x2816, .f32⟩
  | .hbm, ⟨9, _⟩ => ⟨S4112x2816, .f32⟩
  | .hbm, ⟨10, _⟩ => ⟨S_, .f32⟩
  | .hbm, ⟨11, _⟩ => ⟨S4112x2816, .f32⟩
  | .hbm, ⟨12, _⟩ => ⟨S4112x2816, .f32⟩
  | .hbm, ⟨13, _⟩ => ⟨S_, .f32⟩
  | .hbm, ⟨14, _⟩ => ⟨S4112x2816, .f32⟩
  | .hbm, ⟨15, _⟩ => ⟨S4112x2816, .f32⟩
  | .hbm, ⟨16, _⟩ => ⟨S4112x2816, .f32⟩
  | .hbm, ⟨17, _⟩ => ⟨S4112x2816, .f32⟩
  | .hbm, ⟨18, _⟩ => ⟨S4112x2816, .f32⟩
  | .hbm, ⟨19, _⟩ => ⟨S4112x1024, .f32⟩
  | .hbm, ⟨20, _⟩ => ⟨S4112x1024, .f32⟩
  | .hbm, ⟨21, _⟩ => ⟨S_, .f32⟩
  | .hbm, ⟨22, _⟩ => ⟨S4112, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S4112x1, .f32⟩
  | .hbm, ⟨31, _⟩ => ⟨S4112x1, .f32⟩
  | .hbm, ⟨32, _⟩ => ⟨S_, .f32⟩
  | .hbm, ⟨33, _⟩ => ⟨S4112x1, .f32⟩
  | .hbm, ⟨34, _⟩ => ⟨S4112x1, .f32⟩
  | .hbm, ⟨35, _⟩ => ⟨S4112x1024, .f32⟩
  | .hbm, ⟨36, _⟩ => ⟨S4112x1024, .f32⟩
  | .hbm, ⟨37, _⟩ => ⟨S1x1024, .f32⟩
  | .hbm, ⟨38, _⟩ => ⟨S4112x1024, .f32⟩
  | .hbm, ⟨39, _⟩ => ⟨S4112x1024, .f32⟩
  | .hbm, ⟨40, _⟩ => ⟨S_, .f32⟩
  | .hbm, ⟨41, _⟩ => ⟨S4112x1024, .f32⟩
  | .hbm, ⟨42, _⟩ => ⟨S4112x1024, .f32⟩
  | .hbm, ⟨43, _⟩ => ⟨S_, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4112x1024, .f32⟩
  | .hbm, ⟨51, _⟩ => ⟨S4112x1024, .f32⟩
  | .hbm, ⟨52, _⟩ => ⟨S_, .f32⟩
  | .hbm, ⟨53, _⟩ => ⟨S1024, .f32⟩
  | .hbm, ⟨54, _⟩ => ⟨S4112x1024, .f32⟩
  | .hbm, ⟨55, _⟩ => ⟨S_, .f32⟩
  | .hbm, ⟨56, _⟩ => ⟨S4112, .f32⟩
  | .hbm, ⟨57, _⟩ => ⟨S4112x1, .f32⟩
  | .hbm, ⟨58, _⟩ => ⟨S4112x1024, .f32⟩
  | .hbm, ⟨59, _⟩ => ⟨S4112x1024, .f32⟩
  | .hbm, ⟨60, _⟩ => ⟨S4112x1, .f32⟩
  | .hbm, ⟨61, _⟩ => ⟨S_, .f32⟩
  | .hbm, ⟨62, _⟩ => ⟨S4112x1, .f32⟩
  | .hbm, ⟨63, _⟩ => ⟨S4112x1, .f32⟩
  | .hbm, ⟨64, _⟩ => ⟨S_, .f32⟩
  | .hbm, ⟨65, _⟩ => ⟨S4112, .f32⟩
  | .hbm, ⟨66, _⟩ => ⟨S4112x1024, .f32⟩
  | .hbm, ⟨67, _⟩ => ⟨S4112x1024, .f32⟩
  | .hbm, ⟨68, _⟩ => ⟨S4112x1024, .f32⟩
  | .hbm, ⟨69, _⟩ => ⟨S4112x1024, .f32⟩
  | .hbm, ⟨70, _⟩ => ⟨S4112x1024, .f32⟩
  | .hbm, ⟨71, _⟩ => ⟨S4112x2816, .f32⟩
  | .hbm, ⟨72, _⟩ => ⟨S4112x2816, .f32⟩
  | .hbm, ⟨73, _⟩ => ⟨S4112x2816, .f32⟩
  | .hbm, ⟨74, _⟩ => ⟨S4112x2816, .f32⟩
  | .hbm, ⟨75, _⟩ => ⟨S4112x2816, .f32⟩
  | .hbm, ⟨76, _⟩ => ⟨S4112x2816, .f32⟩
  | .hbm, ⟨77, _⟩ => ⟨S4112x2816, .f32⟩
  | .hbm, ⟨78, _⟩ => ⟨S_, .i32⟩
  | .hbm, ⟨79, _⟩ => ⟨S_, .f32⟩
  | .hbm, ⟨80, _⟩ => ⟨S4224x1024, .f32⟩
  | .hbm, ⟨81, _⟩ => ⟨S4224x1024, .bf16⟩
  | .hbm, ⟨82, _⟩ => ⟨S1x1024, .f32⟩
  | .hbm, ⟨83, _⟩ => ⟨S4112x5632, .f32⟩
  | .hbm, ⟨84, _⟩ => ⟨S_, .i32⟩
  | .hbm, ⟨85, _⟩ => ⟨S_, .f32⟩
  | .hbm, ⟨86, _⟩ => ⟨S4224x5632, .f32⟩
  | .hbm, ⟨87, _⟩ => ⟨S4224x5632, .bf16⟩
  | _, _ => ⟨S4112x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v46 : Ref sig .tc := ⟨.hbm, 77, rfl⟩
abbrev main_c : Ref sig .tc := ⟨.hbm, 78, rfl⟩
abbrev main_call2_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_call3_v0 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]
-- ==== Kernel2.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S2816x1024 : Shape := ⟨2, ![2816, 1024]⟩
abbrev S5632x1024 : Shape := ⟨2, ![5632, 1024]⟩
abbrev S4112x5632 : Shape := ⟨2, ![4112, 5632]⟩
abbrev S_ : Shape := ⟨0, ![]⟩
abbrev S4224x5632 : Shape := ⟨2, ![4224, 5632]⟩
abbrev S4224x1024 : Shape := ⟨2, ![4224, 1024]⟩
abbrev S1x1024 : Shape := ⟨2, ![1, 1024]⟩
abbrev S384x5632 : Shape := ⟨2, ![384, 5632]⟩
abbrev S384x1024 : Shape := ⟨2, ![384, 1024]⟩
abbrev S384 : Shape := ⟨1, ![384]⟩
abbrev S384x1 : Shape := ⟨2, ![384, 1]⟩

abbrev nBuf : Space → Nat
  | .hbm => 25
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4112x1024, .f32⟩
  | .hbm, ⟨5, _⟩ => ⟨S4112x2816, .f32⟩
  | .hbm, ⟨6, _⟩ => ⟨S4112x2816, .f32⟩
  | .hbm, ⟨7, _⟩ => ⟨S2816x1024, .f32⟩
  | .hbm, ⟨8, _⟩ => ⟨S2816x1024, .f32⟩
  | .hbm, ⟨9, _⟩ => ⟨S5632x1024, .f32⟩
  | .hbm, ⟨10, _⟩ => ⟨S5632x1024, .bf16⟩
  | .hbm, ⟨11, _⟩ => ⟨S4112x5632, .f32⟩
  | .hbm, ⟨12, _⟩ => ⟨S_, .i32⟩
  | .hbm, ⟨13, _⟩ => ⟨S_, .f32⟩
  | .hbm, ⟨14, _⟩ => ⟨S4224x5632, .f32⟩
  | .hbm, ⟨15, _⟩ => ⟨S4224x5632, .bf16⟩
  | .hbm, ⟨16, _⟩ => ⟨S_, .i32⟩
  | .hbm, ⟨17, _⟩ => ⟨S_, .f32⟩
  | .hbm, ⟨18, _⟩ => ⟨S4224x1024, .f32⟩
  | .hbm, ⟨19, _⟩ => ⟨S1x1024, .f32⟩
  | .hbm, ⟨20, _⟩ => ⟨S_, .i32⟩
  | .hbm, ⟨21, _⟩ => ⟨S_, .f32⟩
  | .hbm, ⟨22, _⟩ => ⟨S4224x1024, .f32⟩
  | .hbm, ⟨23, _⟩ => ⟨S4224x1024, .f32⟩
  | .hbm, ⟨24, _⟩ => ⟨S1x1024, .f32⟩
  | .local _ .vmem, ⟨0, _⟩ => ⟨S384x5632, .bf16⟩
  | .local _ .vmem, ⟨1, _⟩ => ⟨S384x5632, .bf16⟩
  | .local _ .vmem, ⟨2, _⟩ => ⟨S5632x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4112x1024, .f32⟩
  | .hbm, ⟨5, _⟩ => ⟨S4112x2816, .f32⟩
  | .hbm, ⟨6, _⟩ => ⟨S4112x2816, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S4112x2816, .f32⟩
  | .hbm, ⟨28, _⟩ => ⟨S4112x2816, .f32⟩
  | .hbm, ⟨29, _⟩ => ⟨S4112x1024, .f32⟩
  | .hbm, ⟨30, _⟩ => ⟨S4112x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4112x1024, .f32⟩
  | .hbm, ⟨37, _⟩ => ⟨S4112x1024, .f32⟩
  | .hbm, ⟨38, _⟩ => ⟨S_, .f32⟩
  | .hbm, ⟨39, _⟩ => ⟨S1024, .f32⟩
  | .hbm, ⟨40, _⟩ => ⟨S4112x1024, .f32⟩
  | .hbm, ⟨41, _⟩ => ⟨S_, .f32⟩
  | .hbm, ⟨42, _⟩ => ⟨S4112, .f32⟩
  | .hbm, ⟨43, _⟩ => ⟨S4112x1, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S4112x1, .f32⟩
  | .hbm, ⟨48, _⟩ => ⟨S_, .f32⟩
  | .hbm, ⟨49, _⟩ => ⟨S4112x1, .f32⟩
  | .hbm, ⟨50, _⟩ => ⟨S4112x1, .f32⟩
  | .hbm, ⟨51, _⟩ => ⟨S_, .f32⟩
  | .hbm, ⟨52, _⟩ => ⟨S4112, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S4112x1024, .f32⟩
  | .hbm, ⟨57, _⟩ => ⟨S4112x1024, .f32⟩
  | .hbm, ⟨58, _⟩ => ⟨S_, .i32⟩
  | .hbm, ⟨59, _⟩ => ⟨S_, .f32⟩
  | .hbm, ⟨60, _⟩ => ⟨S4224x1024, .f32⟩
  | .hbm, ⟨61, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_call0_v0 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel3.lean ====
abbrev S4112x1024 : Shape := ⟨2, ![4112, 1024]⟩
abbrev S1024 : Shape := ⟨1, ![1024]⟩
abbrev S4112x2816 : Shape := ⟨2, ![4112, 2816]⟩
abbrev S4112x5632 : Shape := ⟨2, ![4112, 5632]⟩
abbrev S_ : Shape := ⟨0, ![]⟩
abbrev S4224x5632 : Shape := ⟨2, ![4224, 5632]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩
abbrev S5632x1024 : Shape := ⟨2, ![5632, 1024]⟩
abbrev S4224x512 : Shape := ⟨2, ![4224, 512]⟩
abbrev S512x1024 : Shape := ⟨2, ![512, 1024]⟩

abbrev nBuf : Space → Nat
  | .hbm => 30
  | .vmem => 5
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4112x2816, .f32⟩
  | .hbm, ⟨3, _⟩ => ⟨S4112x2816, .f32⟩
  | .hbm, ⟨4, _⟩ => ⟨S4112x5632, .f32⟩
  | .hbm, ⟨5, _⟩ => ⟨S_, .i32⟩
  | .hbm, ⟨6, _⟩ => ⟨S_, .f32⟩
  | .hbm, ⟨7, _⟩ => ⟨S4224x5632, .f32⟩
  | .hbm, ⟨8, _⟩ => ⟨S4224x5632, .bf16⟩
  | .hbm, ⟨9, _⟩ => ⟨S4112x1024, .f32⟩
  | .hbm, ⟨10, _⟩ => ⟨S_, .f32⟩
  | .hbm, ⟨11, _⟩ => ⟨S4112, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S_, .i32⟩
  | .hbm, ⟨26, _⟩ => ⟨S_, .f32⟩
  | .hbm, ⟨27, _⟩ => ⟨S4224x1024, .f32⟩
  | .hbm, ⟨28, _⟩ => ⟨S4224x1024, .bf16⟩
  | .hbm, ⟨29, _⟩ => ⟨S5632x1024, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S512x1024, .bf16⟩
  | .local _ .vmem, ⟨4, _⟩ => ⟨S512x1024, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4112x1024 : Shape := ⟨2, ![4112, 1024]⟩
abbrev S1024 : Shape := ⟨1, ![1024]⟩
abbrev S4112x2816 : Shape := ⟨2, ![4112, 2816]⟩
abbrev S_ : Shape := ⟨0, ![]⟩
abbrev S1024x2816 : Shape := ⟨2, ![1024, 2816]⟩
abbrev S4112 : Shape := ⟨1, ![4112]⟩
abbrev S4112x1 : Shape := ⟨2, ![4112, 1]⟩
abbrev S1x1024 : Shape := ⟨2, ![1, 1024]⟩
abbrev S2816x1024 : Shape := ⟨2, ![2816, 1024]⟩
abbrev S5632x1024 : Shape := ⟨2, ![5632, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4112x2816, .f32⟩
  | .hbm, ⟨3, _⟩ => ⟨S4112x2816, .f32⟩
  | .hbm, ⟨4, _⟩ => ⟨S_, .f32⟩
  | .hbm, ⟨5, _⟩ => ⟨S1024x2816, .f32⟩
  | .hbm, ⟨6, _⟩ => ⟨S4112x1024, .f32⟩
  | .hbm, ⟨7, _⟩ => ⟨S_, .f32⟩
  | .hbm, ⟨8, _⟩ => ⟨S4112, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S4112x1024, .f32⟩
  | .hbm, ⟨18, _⟩ => ⟨S4112x1024, .f32⟩
  | .hbm, ⟨19, _⟩ => ⟨S1x1024, .f32⟩
  | .hbm, ⟨20, _⟩ => ⟨S4112x1024, .f32⟩
  | .hbm, ⟨21, _⟩ => ⟨S4112x1024, .f32⟩
  | .hbm, ⟨22, _⟩ => ⟨S4112x2816, .f32⟩
  | .hbm, ⟨23, _⟩ => ⟨S4112x2816, .f32⟩
  | .hbm, ⟨24, _⟩ => ⟨S2816x1024, .f32⟩
  | .hbm, ⟨25, _⟩ => ⟨S1024x2816, .f32⟩
  | .hbm, ⟨26, _⟩ => ⟨S2816x1024, .f32⟩
  | .hbm, ⟨27, _⟩ => ⟨S1024x2816, .f32⟩
  | .hbm, ⟨28, _⟩ => ⟨S2816x1024, .f32⟩
  | .hbm, ⟨29, _⟩ => ⟨S2816x1024, .f32⟩
  | .hbm, ⟨30, _⟩ => ⟨S5632x1024, .f32⟩
  | .hbm, ⟨31, _⟩ => ⟨S5632x1024, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S4112x2816 : Shape := ⟨2, ![4112, 2816]⟩
abbrev S4112x1024 : Shape := ⟨2, ![4112, 1024]⟩
abbrev S_ : Shape := ⟨0, ![]⟩
abbrev S4224x2816 : Shape := ⟨2, ![4224, 2816]⟩
abbrev S4224x1024 : Shape := ⟨2, ![4224, 1024]⟩
abbrev S2816x1024 : Shape := ⟨2, ![2816, 1024]⟩
abbrev S4224x256 : Shape := ⟨2, ![4224, 256]⟩
abbrev S256x1024 : Shape := ⟨2, ![256, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S4112x1024, .f32⟩
  | .hbm, ⟨3, _⟩ => ⟨S4112x2816, .f32⟩
  | .hbm, ⟨4, _⟩ => ⟨S4112x2816, .f32⟩
  | .hbm, ⟨5, _⟩ => ⟨S_, .f32⟩
  | .hbm, ⟨6, _⟩ => ⟨S4112x2816, .f32⟩
  | .hbm, ⟨7, _⟩ => ⟨S4112x2816, .f32⟩
  | .hbm, ⟨8, _⟩ => ⟨S_, .f32⟩
  | .hbm, ⟨9, _⟩ => ⟨S4112x2816, .f32⟩
  | .hbm, ⟨10, _⟩ => ⟨S4112x2816, .f32⟩
  | .hbm, ⟨11, _⟩ => ⟨S4112x2816, .f32⟩
  | .hbm, ⟨12, _⟩ => ⟨S4112x2816, .f32⟩
  | .hbm, ⟨13, _⟩ => ⟨S_, .i32⟩
  | .hbm, ⟨14, _⟩ => ⟨S_, .f32⟩
  | .hbm, ⟨15, _⟩ => ⟨S4224x2816, .f32⟩
  | .hbm, ⟨16, _⟩ => ⟨S4224x2816, .bf16⟩
  | .hbm, ⟨17, _⟩ => ⟨S_, .i32⟩
  | .hbm, ⟨18, _⟩ => ⟨S_, .f32⟩
  | .hbm, ⟨19, _⟩ => ⟨S4224x1024, .f32⟩
  | .hbm, ⟨20, _⟩ => ⟨S4224x1024, .bf16⟩
  | .hbm, ⟨21, _⟩ => ⟨S2816x1024, .bf16⟩
  | .local _ .vmem, ⟨0, _⟩ => ⟨S4224x256, .bf16⟩
  | .local _ .vmem, ⟨1, _⟩ => ⟨S4224x256, .bf16⟩
  | .local _ .vmem, ⟨2, _⟩ => ⟨S4224x1024, .bf16⟩
  | .local _ .vmem, ⟨3, _⟩ => ⟨S256x1024, .bf16⟩
  | .local _ .vmem, ⟨4, _⟩ => ⟨S256x1024, .bf16⟩
  | _, _ => ⟨S4112x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4112x2816 : Shape := ⟨2, ![4112, 2816]⟩
abbrev S4112x1024 : Shape := ⟨2, ![4112, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S4112x2816, .f32⟩
  | .hbm, ⟨1, _⟩ => ⟨S4112x2816, .f32⟩
  | .hbm, ⟨2, _⟩ => ⟨S4112x1024, .f32⟩
  | .hbm, ⟨3, _⟩ => ⟨S_, .f32⟩
  | .hbm, ⟨4, _⟩ => ⟨S2816x1024, .f32⟩
  | .hbm, ⟨5, _⟩ => ⟨S4112x2816, .f32⟩
  | .hbm, ⟨6, _⟩ => ⟨S4112x2816, .f32⟩
  | .hbm, ⟨7, _⟩ => ⟨S_, .f32⟩
  | .hbm, ⟨8, _⟩ => ⟨S4112x2816, .f32⟩
  | .hbm, ⟨9, _⟩ => ⟨S4112x2816, .f32⟩
  | .hbm, ⟨10, _⟩ => ⟨S_, .f32⟩
  | .hbm, ⟨11, _⟩ => ⟨S4112x2816, .f32⟩
  | .hbm, ⟨12, _⟩ => ⟨S4112x2816, .f32⟩
  | .hbm, ⟨13, _⟩ => ⟨S4112x2816, .f32⟩
  | .hbm, ⟨14, _⟩ => ⟨S4112x2816, .f32⟩
  | .hbm, ⟨15, _⟩ => ⟨S4112x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | _, _ => ⟨S4112x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel5.lean ====
abbrev S4112x1024 : Shape := ⟨2, ![4112, 1024]⟩
abbrev S1024 : Shape := ⟨1, ![1024]⟩
abbrev S1024x2816 : Shape := ⟨2, ![1024, 2816]⟩
abbrev S2816x1024 : Shape := ⟨2, ![2816, 1024]⟩
abbrev S5632x1024 : Shape := ⟨2, ![5632, 1024]⟩
abbrev S_ : Shape := ⟨0, ![]⟩
abbrev S4224x1024 : Shape := ⟨2, ![4224, 1024]⟩
abbrev S1x1024 : Shape := ⟨2, ![1, 1024]⟩
abbrev S4224x2816 : Shape := ⟨2, ![4224, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S384x5632 : Shape := ⟨2, ![384, 5632]⟩

abbrev nBuf : Space → Nat
  | .hbm => 16
  | .vmem => 12
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S5632x1024, .f32⟩
  | .hbm, ⟨7, _⟩ => ⟨S5632x1024, .bf16⟩
  | .hbm, ⟨8, _⟩ => ⟨S_, .i32⟩
  | .hbm, ⟨9, _⟩ => ⟨S_, .f32⟩
  | .hbm, ⟨10, _⟩ => ⟨S4224x1024, .f32⟩
  | .hbm, ⟨11, _⟩ => ⟨S1x1024, .f32⟩
  | .hbm, ⟨12, _⟩ => ⟨S4224x1024, .bf16⟩
  | .hbm, ⟨13, _⟩ => ⟨S4224x2816, .bf16⟩
  | .hbm, ⟨14, _⟩ => ⟨S4224x2816, .bf16⟩
  | .hbm, ⟨15, _⟩ => ⟨S4224x2816, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S5632x1024, .bf16⟩
  | .local _ .vmem, ⟨4, _⟩ => ⟨S384x1024, .bf16⟩
  | .local _ .vmem, ⟨5, _⟩ => ⟨S384x1024, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | .local _ .vmem, ⟨10, _⟩ => ⟨S384x2816, .bf16⟩
  | .local _ .vmem, ⟨11, _⟩ => ⟨S384x2816, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4112x1024 : Shape := ⟨2, ![4112, 1024]⟩
abbrev S1024 : Shape := ⟨1, ![1024]⟩
abbrev S1024x2816 : Shape := ⟨2, ![1024, 2816]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x2816 : Shape := ⟨2, ![4112, 2816]⟩
abbrev S4224x1024 : Shape := ⟨2, ![4224, 1024]⟩
abbrev S4224x2816 : Shape := ⟨2, ![4224, 2816]⟩

abbrev nBuf : Space → Nat
  | .hbm => 48
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4112x1024, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x1024, .f32⟩
  | .hbm, ⟨16, _⟩ => ⟨S4112x1024, .f32⟩
  | .hbm, ⟨17, _⟩ => ⟨S1x1024, .f32⟩
  | .hbm, ⟨18, _⟩ => ⟨S4112x1024, .f32⟩
  | .hbm, ⟨19, _⟩ => ⟨S4112x1024, .f32⟩
  | .hbm, ⟨20, _⟩ => ⟨S4112x2816, .f32⟩
  | .hbm, ⟨21, _⟩ => ⟨S4112x2816, .f32⟩
  | .hbm, ⟨22, _⟩ => ⟨S4112x2816, .f32⟩
  | .hbm, ⟨23, _⟩ => ⟨S4112x2816, .f32⟩
  | .hbm, ⟨24, _⟩ => ⟨S_, .f32⟩
  | .hbm, ⟨25, _⟩ => ⟨S4112x2816, .f32⟩
  | .hbm, ⟨26, _⟩ => ⟨S4112x2816, .f32⟩
  | .hbm, ⟨27, _⟩ => ⟨S_, .f32⟩
  | .hbm, ⟨28, _⟩ => ⟨S4112x2816, .f32⟩
  | .hbm, ⟨29, _⟩ => ⟨S4112x2816, .f32⟩
  | .hbm, ⟨30, _⟩ => ⟨S4112x2816, .f32⟩
  | .hbm, ⟨31, _⟩ => ⟨S4112x2816, .f32⟩
  | .hbm, ⟨32, _⟩ => ⟨S_, .i32⟩
  | .hbm, ⟨33, _⟩ => ⟨S_, .f32⟩
  | .hbm, ⟨34, _⟩ => ⟨S4224x1024, .f32⟩
  | .hbm, ⟨35, _⟩ => ⟨S4224x1024, .bf16⟩
  | .hbm, ⟨36, _⟩ => ⟨S_, .i32⟩
  | .hbm, ⟨37, _⟩ => ⟨S_, .f32⟩
  | .hbm, ⟨38, _⟩ => ⟨S4224x2816, .f32⟩
  | .hbm, ⟨39, _⟩ => ⟨S4224x2816, .bf16⟩
  | .hbm, ⟨40, _⟩ => ⟨S_, .i32⟩
  | .hbm, ⟨41, _⟩ => ⟨S_, .f32⟩
  | .hbm, ⟨42, _⟩ => ⟨S4224x2816, .f32⟩
  | .hbm, ⟨43, _⟩ => ⟨S4224x2816, .bf16⟩
  | .hbm, ⟨44, _⟩ => ⟨S_, .i32⟩
  | .hbm, ⟨45, _⟩ => ⟨S_, .f32⟩
  | .hbm, ⟨46, _⟩ => ⟨S4224x2816, .f32⟩
  | .hbm, ⟨47, _⟩ => ⟨S4224x2816, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_call3_v0 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_call4_v0 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== Kernel6.lean ====
abbrev S4112x2816 : Shape := ⟨2, ![4112, 2816]⟩
abbrev S2816x1024 : Shape := ⟨2, ![2816, 1024]⟩
abbrev S4112x1024 : Shape := ⟨2, ![4112, 1024]⟩
abbrev S1024 : Shape := ⟨1, ![1024]⟩
abbrev S_ : Shape := ⟨0, ![]⟩
abbrev S4224x2816 : Shape := ⟨2, ![4224, 2816]⟩
abbrev S4224x1024 : Shape := ⟨2, ![4224, 1024]⟩
abbrev S1x1024 : Shape := ⟨2, ![1, 1024]⟩
abbrev S384x2816 : Shape := ⟨2, ![384, 2816]⟩
abbrev S384x1024 : Shape := ⟨2, ![384, 1024]⟩
abbrev S384 : Shape := ⟨1, ![384]⟩
abbrev S384x1 : Shape := ⟨2, ![384, 1]⟩

abbrev nBuf : Space → Nat
  | .hbm => 15
  | .vmem => 10
  | .smem => 0
  | _ => 0

abbrev bufTy : (tb : Table) → Fin (tcTables nBuf tb) → BufTy
  | .hbm, ⟨0, _⟩ => ⟨S4112x2816, .f32⟩
  | .hbm, ⟨1, _⟩ => ⟨S2816x1024, .f32⟩
  | .hbm, ⟨2, _⟩ => ⟨S4112x1024, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S4224x2816, .f32⟩
  | .hbm, ⟨7, _⟩ => ⟨S4224x2816, .bf16⟩
  | .hbm, ⟨8, _⟩ => ⟨S2816x1024, .bf16⟩
  | .hbm, ⟨9, _⟩ => ⟨S_, .i32⟩
  | .hbm, ⟨10, _⟩ => ⟨S_, .f32⟩
  | .hbm, ⟨11, _⟩ => ⟨S4224x1024, .f32⟩
  | .hbm, ⟨12, _⟩ => ⟨S1x1024, .f32⟩
  | .hbm, ⟨13, _⟩ => ⟨S4224x1024, .f32⟩
  | .hbm, ⟨14, _⟩ => ⟨S4224x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | _, _ => ⟨S4112x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4112x2816 : Shape := ⟨2, ![4112, 2816]⟩
abbrev S2816x1024 : Shape := ⟨2, ![2816, 1024]⟩
abbrev S4112x1024 : Shape := ⟨2, ![4112, 1024]⟩
abbrev S1024 : Shape := ⟨1, ![1024]⟩
abbrev S_ : Shape := ⟨0, ![]⟩
abbrev S4224x1024 : Shape := ⟨2, ![4224, 1024]⟩
abbrev S4112 : Shape := ⟨1, ![4112]⟩
abbrev S4112x1 : Shape := ⟨2, ![4112, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4112x2816, .f32⟩
  | .hbm, ⟨1, _⟩ => ⟨S2816x1024, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S4112x1024, .f32⟩
  | .hbm, ⟨9, _⟩ => ⟨S_, .f32⟩
  | .hbm, ⟨10, _⟩ => ⟨S4112, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S4112x1024, .f32⟩
  | .hbm, ⟨20, _⟩ => ⟨S4112x1024, .f32⟩
  | .hbm, ⟨21, _⟩ => ⟨S1x1024, .f32⟩
  | .hbm, ⟨22, _⟩ => ⟨S4112x1024, .f32⟩
  | .hbm, ⟨23, _⟩ => ⟨S4112x1024, .f32⟩
  | .hbm, ⟨24, _⟩ => ⟨S_, .f32⟩
  | .hbm, ⟨25, _⟩ => ⟨S4112x1024, .f32⟩
  | .hbm, ⟨26, _⟩ => ⟨S4112x1024, .f32⟩
  | .hbm, ⟨27, _⟩ => ⟨S4112x1024, .f32⟩
  | .hbm, ⟨28, _⟩ => ⟨S_, .i32⟩
  | .hbm, ⟨29, _⟩ => ⟨S_, .f32⟩
  | .hbm, ⟨30, _⟩ => ⟨S4224x1024, .f32⟩
  | _, _ => ⟨S4112x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_call1_v0 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel7.lean ====
abbrev S4112x3200 : Shape := ⟨2, ![4112, 3200]⟩
abbrev S4x1536 : Shape := ⟨2, ![4, 1536]⟩
abbrev S4112x1536 : Shape := ⟨2, ![4112, 1536]⟩
abbrev S4224x3200 : Shape := ⟨2, ![4224, 3200]⟩
abbrev S_ : Shape := ⟨0, ![]⟩
abbrev S4224x1536 : Shape := ⟨2, ![4224, 1536]⟩
abbrev S384x512 : Shape := ⟨2, ![384, 512]⟩
abbrev S8x512 : Shape := ⟨2, ![8, 512]⟩
abbrev S4x512 : Shape := ⟨2, ![4, 512]⟩
abbrev S392x512 : Shape := ⟨2, ![392, 512]⟩
abbrev S1x512 : Shape := ⟨2, ![1, 512]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S4112x3200, .f32⟩
  | .hbm, ⟨1, _⟩ => ⟨S4x1536, .f32⟩
  | .hbm, ⟨2, _⟩ => ⟨S4112x1536, .f32⟩
  | .hbm, ⟨3, _⟩ => ⟨S4224x3200, .f32⟩
  | .hbm, ⟨4, _⟩ => ⟨S_, .i32⟩
  | .hbm, ⟨5, _⟩ => ⟨S_, .f32⟩
  | .hbm, ⟨6, _⟩ => ⟨S4224x3200, .f32⟩
  | .hbm, ⟨7, _⟩ => ⟨S_, .i32⟩
  | .hbm, ⟨8, _⟩ => ⟨S_, .f32⟩
  | .hbm, ⟨9, _⟩ => ⟨S4224x1536, .f32⟩
  | .hbm, ⟨10, _⟩ => ⟨S4224x3200, .bf16⟩
  | .hbm, ⟨11, _⟩ => ⟨S4224x3200, .bf16⟩
  | .hbm, ⟨12, _⟩ => ⟨S4x1536, .f32⟩
  | .local _ .vmem, ⟨0, _⟩ => ⟨S384x512, .f32⟩
  | .local _ .vmem, ⟨1, _⟩ => ⟨S384x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S384x512, .f32⟩
  | .local _ .vmem, ⟨7, _⟩ => ⟨S384x512, .f32⟩
  | .local _ .vmem, ⟨8, _⟩ => ⟨S8x512, .f32⟩
  | .local _ .vmem, ⟨9, _⟩ => ⟨S8x512, .f32⟩
  | .local _ .vmem, ⟨10, _⟩ => ⟨S384x512, .bf16⟩
  | .local _ .vmem, ⟨11, _⟩ => ⟨S384x512, .bf16⟩
  | .local _ .vmem, ⟨12, _⟩ => ⟨S4x512, .f32⟩
  | .local _ .vmem, ⟨13, _⟩ => ⟨S4x512, .f32⟩
  | .local _ .vmem, ⟨14, _⟩ => ⟨S392x512, .f32⟩
  | .local _ .vmem, ⟨15, _⟩ => ⟨S392x512, .f32⟩
  | _, _ => ⟨S4112x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c527_i32 : BitVec 32 := 527#32
  let v2 : BitVec 32 := Scalar.minsi v1 c527_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S4112x3200 : Shape := ⟨2, ![4112, 3200]⟩
abbrev S4x1536 : Shape := ⟨2, ![4, 1536]⟩
abbrev S4112x1536 : Shape := ⟨2, ![4112, 1536]⟩
abbrev S4224x3200 : Shape := ⟨2, ![4224, 3200]⟩
abbrev S_ : Shape := ⟨0, ![]⟩
abbrev S4224x1536 : Shape := ⟨2, ![4224, 1536]⟩
abbrev S3x1536 : Shape := ⟨2, ![3, 1536]⟩
abbrev S4227x1536 : Shape := ⟨2, ![4227, 1536]⟩
abbrev S1x1536 : Shape := ⟨2, ![1, 1536]⟩
abbrev S1536 : Shape := ⟨1, ![1536]⟩
abbrev S4224x1024 : Shape := ⟨2, ![4224, 1024]⟩
abbrev S4224x640 : Shape := ⟨2, ![4224, 640]⟩

abbrev nBuf : Space → Nat
  | .hbm => 110
  | .vmem => 0
  | .smem => 0
  | _ => 0

abbrev bufTy : (tb : Table) → Fin (tcTables nBuf tb) → BufTy
  | .hbm, ⟨0, _⟩ => ⟨S4112x3200, .f32⟩
  | .hbm, ⟨1, _⟩ => ⟨S4x1536, .f32⟩
  | .hbm, ⟨2, _⟩ => ⟨S4112x1536, .f32⟩
  | .hbm, ⟨3, _⟩ => ⟨S4224x3200, .f32⟩
  | .hbm, ⟨4, _⟩ => ⟨S_, .i32⟩
  | .hbm, ⟨5, _⟩ => ⟨S_, .f32⟩
  | .hbm, ⟨6, _⟩ => ⟨S4224x3200, .f32⟩
  | .hbm, ⟨7, _⟩ => ⟨S4224x1536, .f32⟩
  | .hbm, ⟨8, _⟩ => ⟨S_, .f32⟩
  | .hbm, ⟨9, _⟩ => ⟨S3x1536, .f32⟩
  | .hbm, ⟨10, _⟩ => ⟨S4227x1536, .f32⟩
  | .hbm, ⟨11, _⟩ => ⟨S_, .f32⟩
  | .hbm, ⟨12, _⟩ => ⟨S3x1536, .f32⟩
  | .hbm, ⟨13, _⟩ => ⟨S1x1536, .f32⟩
  | .hbm, ⟨14, _⟩ => ⟨S1536, .f32⟩
  | .hbm, ⟨15, _⟩ => ⟨S4224x1536, .f32⟩
  | .hbm, ⟨16, _⟩ => ⟨S1x1536, .f32⟩
  | .hbm, ⟨17, _⟩ => ⟨S4224x1536, .f32⟩
  | .hbm, ⟨18, _⟩ => ⟨S4224x1536, .f32⟩
  | .hbm, ⟨19, _⟩ => ⟨S_, .f32⟩
  | .hbm, ⟨20, _⟩ => ⟨S4224x1536, .f32⟩
  | .hbm, ⟨21, _⟩ => ⟨S4224x1536, .f32⟩
  | .hbm, ⟨22, _⟩ => ⟨S1x1536, .f32⟩
  | .hbm, ⟨23, _⟩ => ⟨S1536, .f32⟩
  | .hbm, ⟨24, _⟩ => ⟨S4224x1536, .f32⟩
  | .hbm, ⟨25, _⟩ => ⟨S1x1536, .f32⟩
  | .hbm, ⟨26, _⟩ => ⟨S4224x1536, .f32⟩
  | .hbm, ⟨27, _⟩ => ⟨S4224x1536, .f32⟩
  | .hbm, ⟨28, _⟩ => ⟨S4224x1536, .f32⟩
  | .hbm, ⟨29, _⟩ => ⟨S1x1536, .f32⟩
  | .hbm, ⟨30, _⟩ => ⟨S1536, .f32⟩
  | .hbm, ⟨31, _⟩ => ⟨S4224x1536, .f32⟩
  | .hbm, ⟨32, _⟩ => ⟨S1x1536, .f32⟩
  | .hbm, ⟨33, _⟩ => ⟨S4224x1536, .f32⟩
  | .hbm, ⟨34, _⟩ => ⟨S4224x1536, .f32⟩
  | .hbm, ⟨35, _⟩ => ⟨S4224x1536, .f32⟩
  | .hbm, ⟨36, _⟩ => ⟨S1x1536, .f32⟩
  | .hbm, ⟨37, _⟩ => ⟨S1536, .f32⟩
  | .hbm, ⟨38, _⟩ => ⟨S4224x1536, .f32⟩
  | .hbm, ⟨39, _⟩ => ⟨S1x1536, .f32⟩
  | .hbm, ⟨40, _⟩ => ⟨S4224x1536, .f32⟩
  | .hbm, ⟨41, _⟩ => ⟨S4224x1536, .f32⟩
  | .hbm, ⟨42, _⟩ => ⟨S4224x1536, .f32⟩
  | .hbm, ⟨43, _⟩ => ⟨S_, .i32⟩
  | .hbm, ⟨44, _⟩ => ⟨S_, .f32⟩
  | .hbm, ⟨45, _⟩ => ⟨S4224x1536, .f32⟩
  | .hbm, ⟨46, _⟩ => ⟨S4224x1536, .f32⟩
  | .hbm, ⟨47, _⟩ => ⟨S4224x1536, .f32⟩
  | .hbm, ⟨48, _⟩ => ⟨S4224x1536, .f32⟩
  | .hbm, ⟨49, _⟩ => ⟨S_, .f32⟩
  | .hbm, ⟨50, _⟩ => ⟨S1536, .f32⟩
  | .hbm, ⟨51, _⟩ => ⟨S1x1536, .f32⟩
  | .hbm, ⟨52, _⟩ => ⟨S_, .f32⟩
  | .hbm, ⟨53, _⟩ => ⟨S1536, .f32⟩
  | .hbm, ⟨54, _⟩ => ⟨S_, .f32⟩
  | .hbm, ⟨55, _⟩ => ⟨S4227x1536, .f32⟩
  | .hbm, ⟨56, _⟩ => ⟨S1x1536, .f32⟩
  | .hbm, ⟨57, _⟩ => ⟨S_, .f32⟩
  | .hbm, ⟨58, _⟩ => ⟨S4x1536, .f32⟩
  | .hbm, ⟨59, _⟩ => ⟨S4224x1536, .f32⟩
  | .hbm, ⟨60, _⟩ => ⟨S4224x1536, .f32⟩
  | .hbm, ⟨61, _⟩ => ⟨S4224x1536, .f32⟩
  | .hbm, ⟨62, _⟩ => ⟨S_, .f32⟩
  | .hbm, ⟨63, _⟩ => ⟨S1536, .f32⟩
  | .hbm, ⟨64, _⟩ => ⟨S1x1536, .f32⟩
  | .hbm, ⟨65, _⟩ => ⟨S_, .f32⟩
  | .hbm, ⟨66, _⟩ => ⟨S1536, .f32⟩
  | .hbm, ⟨67, _⟩ => ⟨S_, .f32⟩
  | .hbm, ⟨68, _⟩ => ⟨S4227x1536, .f32⟩
  | .hbm, ⟨69, _⟩ => ⟨S4227x1536, .f32⟩
  | .hbm, ⟨70, _⟩ => ⟨S1x1536, .f32⟩
  | .hbm, ⟨71, _⟩ => ⟨S_, .f32⟩
  | .hbm, ⟨72, _⟩ => ⟨S4x1536, .f32⟩
  | .hbm, ⟨73, _⟩ => ⟨S4x1536, .f32⟩
  | .hbm, ⟨74, _⟩ => ⟨S4224x1536, .f32⟩
  | .hbm, ⟨75, _⟩ => ⟨S4224x1536, .f32⟩
  | .hbm, ⟨76, _⟩ => ⟨S4224x1536, .f32⟩
  | .hbm, ⟨77, _⟩ => ⟨S_, .f32⟩
  | .hbm, ⟨78, _⟩ => ⟨S1536, .f32⟩
  | .hbm, ⟨79, _⟩ => ⟨S1x1536, .f32⟩
  | .hbm, ⟨80, _⟩ => ⟨S_, .f32⟩
  | .hbm, ⟨81, _⟩ => ⟨S1536, .f32⟩
  | .hbm, ⟨82, _⟩ => ⟨S_, .f32⟩
  | .hbm, ⟨83, _⟩ => ⟨S4227x1536, .f32⟩
  | .hbm, ⟨84, _⟩ => ⟨S4227x1536, .f32⟩
  | .hbm, ⟨85, _⟩ => ⟨S1x1536, .f32⟩
  | .hbm, ⟨86, _⟩ => ⟨S_, .f32⟩
  | .hbm, ⟨87, _⟩ => ⟨S4x1536, .f32⟩
  | .hbm, ⟨88, _⟩ => ⟨S4x1536, .f32⟩
  | .hbm, ⟨89, _⟩ => ⟨S4224x1536, .f32⟩
  | .hbm, ⟨90, _⟩ => ⟨S4224x1536, .f32⟩
  | .hbm, ⟨91, _⟩ => ⟨S4224x1536, .f32⟩
  | .hbm, ⟨92, _⟩ => ⟨S_, .f32⟩
  | .hbm, ⟨93, _⟩ => ⟨S1536, .f32⟩
  | .hbm, ⟨94, _⟩ => ⟨S1x1536, .f32⟩
  | .hbm, ⟨95, _⟩ => ⟨S_, .f32⟩
  | .hbm, ⟨96, _⟩ => ⟨S1536, .f32⟩
  | .hbm, ⟨97, _⟩ => ⟨S_, .f32⟩
  | .hbm, ⟨98, _⟩ => ⟨S4227x1536, .f32⟩
  | .hbm, ⟨99, _⟩ => ⟨S4227x1536, .f32⟩
  | .hbm, ⟨100, _⟩ => ⟨S1x1536, .f32⟩
  | .hbm, ⟨101, _⟩ => ⟨S_, .f32⟩
  | .hbm, ⟨102, _⟩ => ⟨S4x1536, .f32⟩
  | .hbm, ⟨103, _⟩ => ⟨S4x1536, .f32⟩
  | .hbm, ⟨104, _⟩ => ⟨S3x1536, .f32⟩
  | .hbm, ⟨105, _⟩ => ⟨S4224x1536, .f32⟩
  | .hbm, ⟨106, _⟩ => ⟨S4224x1024, .f32⟩
  | .hbm, ⟨107, _⟩ => ⟨S4224x640, .f32⟩
  | .hbm, ⟨108, _⟩ => ⟨S4224x3200, .f32⟩
  | .hbm, ⟨109, _⟩ => ⟨S4224x3200, .bf16⟩
  | _, _ => ⟨S4112x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_call1_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Kernel8.lean ====
abbrev S4112x1024 : Shape := ⟨2, ![4112, 1024]⟩
abbrev S1024x1024 : Shape := ⟨2, ![1024, 1024]⟩
abbrev S1024 : Shape := ⟨1, ![1024]⟩
abbrev S_ : Shape := ⟨0, ![]⟩
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 16
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S1024, .f32⟩
  | .hbm, ⟨3, _⟩ => ⟨S4112x1024, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S_, .i32⟩
  | .hbm, ⟨9, _⟩ => ⟨S_, .f32⟩
  | .hbm, ⟨10, _⟩ => ⟨S4224x1024, .f32⟩
  | .hbm, ⟨11, _⟩ => ⟨S1x1024, .f32⟩
  | .hbm, ⟨12, _⟩ => ⟨S1024x1024, .bf16⟩
  | .hbm, ⟨13, _⟩ => ⟨S4224x1024, .bf16⟩
  | .hbm, ⟨14, _⟩ => ⟨S1x1024, .f32⟩
  | .hbm, ⟨15, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1024x1024, .bf16⟩
  | .local _ .vmem, ⟨6, _⟩ => ⟨S384x1024, .bf16⟩
  | .local _ .vmem, ⟨7, _⟩ => ⟨S384x1024, .bf16⟩
  | .local _ .vmem, ⟨8, _⟩ => ⟨S1x1024, .f32⟩
  | .local _ .vmem, ⟨9, _⟩ => ⟨S384x1024, .f32⟩
  | .local _ .vmem, ⟨10, _⟩ => ⟨S384x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4112x1024 : Shape := ⟨2, ![4112, 1024]⟩
abbrev S1024x1024 : Shape := ⟨2, ![1024, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S1024, .f32⟩
  | .hbm, ⟨3, _⟩ => ⟨S4112x1024, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4112x1024, .f32⟩
  | .hbm, ⟨30, _⟩ => ⟨S4112x1024, .f32⟩
  | .hbm, ⟨31, _⟩ => ⟨S_, .f32⟩
  | .hbm, ⟨32, _⟩ => ⟨S1024, .f32⟩
  | .hbm, ⟨33, _⟩ => ⟨S4112x1024, .f32⟩
  | .hbm, ⟨34, _⟩ => ⟨S_, .f32⟩
  | .hbm, ⟨35, _⟩ => ⟨S4112, .f32⟩
  | .hbm, ⟨36, _⟩ => ⟨S4112x1, .f32⟩
  | .hbm, ⟨37, _⟩ => ⟨S4112x1024, .f32⟩
  | .hbm, ⟨38, _⟩ => ⟨S4112x1024, .f32⟩
  | .hbm, ⟨39, _⟩ => ⟨S4112x1, .f32⟩
  | .hbm, ⟨40, _⟩ => ⟨S_, .f32⟩
  | .hbm, ⟨41, _⟩ => ⟨S4112x1, .f32⟩
  | .hbm, ⟨42, _⟩ => ⟨S4112x1, .f32⟩
  | .hbm, ⟨43, _⟩ => ⟨S_, .f32⟩
  | .hbm, ⟨44, _⟩ => ⟨S4112, .f32⟩
  | .hbm, ⟨45, _⟩ => ⟨S4112x1024, .f32⟩
  | .hbm, ⟨46, _⟩ => ⟨S4112x1024, .f32⟩
  | .hbm, ⟨47, _⟩ => ⟨S4112x1024, .f32⟩
  | .hbm, ⟨48, _⟩ => ⟨S4112x1024, .f32⟩
  | .hbm, ⟨49, _⟩ => ⟨S4112x1024, .f32⟩
  | .hbm, ⟨50, _⟩ => ⟨S_, .i32⟩
  | .hbm, ⟨51, _⟩ => ⟨S_, .f32⟩
  | .hbm, ⟨52, _⟩ => ⟨S4224x1024, .f32⟩
  | .hbm, ⟨53, _⟩ => ⟨S4224x1024, .bf16⟩
  | .hbm, ⟨54, _⟩ => ⟨S1x1024, .f32⟩
  | .hbm, ⟨55, _⟩ => ⟨S4112x1024, .f32⟩
  | .hbm, ⟨56, _⟩ => ⟨S_, .i32⟩
  | .hbm, ⟨57, _⟩ => ⟨S_, .f32⟩
  | .hbm, ⟨58, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_call1_v0 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel9.lean ====
abbrev S4112x1024 : Shape := ⟨2, ![4112, 1024]⟩
abbrev S1024 : Shape := ⟨1, ![1024]⟩
abbrev S1024x3200 : Shape := ⟨2, ![1024, 3200]⟩
abbrev S4112x3200 : Shape := ⟨2, ![4112, 3200]⟩
abbrev S_ : Shape := ⟨0, ![]⟩
abbrev S4224x3200 : Shape := ⟨2, ![4224, 3200]⟩
abbrev S3200x1024 : Shape := ⟨2, ![3200, 1024]⟩
abbrev S4224x1024 : Shape := ⟨2, ![4224, 1024]⟩
abbrev S1x1024 : Shape := ⟨2, ![1, 1024]⟩
abbrev S384x3200 : Shape := ⟨2, ![384, 3200]⟩
abbrev S384x1024 : Shape := ⟨2, ![384, 1024]⟩
abbrev S384 : Shape := ⟨1, ![384]⟩
abbrev S384x1 : Shape := ⟨2, ![384, 1]⟩

abbrev nBuf : Space → Nat
  | .hbm => 20
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3200, .f32⟩
  | .hbm, ⟨3, _⟩ => ⟨S4112x1024, .f32⟩
  | .hbm, ⟨4, _⟩ => ⟨S4112x3200, .f32⟩
  | .hbm, ⟨5, _⟩ => ⟨S_, .i32⟩
  | .hbm, ⟨6, _⟩ => ⟨S_, .f32⟩
  | .hbm, ⟨7, _⟩ => ⟨S4224x3200, .f32⟩
  | .hbm, ⟨8, _⟩ => ⟨S4224x3200, .bf16⟩
  | .hbm, ⟨9, _⟩ => ⟨S3200x1024, .f32⟩
  | .hbm, ⟨10, _⟩ => ⟨S3200x1024, .bf16⟩
  | .hbm, ⟨11, _⟩ => ⟨S_, .i32⟩
  | .hbm, ⟨12, _⟩ => ⟨S_, .f32⟩
  | .hbm, ⟨13, _⟩ => ⟨S4224x1024, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S4224x1024, .f32⟩
  | .hbm, ⟨18, _⟩ => ⟨S4224x1024, .f32⟩
  | .hbm, ⟨19, _⟩ => ⟨S1x1024, .f32⟩
  | .local _ .vmem, ⟨0, _⟩ => ⟨S384x3200, .bf16⟩
  | .local _ .vmem, ⟨1, _⟩ => ⟨S384x3200, .bf16⟩
  | .local _ .vmem, ⟨2, _⟩ => ⟨S3200x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4112x1024 : Shape := ⟨2, ![4112, 1024]⟩
abbrev S1024 : Shape := ⟨1, ![1024]⟩
abbrev S1024x3200 : Shape := ⟨2, ![1024, 3200]⟩
abbrev S4112x3200 : Shape := ⟨2, ![4112, 3200]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3200, .f32⟩
  | .hbm, ⟨3, _⟩ => ⟨S4112x1024, .f32⟩
  | .hbm, ⟨4, _⟩ => ⟨S4112x3200, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x3200, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1, .f32⟩
  | .hbm, ⟨43, _⟩ => ⟨S_, .f32⟩
  | .hbm, ⟨44, _⟩ => ⟨S4112x1, .f32⟩
  | .hbm, ⟨45, _⟩ => ⟨S4112x1, .f32⟩
  | .hbm, ⟨46, _⟩ => ⟨S_, .f32⟩
  | .hbm, ⟨47, _⟩ => ⟨S4112, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S_, .i32⟩
  | .hbm, ⟨54, _⟩ => ⟨S_, .f32⟩
  | .hbm, ⟨55, _⟩ => ⟨S4224x1024, .f32⟩
  | .hbm, ⟨56, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel10.lean ====
abbrev S4112x1024 : Shape := ⟨2, ![4112, 1024]⟩
abbrev S1024 : Shape := ⟨1, ![1024]⟩
abbrev S4112x3200 : Shape := ⟨2, ![4112, 3200]⟩
abbrev S_ : Shape := ⟨0, ![]⟩
abbrev S4224x3200 : Shape := ⟨2, ![4224, 3200]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩
abbrev S3200x1024 : Shape := ⟨2, ![3200, 1024]⟩
abbrev S4224x640 : Shape := ⟨2, ![4224, 640]⟩
abbrev S640x1024 : Shape := ⟨2, ![640, 1024]⟩

abbrev nBuf : Space → Nat
  | .hbm => 28
  | .vmem => 5
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4112x3200, .f32⟩
  | .hbm, ⟨3, _⟩ => ⟨S_, .i32⟩
  | .hbm, ⟨4, _⟩ => ⟨S_, .f32⟩
  | .hbm, ⟨5, _⟩ => ⟨S4224x3200, .f32⟩
  | .hbm, ⟨6, _⟩ => ⟨S4224x3200, .bf16⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S1x1024, .f32⟩
  | .hbm, ⟨21, _⟩ => ⟨S4112x1024, .f32⟩
  | .hbm, ⟨22, _⟩ => ⟨S4112x1024, .f32⟩
  | .hbm, ⟨23, _⟩ => ⟨S_, .i32⟩
  | .hbm, ⟨24, _⟩ => ⟨S_, .f32⟩
  | .hbm, ⟨25, _⟩ => ⟨S4224x1024, .f32⟩
  | .hbm, ⟨26, _⟩ => ⟨S4224x1024, .bf16⟩
  | .hbm, ⟨27, _⟩ => ⟨S3200x1024, .f32⟩
  | .local _ .vmem, ⟨0, _⟩ => ⟨S4224x640, .bf16⟩
  | .local _ .vmem, ⟨1, _⟩ => ⟨S4224x640, .bf16⟩
  | .local _ .vmem, ⟨2, _⟩ => ⟨S4224x1024, .bf16⟩
  | .local _ .vmem, ⟨3, _⟩ => ⟨S640x1024, .f32⟩
  | .local _ .vmem, ⟨4, _⟩ => ⟨S640x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4112x1024 : Shape := ⟨2, ![4112, 1024]⟩
abbrev S1024 : Shape := ⟨1, ![1024]⟩
abbrev S4112x3200 : Shape := ⟨2, ![4112, 3200]⟩
abbrev S_ : Shape := ⟨0, ![]⟩
abbrev S1024x3200 : Shape := ⟨2, ![1024, 3200]⟩
abbrev S4112 : Shape := ⟨1, ![4112]⟩
abbrev S4112x1 : Shape := ⟨2, ![4112, 1]⟩
abbrev S1x1024 : Shape := ⟨2, ![1, 1024]⟩
abbrev S3200x1024 : Shape := ⟨2, ![3200, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4112x3200, .f32⟩
  | .hbm, ⟨3, _⟩ => ⟨S_, .f32⟩
  | .hbm, ⟨4, _⟩ => ⟨S1024x3200, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1024, .f32⟩
  | .hbm, ⟨17, _⟩ => ⟨S4112x1024, .f32⟩
  | .hbm, ⟨18, _⟩ => ⟨S1x1024, .f32⟩
  | .hbm, ⟨19, _⟩ => ⟨S4112x1024, .f32⟩
  | .hbm, ⟨20, _⟩ => ⟨S4112x1024, .f32⟩
  | .hbm, ⟨21, _⟩ => ⟨S4112x3200, .f32⟩
  | .hbm, ⟨22, _⟩ => ⟨S3200x1024, .f32⟩
  | .hbm, ⟨23, _⟩ => ⟨S1024x3200, .f32⟩
  | .hbm, ⟨24, _⟩ => ⟨S3200x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel11.lean ====
abbrev S4112x1024 : Shape := ⟨2, ![4112, 1024]⟩
abbrev S_ : Shape := ⟨0, ![]⟩
abbrev S4224x1024 : Shape := ⟨2, ![4224, 1024]⟩
abbrev S1024x1024 : Shape := ⟨2, ![1024, 1024]⟩
abbrev S4224x512 : Shape := ⟨2, ![4224, 512]⟩
abbrev S512x1024 : Shape := ⟨2, ![512, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S_, .i32⟩
  | .hbm, ⟨3, _⟩ => ⟨S_, .f32⟩
  | .hbm, ⟨4, _⟩ => ⟨S4224x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S4224x1024, .bf16⟩
  | .hbm, ⟨9, _⟩ => ⟨S1024x1024, .f32⟩
  | .local _ .vmem, ⟨0, _⟩ => ⟨S4224x512, .f32⟩
  | .local _ .vmem, ⟨1, _⟩ => ⟨S4224x512, .f32⟩
  | .local _ .vmem, ⟨2, _⟩ => ⟨S4224x1024, .bf16⟩
  | .local _ .vmem, ⟨3, _⟩ => ⟨S512x1024, .f32⟩
  | .local _ .vmem, ⟨4, _⟩ => ⟨S512x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4112x1024 : Shape := ⟨2, ![4112, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S_, .f32⟩
  | .hbm, ⟨3, _⟩ => ⟨S1024x1024, .f32⟩
  | .hbm, ⟨4, _⟩ => ⟨S4112x1024, .f32⟩
  | .hbm, ⟨5, _⟩ => ⟨S1024x1024, .f32⟩
  | .hbm, ⟨6, _⟩ => ⟨S1024x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4112x1024 : Shape := ⟨2, ![4112, 1024]⟩
abbrev S1024 : Shape := ⟨1, ![1024]⟩
abbrev S1024x3200 : Shape := ⟨2, ![1024, 3200]⟩
abbrev S_ : Shape := ⟨0, ![]⟩
abbrev S4224x1024 : Shape := ⟨2, ![4224, 1024]⟩
abbrev S1x1024 : Shape := ⟨2, ![1, 1024]⟩
abbrev S3200x1024 : Shape := ⟨2, ![3200, 1024]⟩
abbrev S4224x3200 : Shape := ⟨2, ![4224, 3200]⟩
abbrev S384x1024 : Shape := ⟨2, ![384, 1024]⟩
abbrev S384x3200 : Shape := ⟨2, ![384, 3200]⟩
abbrev S384 : Shape := ⟨1, ![384]⟩
abbrev S384x1 : Shape := ⟨2, ![384, 1]⟩

abbrev nBuf : Space → Nat
  | .hbm => 11
  | .vmem => 8
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3200, .f32⟩
  | .hbm, ⟨3, _⟩ => ⟨S_, .i32⟩
  | .hbm, ⟨4, _⟩ => ⟨S_, .f32⟩
  | .hbm, ⟨5, _⟩ => ⟨S4224x1024, .f32⟩
  | .hbm, ⟨6, _⟩ => ⟨S1x1024, .f32⟩
  | .hbm, ⟨7, _⟩ => ⟨S3200x1024, .f32⟩
  | .hbm, ⟨8, _⟩ => ⟨S3200x1024, .bf16⟩
  | .hbm, ⟨9, _⟩ => ⟨S4224x1024, .bf16⟩
  | .hbm, ⟨10, _⟩ => ⟨S4224x3200, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S3200x1024, .bf16⟩
  | .local _ .vmem, ⟨4, _⟩ => ⟨S384x1024, .bf16⟩
  | .local _ .vmem, ⟨5, _⟩ => ⟨S384x1024, .bf16⟩
  | .local _ .vmem, ⟨6, _⟩ => ⟨S384x3200, .f32⟩
  | .local _ .vmem, ⟨7, _⟩ => ⟨S384x3200, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S4112x1024 : Shape := ⟨2, ![4112, 1024]⟩
abbrev S1024 : Shape := ⟨1, ![1024]⟩
abbrev S1024x3200 : Shape := ⟨2, ![1024, 3200]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩
abbrev S4112x3200 : Shape := ⟨2, ![4112, 3200]⟩
abbrev S4224x3200 : Shape := ⟨2, ![4224, 3200]⟩

abbrev nBuf : Space → Nat
  | .hbm => 27
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x3200, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S1x1024, .f32⟩
  | .hbm, ⟨17, _⟩ => ⟨S4112x1024, .f32⟩
  | .hbm, ⟨18, _⟩ => ⟨S4112x1024, .f32⟩
  | .hbm, ⟨19, _⟩ => ⟨S_, .i32⟩
  | .hbm, ⟨20, _⟩ => ⟨S_, .f32⟩
  | .hbm, ⟨21, _⟩ => ⟨S4224x1024, .f32⟩
  | .hbm, ⟨22, _⟩ => ⟨S4224x1024, .bf16⟩
  | .hbm, ⟨23, _⟩ => ⟨S4112x3200, .f32⟩
  | .hbm, ⟨24, _⟩ => ⟨S_, .i32⟩
  | .hbm, ⟨25, _⟩ => ⟨S_, .f32⟩
  | .hbm, ⟨26, _⟩ => ⟨S4224x3200, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call1_v0 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel13.lean ====
abbrev S4112x1024 : Shape := ⟨2, ![4112, 1024]⟩
abbrev S1024x1024 : Shape := ⟨2, ![1024, 1024]⟩
abbrev S1024 : Shape := ⟨1, ![1024]⟩
abbrev S_ : Shape := ⟨0, ![]⟩
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 14
  | .vmem => 10
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S4112x1024, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S4224x1024, .f32⟩
  | .hbm, ⟨7, _⟩ => ⟨S1024x1024, .bf16⟩
  | .hbm, ⟨8, _⟩ => ⟨S_, .i32⟩
  | .hbm, ⟨9, _⟩ => ⟨S_, .f32⟩
  | .hbm, ⟨10, _⟩ => ⟨S4224x1024, .f32⟩
  | .hbm, ⟨11, _⟩ => ⟨S1x1024, .f32⟩
  | .hbm, ⟨12, _⟩ => ⟨S4224x1024, .f32⟩
  | .hbm, ⟨13, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S1024x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4112x1024 : Shape := ⟨2, ![4112, 1024]⟩
abbrev S1024x1024 : Shape := ⟨2, ![1024, 1024]⟩
abbrev S1024 : Shape := ⟨1, ![1024]⟩
abbrev S_ : Shape := ⟨0, ![]⟩
abbrev S4224x1024 : Shape := ⟨2, ![4224, 1024]⟩
abbrev S4112 : Shape := ⟨1, ![4112]⟩
abbrev S4112x1 : Shape := ⟨2, ![4112, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S4112x1024, .f32⟩
  | .hbm, ⟨9, _⟩ => ⟨S_, .f32⟩
  | .hbm, ⟨10, _⟩ => ⟨S4112, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S4112x1024, .f32⟩
  | .hbm, ⟨20, _⟩ => ⟨S4112x1024, .f32⟩
  | .hbm, ⟨21, _⟩ => ⟨S1x1024, .f32⟩
  | .hbm, ⟨22, _⟩ => ⟨S4112x1024, .f32⟩
  | .hbm, ⟨23, _⟩ => ⟨S4112x1024, .f32⟩
  | .hbm, ⟨24, _⟩ => ⟨S4112x1024, .f32⟩
  | .hbm, ⟨25, _⟩ => ⟨S_, .i32⟩
  | .hbm, ⟨26, _⟩ => ⟨S_, .f32⟩
  | .hbm, ⟨27, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel14.lean ====
abbrev S4112x3200 : Shape := ⟨2, ![4112, 3200]⟩
abbrev S4x1536 : Shape := ⟨2, ![4, 1536]⟩
abbrev S_ : Shape := ⟨0, ![]⟩
abbrev S4224x3200 : Shape := ⟨2, ![4224, 3200]⟩
abbrev S4224x1536 : Shape := ⟨2, ![4224, 1536]⟩
abbrev S384x512 : Shape := ⟨2, ![384, 512]⟩
abbrev S8x512 : Shape := ⟨2, ![8, 512]⟩
abbrev S4x512 : Shape := ⟨2, ![4, 512]⟩
abbrev S392x512 : Shape := ⟨2, ![392, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S4112x3200, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S4224x3200, .f32⟩
  | .hbm, ⟨5, _⟩ => ⟨S4224x1536, .f32⟩
  | .local _ .vmem, ⟨0, _⟩ => ⟨S384x512, .f32⟩
  | .local _ .vmem, ⟨1, _⟩ => ⟨S384x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S384x512, .f32⟩
  | .local _ .vmem, ⟨7, _⟩ => ⟨S384x512, .f32⟩
  | .local _ .vmem, ⟨8, _⟩ => ⟨S392x512, .f32⟩
  | _, _ => ⟨S4112x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4112x3200 : Shape := ⟨2, ![4112, 3200]⟩
abbrev S4x1536 : Shape := ⟨2, ![4, 1536]⟩
abbrev S_ : Shape := ⟨0, ![]⟩
abbrev S4224x3200 : Shape := ⟨2, ![4224, 3200]⟩
abbrev S4224x1536 : Shape := ⟨2, ![4224, 1536]⟩
abbrev S3x1536 : Shape := ⟨2, ![3, 1536]⟩
abbrev S4227x1536 : Shape := ⟨2, ![4227, 1536]⟩
abbrev S1x1536 : Shape := ⟨2, ![1, 1536]⟩
abbrev S1536 : Shape := ⟨1, ![1536]⟩

abbrev nBuf : Space → Nat
  | .hbm => 39
  | .vmem => 0
  | .smem => 0
  | _ => 0

abbrev bufTy : (tb : Table) → Fin (tcTables nBuf tb) → BufTy
  | .hbm, ⟨0, _⟩ => ⟨S4112x3200, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S4224x3200, .f32⟩
  | .hbm, ⟨5, _⟩ => ⟨S4224x1536, .f32⟩
  | .hbm, ⟨6, _⟩ => ⟨S_, .f32⟩
  | .hbm, ⟨7, _⟩ => ⟨S3x1536, .f32⟩
  | .hbm, ⟨8, _⟩ => ⟨S4227x1536, .f32⟩
  | .hbm, ⟨9, _⟩ => ⟨S1x1536, .f32⟩
  | .hbm, ⟨10, _⟩ => ⟨S1536, .f32⟩
  | .hbm, ⟨11, _⟩ => ⟨S4224x1536, .f32⟩
  | .hbm, ⟨12, _⟩ => ⟨S1x1536, .f32⟩
  | .hbm, ⟨13, _⟩ => ⟨S4224x1536, .f32⟩
  | .hbm, ⟨14, _⟩ => ⟨S4224x1536, .f32⟩
  | .hbm, ⟨15, _⟩ => ⟨S_, .f32⟩
  | .hbm, ⟨16, _⟩ => ⟨S4224x1536, .f32⟩
  | .hbm, ⟨17, _⟩ => ⟨S4224x1536, .f32⟩
  | .hbm, ⟨18, _⟩ => ⟨S1x1536, .f32⟩
  | .hbm, ⟨19, _⟩ => ⟨S1536, .f32⟩
  | .hbm, ⟨20, _⟩ => ⟨S4224x1536, .f32⟩
  | .hbm, ⟨21, _⟩ => ⟨S1x1536, .f32⟩
  | .hbm, ⟨22, _⟩ => ⟨S4224x1536, .f32⟩
  | .hbm, ⟨23, _⟩ => ⟨S4224x1536, .f32⟩
  | .hbm, ⟨24, _⟩ => ⟨S4224x1536, .f32⟩
  | .hbm, ⟨25, _⟩ => ⟨S1x1536, .f32⟩
  | .hbm, ⟨26, _⟩ => ⟨S1536, .f32⟩
  | .hbm, ⟨27, _⟩ => ⟨S4224x1536, .f32⟩
  | .hbm, ⟨28, _⟩ => ⟨S1x1536, .f32⟩
  | .hbm, ⟨29, _⟩ => ⟨S4224x1536, .f32⟩
  | .hbm, ⟨30, _⟩ => ⟨S4224x1536, .f32⟩
  | .hbm, ⟨31, _⟩ => ⟨S4224x1536, .f32⟩
  | .hbm, ⟨32, _⟩ => ⟨S1x1536, .f32⟩
  | .hbm, ⟨33, _⟩ => ⟨S1536, .f32⟩
  | .hbm, ⟨34, _⟩ => ⟨S4224x1536, .f32⟩
  | .hbm, ⟨35, _⟩ => ⟨S1x1536, .f32⟩
  | .hbm, ⟨36, _⟩ => ⟨S4224x1536, .f32⟩
  | .hbm, ⟨37, _⟩ => ⟨S4224x1536, .f32⟩
  | .hbm, ⟨38, _⟩ => ⟨S4224x1536, .f32⟩
  | _, _ => ⟨S4112x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel15.lean ====
abbrev S4112x512 : Shape := ⟨2, ![4112, 512]⟩
abbrev S1024x1024 : Shape := ⟨2, ![1024, 1024]⟩
abbrev S4112x1024 : Shape := ⟨2, ![4112, 1024]⟩
abbrev S1024 : Shape := ⟨1, ![1024]⟩
abbrev S_ : Shape := ⟨0, ![]⟩
abbrev S4224x512 : Shape := ⟨2, ![4224, 512]⟩
abbrev S4224x1024 : Shape := ⟨2, ![4224, 1024]⟩
abbrev S1x1024 : Shape := ⟨2, ![1, 1024]⟩
abbrev S384x512 : Shape := ⟨2, ![384, 512]⟩
abbrev S384x1024 : Shape := ⟨2, ![384, 1024]⟩
abbrev S512x1024 : Shape := ⟨2, ![512, 1024]⟩
abbrev S384 : Shape := ⟨1, ![384]⟩
abbrev S384x1 : Shape := ⟨2, ![384, 1]⟩

abbrev nBuf : Space → Nat
  | .hbm => 18
  | .vmem => 12
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S1024x1024, .f32⟩
  | .hbm, ⟨3, _⟩ => ⟨S4112x1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S4224x512, .f32⟩
  | .hbm, ⟨8, _⟩ => ⟨S_, .i32⟩
  | .hbm, ⟨9, _⟩ => ⟨S_, .f32⟩
  | .hbm, ⟨10, _⟩ => ⟨S4224x512, .f32⟩
  | .hbm, ⟨11, _⟩ => ⟨S1024x1024, .bf16⟩
  | .hbm, ⟨12, _⟩ => ⟨S_, .i32⟩
  | .hbm, ⟨13, _⟩ => ⟨S_, .f32⟩
  | .hbm, ⟨14, _⟩ => ⟨S4224x1024, .f32⟩
  | .hbm, ⟨15, _⟩ => ⟨S1x1024, .f32⟩
  | .hbm, ⟨16, _⟩ => ⟨S4224x1024, .f32⟩
  | .hbm, ⟨17, _⟩ => ⟨S4224x1024, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4112x512 : Shape := ⟨2, ![4112, 512]⟩
abbrev S1024x1024 : Shape := ⟨2, ![1024, 1024]⟩
abbrev S4112x1024 : Shape := ⟨2, ![4112, 1024]⟩
abbrev S1024 : Shape := ⟨1, ![1024]⟩
abbrev S_ : Shape := ⟨0, ![]⟩
abbrev S4224x1024 : Shape := ⟨2, ![4224, 1024]⟩
abbrev S4112 : Shape := ⟨1, ![4112]⟩
abbrev S4112x1 : Shape := ⟨2, ![4112, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S4112x512, .f32⟩
  | .hbm, ⟨2, _⟩ => ⟨S1024x1024, .f32⟩
  | .hbm, ⟨3, _⟩ => ⟨S4112x1024, .f32⟩
  | .hbm, ⟨4, _⟩ => ⟨S1024, .f32⟩
  | .hbm, ⟨5, _⟩ => ⟨S4112x1024, .f32⟩
  | .hbm, ⟨6, _⟩ => ⟨S4112x1024, .f32⟩
  | .hbm, ⟨7, _⟩ => ⟨S_, .i32⟩
  | .hbm, ⟨8, _⟩ => ⟨S_, .f32⟩
  | .hbm, ⟨9, _⟩ => ⟨S4224x1024, .f32⟩
  | .hbm, ⟨10, _⟩ => ⟨S4112x1024, .f32⟩
  | .hbm, ⟨11, _⟩ => ⟨S_, .f32⟩
  | .hbm, ⟨12, _⟩ => ⟨S4112, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1, .f32⟩
  | .hbm, ⟨21, _⟩ => ⟨S4112x1024, .f32⟩
  | .hbm, ⟨22, _⟩ => ⟨S4112x1024, .f32⟩
  | .hbm, ⟨23, _⟩ => ⟨S1x1024, .f32⟩
  | .hbm, ⟨24, _⟩ => ⟨S4112x1024, .f32⟩
  | .hbm, ⟨25, _⟩ => ⟨S4112x1024, .f32⟩
  | .hbm, ⟨26, _⟩ => ⟨S4112x1024, .f32⟩
  | .hbm, ⟨27, _⟩ => ⟨S_, .i32⟩
  | .hbm, ⟨28, _⟩ => ⟨S_, .f32⟩
  | .hbm, ⟨29, _⟩ => ⟨S4224x1024, .f32⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call1_v0 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel16.lean ====
abbrev S4112x512 : Shape := ⟨2, ![4112, 512]⟩
abbrev S4112x1024 : Shape := ⟨2, ![4112, 1024]⟩
abbrev S_ : Shape := ⟨0, ![]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 10
  | .vmem => 3
  | .smem => 0
  | _ => 0

abbrev bufTy : (tb : Table) → Fin (tcTables nBuf tb) → BufTy
  | .hbm, ⟨0, _⟩ => ⟨S4112x512, .f32⟩
  | .hbm, ⟨1, _⟩ => ⟨S4112x1024, .f32⟩
  | .hbm, ⟨2, _⟩ => ⟨S_, .i32⟩
  | .hbm, ⟨3, _⟩ => ⟨S_, .f32⟩
  | .hbm, ⟨4, _⟩ => ⟨S4224x512, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S4224x1024, .bf16⟩
  | .hbm, ⟨9, _⟩ => ⟨S512x1024, .f32⟩
  | .local _ .vmem, ⟨0, _⟩ => ⟨S4224x512, .f32⟩
  | .local _ .vmem, ⟨1, _⟩ => ⟨S4224x1024, .bf16⟩
  | .local _ .vmem, ⟨2, _⟩ => ⟨S512x1024, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4224x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference16Ideal.lean ====
abbrev S4112x512 : Shape := ⟨2, ![4112, 512]⟩
abbrev S4112x1024 : Shape := ⟨2, ![4112, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S4112x1024, .f32⟩
  | .hbm, ⟨2, _⟩ => ⟨S_, .f32⟩
  | .hbm, ⟨3, _⟩ => ⟨S512x1024, .f32⟩
  | .hbm, ⟨4, _⟩ => ⟨S4112x1024, .f32⟩
  | .hbm, ⟨5, _⟩ => ⟨S1024x512, .f32⟩
  | .hbm, ⟨6, _⟩ => ⟨S512x1024, .f32⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4112x1024 : Shape := ⟨2, ![4112, 1024]⟩
abbrev S4096x1024 : Shape := ⟨2, ![4096, 1024]⟩
abbrev S_ : Shape := ⟨0, ![]⟩
abbrev S4224x1024 : Shape := ⟨2, ![4224, 1024]⟩
abbrev S1x1 : Shape := ⟨2, ![1, 1]⟩
abbrev S128x1024 : Shape := ⟨2, ![128, 1024]⟩
abbrev S128 : Shape := ⟨1, ![128]⟩
abbrev S128x1 : Shape := ⟨2, ![128, 1]⟩
abbrev S1 : Shape := ⟨1, ![1]⟩

abbrev nBuf : Space → Nat
  | .hbm => 7
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S_, .i32⟩
  | .hbm, ⟨3, _⟩ => ⟨S_, .f32⟩
  | .hbm, ⟨4, _⟩ => ⟨S4224x1024, .f32⟩
  | .hbm, ⟨5, _⟩ => ⟨S4224x1024, .f32⟩
  | .hbm, ⟨6, _⟩ => ⟨S1x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S4112x1024 : Shape := ⟨2, ![4112, 1024]⟩
abbrev S4096x1024 : Shape := ⟨2, ![4096, 1024]⟩
abbrev S_ : Shape := ⟨0, ![]⟩
abbrev S4096 : Shape := ⟨1, ![4096]⟩
abbrev S4224x1024 : Shape := ⟨2, ![4224, 1024]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4112x1024, .f32⟩
  | .hbm, ⟨28, _⟩ => ⟨S_, .i32⟩
  | .hbm, ⟨29, _⟩ => ⟨S_, .f32⟩
  | .hbm, ⟨30, _⟩ => ⟨S4224x1024, .f32⟩
  | .hbm, ⟨31, _⟩ => ⟨S1x1, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Kernel18.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel18Ideal.lean ====
variable {F : FTy → Type} [FloatOps F] [Named F]
def κ : String → Option EReal := fun
  | "inv_1" => some ((8388608 / 5463681 : ℝ) : EReal)
  | "inv_2" => some ((268435456 / 2672307 : ℝ) : EReal)
  | _ => none
-- ==== Reference18Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S8x352x1024 : Shape := ⟨3, ![8, 352, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel19Ideal.lean ====
variable {F : FTy → Type} [FloatOps F] [Named F]
def κ : String → Option EReal := fun
  | "inv_1" => some ((8388608 / 5463681 : ℝ) : EReal)
  | "inv_2" => some ((268435456 / 2672307 : ℝ) : EReal)
  | _ => none
-- ==== Reference19Ideal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S_, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S_, .f32⟩
  | .hbm, ⟨23, _⟩ => ⟨S1x352x1024, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S_, .f32⟩
  | .hbm, ⟨34, _⟩ => ⟨S1x352x1024, .f32⟩
  | .hbm, ⟨35, _⟩ => ⟨S1x352x1024, .f32⟩
  | .hbm, ⟨36, _⟩ => ⟨S1x352x1024, .f32⟩
  | .hbm, ⟨37, _⟩ => ⟨S_, .f32⟩
  | .hbm, ⟨38, _⟩ => ⟨S1x352x1024, .f32⟩
  | .hbm, ⟨39, _⟩ => ⟨S1x352x1024, .f32⟩
  | .hbm, ⟨40, _⟩ => ⟨S1x352x1024, .f32⟩
  | .hbm, ⟨41, _⟩ => ⟨S_, .f32⟩
  | .hbm, ⟨42, _⟩ => ⟨S1x352x1024, .f32⟩
  | .hbm, ⟨43, _⟩ => ⟨S1x352x1024, .f32⟩
  | .hbm, ⟨44, _⟩ => ⟨S1x352x1024, .f32⟩
  | .hbm, ⟨45, _⟩ => ⟨S_, .f32⟩
  | .hbm, ⟨46, _⟩ => ⟨S1x352x1024, .f32⟩
  | .hbm, ⟨47, _⟩ => ⟨S1x352x1024, .f32⟩
  | .hbm, ⟨48, _⟩ => ⟨S3x352x1024, .f32⟩
  | .hbm, ⟨49, _⟩ => ⟨S4x352x1024, .f32⟩
  | .hbm, ⟨50, _⟩ => ⟨S3x352x1024, .f32⟩
  | .hbm, ⟨51, _⟩ => ⟨S4x352x1024, .f32⟩
  | .hbm, ⟨52, _⟩ => ⟨S3x352x1024, .f32⟩
  | .hbm, ⟨53, _⟩ => ⟨S4x352x1024, .f32⟩
  | .hbm, ⟨54, _⟩ => ⟨S3x352x1024, .f32⟩
  | .hbm, ⟨55, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Kernel20.lean ====
abbrev S8x400x1024 : Shape := ⟨3, ![8, 400, 1024]⟩
abbrev S1x1024x386 : Shape := ⟨3, ![1, 1024, 386]⟩
abbrev S1x386x1024 : Shape := ⟨3, ![1, 386, 1024]⟩
abbrev S400x1024 : Shape := ⟨2, ![400, 1024]⟩
abbrev S1x400x1024 : Shape := ⟨3, ![1, 400, 1024]⟩
abbrev S386x1024 : Shape := ⟨2, ![386, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x400x1024, .bf16⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S1x386x1024, .f32⟩
  | .hbm, ⟨5, _⟩ => ⟨S1x386x1024, .f32⟩
  | .hbm, ⟨6, _⟩ => ⟨S1x386x1024, .f32⟩
  | .hbm, ⟨7, _⟩ => ⟨S1x386x1024, .f32⟩
  | .hbm, ⟨8, _⟩ => ⟨S1x386x1024, .f32⟩
  | .hbm, ⟨9, _⟩ => ⟨S1x386x1024, .f32⟩
  | .hbm, ⟨10, _⟩ => ⟨S1x386x1024, .f32⟩
  | .local _ .vmem, ⟨0, _⟩ => ⟨S8x400x1024, .bf16⟩
  | .local _ .vmem, ⟨1, _⟩ => ⟨S1x386x1024, .f32⟩
  | .local _ .vmem, ⟨2, _⟩ => ⟨S1x386x1024, .f32⟩
  | .local _ .vmem, ⟨3, _⟩ => ⟨S1x386x1024, .f32⟩
  | .local _ .vmem, ⟨4, _⟩ => ⟨S1x386x1024, .f32⟩
  | .local _ .vmem, ⟨5, _⟩ => ⟨S1x386x1024, .f32⟩
  | .local _ .vmem, ⟨6, _⟩ => ⟨S1x386x1024, .f32⟩
  | .local _ .vmem, ⟨7, _⟩ => ⟨S1x386x1024, .f32⟩
  | .local _ .vmem, ⟨8, _⟩ => ⟨S400x1024, .f32⟩
  | _, _ => ⟨S8x400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 1 → Memref sig .tc .vmem S8x400x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x386x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x386x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x386x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x386x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x386x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x386x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x386x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel20Ideal.lean ====
variable {F : FTy → Type} [FloatOps F] [Named F]
def κ : String → Option EReal := fun
  | "inv_1" => some ((8388608 / 5463681 : ℝ) : EReal)
  | "inv_2" => some ((268435456 / 2672307 : ℝ) : EReal)
  | _ => none
-- ==== Reference20Ideal.lean ====
abbrev S8x400x1024 : Shape := ⟨3, ![8, 400, 1024]⟩
abbrev S1x1024x386 : Shape := ⟨3, ![1, 1024, 386]⟩
abbrev S_ : Shape := ⟨0, ![]⟩
abbrev S400x1024 : Shape := ⟨2, ![400, 1024]⟩
abbrev S386x1024 : Shape := ⟨2, ![386, 1024]⟩
abbrev S1024x386 : Shape := ⟨2, ![1024, 386]⟩
abbrev S1x386x1024 : Shape := ⟨3, ![1, 386, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x400x1024, .bf16⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S8x400x1024, .f32⟩
  | .hbm, ⟨5, _⟩ => ⟨S_, .f32⟩
  | .hbm, ⟨6, _⟩ => ⟨S400x1024, .f32⟩
  | .hbm, ⟨7, _⟩ => ⟨S386x1024, .f32⟩
  | .hbm, ⟨8, _⟩ => ⟨S1024x386, .f32⟩
  | .hbm, ⟨9, _⟩ => ⟨S1x1024x386, .f32⟩
  | .hbm, ⟨10, _⟩ => ⟨S_, .f32⟩
  | .hbm, ⟨11, _⟩ => ⟨S1x1024x386, .f32⟩
  | .hbm, ⟨12, _⟩ => ⟨S1x1024x386, .f32⟩
  | .hbm, ⟨13, _⟩ => ⟨S_, .f32⟩
  | .hbm, ⟨14, _⟩ => ⟨S1x1024x386, .f32⟩
  | .hbm, ⟨15, _⟩ => ⟨S1x1024x386, .f32⟩
  | .hbm, ⟨16, _⟩ => ⟨S1x1024x386, .f32⟩
  | .hbm, ⟨17, _⟩ => ⟨S_, .f32⟩
  | .hbm, ⟨18, _⟩ => ⟨S1x1024x386, .f32⟩
  | .hbm, ⟨19, _⟩ => ⟨S1x1024x386, .f32⟩
  | .hbm, ⟨20, _⟩ => ⟨S1x1024x386, .f32⟩
  | .hbm, ⟨21, _⟩ => ⟨S_, .f32⟩
  | .hbm, ⟨22, _⟩ => ⟨S1x1024x386, .f32⟩
  | .hbm, ⟨23, _⟩ => ⟨S1x1024x386, .f32⟩
  | .hbm, ⟨24, _⟩ => ⟨S1x1024x386, .f32⟩
  | .hbm, ⟨25, _⟩ => ⟨S_, .f32⟩
  | .hbm, ⟨26, _⟩ => ⟨S1x1024x386, .f32⟩
  | .hbm, ⟨27, _⟩ => ⟨S1x1024x386, .f32⟩
  | .hbm, ⟨28, _⟩ => ⟨S_, .f32⟩
  | .hbm, ⟨29, _⟩ => ⟨S1x1024x386, .f32⟩
  | .hbm, ⟨30, _⟩ => ⟨S1x1024x386, .f32⟩
  | .hbm, ⟨31, _⟩ => ⟨S1x1024x386, .f32⟩
  | .hbm, ⟨32, _⟩ => ⟨S_, .f32⟩
  | .hbm, ⟨33, _⟩ => ⟨S1x1024x386, .f32⟩
  | .hbm, ⟨34, _⟩ => ⟨S1x1024x386, .f32⟩
  | .hbm, ⟨35, _⟩ => ⟨S1x1024x386, .f32⟩
  | .hbm, ⟨36, _⟩ => ⟨S_, .f32⟩
  | .hbm, ⟨37, _⟩ => ⟨S1x1024x386, .f32⟩
  | .hbm, ⟨38, _⟩ => ⟨S1x1024x386, .f32⟩
  | .hbm, ⟨39, _⟩ => ⟨S1x1024x386, .f32⟩
  | .hbm, ⟨40, _⟩ => ⟨S_, .f32⟩
  | .hbm, ⟨41, _⟩ => ⟨S1x1024x386, .f32⟩
  | .hbm, ⟨42, _⟩ => ⟨S1x1024x386, .f32⟩
  | .hbm, ⟨43, _⟩ => ⟨S1x386x1024, .f32⟩
  | .hbm, ⟨44, _⟩ => ⟨S1x386x1024, .f32⟩
  | .hbm, ⟨45, _⟩ => ⟨S1x386x1024, .f32⟩
  | .hbm, ⟨46, _⟩ => ⟨S1x386x1024, .f32⟩
  | _, _ => ⟨S8x400x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Rows.lean ====
/-
  Facts used by every value proof of this certificate: the host's zero padding of 112 rows in front of 4112, read at an
  index; a sum over the 4224 padded rows whose padding terms vanish; a sum over two arrays set side by side.
-/
module

public import Idealize.ShloMosaic.Lib.Pointwise
public import Idealize.ShloMosaic.PureOps.Ideal

@[expose] public section

noncomputable section

namespace Cert.Rows

open Idealize.ShloMosaic

/-- A row of the padded array that is not padding. -/
abbrev live (r : Fin 4112) : Fin 4224 := ⟨r.val + 112, by omega⟩

section Pad
variable {n : Nat} {φ : FTy}

/-- What the host pads an array with: 112 rows of the integer zero, converted, in front of the 4112. -/
abbrev padded (x : (⟨2, ![4112, n]⟩ : Shape).Idx → EReal)
    (h : (⟨2, ![4112, n]⟩ : Shape).Pads ![112, 0] ![0, 0] ![0, 0] ⟨2, ![4224, n]⟩)
    (hu : 0 < (⟨0, ![]⟩ : Shape).numel) : (⟨2, ![4224, n]⟩ : Shape).Idx → EReal :=
  pad ⟨2, ![4224, n]⟩ ![112, 0] ![0, 0] ![0, 0] x (sitofp (F := Ideal) .f32 (constantI ⟨0, ![]⟩ 32 0#32)) h hu

/-- The padding value is zero. -/
theorem pad_value (i : (⟨0, ![]⟩ : Shape).Idx) :
    (sitofp (F := Ideal) .f32 (constantI ⟨0, ![]⟩ 32 0#32) i : EReal) = 0 := by
  show (((0#32 : BitVec 32).toInt : ℝ) : EReal) = 0
  simp

variable {x : (⟨2, ![4112, n]⟩ : Shape).Idx → EReal}
  {h : (⟨2, ![4112, n]⟩ : Shape).Pads ![112, 0] ![0, 0] ![0, 0] ⟨2, ![4224, n]⟩}
  {hu : 0 < (⟨0, ![]⟩ : Shape).numel}

/-- Below row 112 the padded array is zero. -/
theorem padded_low (p : Fin 4224) (q : Fin n) (hp : p.val < 112) : padded x h hu (ix2 p q) = 0 := by
  rw [padded, pad_apply, dif_neg]
  · exact pad_value _
  · intro hin
    have h0 : 112 ≤ p.val := (hin 0).1
    omega

/-- Row `r + 112` of the padded array is row `r` of the operand. -/
theorem padded_live (r : Fin 4112) (q : Fin n) : padded x h hu (ix2 (live r) q) = x (ix2 r q) := by
  rw [padded, pad_apply, dif_pos]
  · congr 1
    funext a
    apply Fin.ext
    match a with
    | ⟨0, _⟩ => show (r.val + 112 - 112) / 1 = r.val; omega
    | ⟨1, _⟩ => show (q.val - 0) / 1 = q.val; omega
  · intro a
    match a with
    | ⟨0, _⟩ => show 112 ≤ r.val + 112 ∧ (r.val + 112 - 112) % 1 = 0 ∧ (r.val + 112 - 112) / 1 < 4112; omega
    | ⟨1, _⟩ => show 0 ≤ q.val ∧ (q.val - 0) % 1 = 0 ∧ (q.val - 0) / 1 < n; have := q.isLt; omega

/-- An array is the padded one when it is zero below row 112 and agrees after. -/
theorem eq_padded {f : (⟨2, ![4224, n]⟩ : Shape).Idx → EReal} (hlow : ∀ p q, p.val < 112 → f (ix2 p q) = 0)
    (hlive : ∀ r q, f (ix2 (live r) q) = x (ix2 r q)) : f = padded x h hu := by
  funext i
  rw [eq_ix2 i]
  by_cases hp : (i 0).val < 112
  · exact (hlow (i 0) (i 1) hp).trans (padded_low (i 0) (i 1) hp).symm
  · have hi : (i 0).val < 4224 := (i 0).isLt
    obtain ⟨r, hr⟩ : ∃ r : Fin 4112, i 0 = live r :=
      ⟨⟨(i 0).val - 112, by omega⟩, Fin.ext (by show (i 0).val = (i 0).val - 112 + 112; omega)⟩
    have e : ix2 (i 0) (i 1) = ix2 (live r) (i 1) := congrArg (fun p => ix2 p (i 1)) hr
    exact (congrArg f e).trans ((hlive r (i 1)).trans ((padded_live r (i 1)).symm.trans (congrArg _ e.symm)))

end Pad

section Beside
variable {α : Type} {n : Nat}

/-- The first half of two arrays set side by side. -/
theorem beside_left {a b : (⟨2, ![n, 2816]⟩ : Shape).Idx → α}
    {h : Shape.Concatenates [⟨2, ![n, 2816]⟩, ⟨2, ![n, 2816]⟩] ⟨2, ![n, 5632]⟩ 1} (i : Fin n) (k : Fin 2816) :
    concatenate ⟨2, ![n, 5632]⟩ 1 [⟨⟨2, ![n, 2816]⟩, a⟩, ⟨⟨2, ![n, 2816]⟩, b⟩] h (ix2 i ⟨k.val, by omega⟩) = a (ix2 i k) := by
  refine concatenate_pair_apply_left 1 a b h _ rfl _ fun c => ?_
  match c with
  | ⟨0, _⟩ => rfl
  | ⟨1, _⟩ => rfl

/-- The second half of two arrays set side by side. -/
theorem beside_right {a b : (⟨2, ![n, 2816]⟩ : Shape).Idx → α}
    {h : Shape.Concatenates [⟨2, ![n, 2816]⟩, ⟨2, ![n, 2816]⟩] ⟨2, ![n, 5632]⟩ 1} (i : Fin n) (k : Fin 2816) :
    concatenate ⟨2, ![n, 5632]⟩ 1 [⟨⟨2, ![n, 2816]⟩, a⟩, ⟨⟨2, ![n, 2816]⟩, b⟩] h (ix2 i ⟨2816 + k.val, by omega⟩) = b (ix2 i k) := by
  refine concatenate_pair_apply_right 1 a b h _ rfl rfl _ (fun c hc => ?_) ?_
  · match c with
    | ⟨0, _⟩ => rfl
    | ⟨1, _⟩ => exact absurd rfl hc
  · exact Nat.add_comm k.val 2816

/-- The first half of two arrays set one above the other. -/
theorem above_top {a b : (⟨2, ![2816, n]⟩ : Shape).Idx → α}
    {h : Shape.Concatenates [⟨2, ![2816, n]⟩, ⟨2, ![2816, n]⟩] ⟨2, ![5632, n]⟩ 0} (k : Fin 2816) (i : Fin n) :
    concatenate ⟨2, ![5632, n]⟩ 0 [⟨⟨2, ![2816, n]⟩, a⟩, ⟨⟨2, ![2816, n]⟩, b⟩] h (ix2 ⟨k.val, by omega⟩ i) = a (ix2 k i) := by
  refine concatenate_pair_apply_left 0 a b h _ rfl _ fun c => ?_
  match c with
  | ⟨0, _⟩ => rfl
  | ⟨1, _⟩ => rfl

/-- The second half of two arrays set one above the other. -/
theorem above_bottom {a b : (⟨2, ![2816, n]⟩ : Shape).Idx → α}
    {h : Shape.Concatenates [⟨2, ![2816, n]⟩, ⟨2, ![2816, n]⟩] ⟨2, ![5632, n]⟩ 0} (k : Fin 2816) (i : Fin n) :
    concatenate ⟨2, ![5632, n]⟩ 0 [⟨⟨2, ![2816, n]⟩, a⟩, ⟨⟨2, ![2816, n]⟩, b⟩] h (ix2 ⟨2816 + k.val, by omega⟩ i) = b (ix2 k i) := by
  refine concatenate_pair_apply_right 0 a b h _ rfl rfl _ (fun c hc => ?_) ?_
  · match c with
    | ⟨1, _⟩ => rfl
    | ⟨0, _⟩ => exact absurd rfl hc
  · exact Nat.add_comm k.val 2816

/-- One of 5632 places is in the first half or in the second. -/
theorem half_cases (k : Fin 5632) :
    (∃ j : Fin 2816, k = ⟨j.val, by omega⟩) ∨ ∃ j : Fin 2816, k = ⟨2816 + j.val, by omega⟩ := by
  by_cases h : k.val < 2816
  · exact .inl ⟨⟨k.val, h⟩, rfl⟩
  · exact .inr ⟨⟨k.val - 2816, by omega⟩, Fin.ext (by show k.val = 2816 + (k.val - 2816); omega)⟩

end Beside

/-- A row of the padded array is padding, or one of the 4112. -/
theorem row_cases (p : Fin 4224) : p.val < 112 ∨ ∃ r, p = live r := by
  by_cases h : p.val < 112
  · exact .inl h
  · exact .inr ⟨⟨p.val - 112, by omega⟩, Fin.ext (by show p.val = p.val - 112 + 112; omega)⟩

/-- A sum over the padded rows is the sum over the 4112 rows, when the padding's terms vanish. -/
theorem sum_rows {M : Type} [AddCommMonoid M] (f : Fin 4224 → M) (h : ∀ p, p.val < 112 → f p = 0) :
    ∑ p, f p = ∑ r, f (live r) := by
  refine (Fin.sum_univ_add (a := 112) (b := 4112) f).trans ?_
  rw [Finset.sum_eq_zero fun i _ => h _ i.isLt, zero_add]
  exact Finset.sum_congr rfl fun r _ => congrArg f (Fin.ext (Nat.add_comm 112 r.val))

/-- A sum over 5632 columns is the sum over its two halves. -/
theorem sum_halves {M : Type} [AddCommMonoid M] (f : Fin 5632 → M) :
    ∑ k, f k = (∑ k : Fin 2816, f ⟨k.val, by omega⟩) + ∑ k : Fin 2816, f ⟨2816 + k.val, by omega⟩ :=
  Fin.sum_univ_add (a := 2816) (b := 2816) f

/-- Two matrices are one when they agree at every row and column. -/
theorem ext2 {a b : Nat} {α : Type} {f g : (⟨2, ![a, b]⟩ : Shape).Idx → α} (h : ∀ i j, f (ix2 i j) = g (ix2 i j)) :
    f = g :=
  funext fun i => by rw [eq_ix2 i]; exact h _ _

/-- The index of row `p` and column `q`, however it is written. -/
theorem at2 {a b : Nat} {i : (⟨2, ![a, b]⟩ : Shape).Idx} {p : Fin a} {q : Fin b} (h0 : (i 0).val = p.val)
    (h1 : (i 1).val = q.val) : i = ix2 p q :=
  funext fun c => Fin.ext (match c with
    | ⟨0, _⟩ => h0
    | ⟨1, _⟩ => h1)

/-- Row `i` of a matrix times column `b` of another. -/
def mm {n k l : Nat} (x : (⟨2, ![n, k]⟩ : Shape).Idx → EReal) (y : (⟨2, ![k, l]⟩ : Shape).Idx → EReal) (i : Fin n)
    (b : Fin l) : EReal := ∑ j : Fin k, x (ix2 i j) * y (ix2 j b)

/-- A row of zeros times a matrix is zero. -/
theorem mm_zero {n k l : Nat} {x : (⟨2, ![n, k]⟩ : Shape).Idx → EReal} {y : (⟨2, ![k, l]⟩ : Shape).Idx → EReal} {i : Fin n}
    (h : ∀ j, x (ix2 i j) = 0) (b : Fin l) : mm x y i b = 0 :=
  Finset.sum_eq_zero fun j _ => by rw [h, zero_mul]

/-- The product of a transposed matrix of 4224 rows with another: what a weight's gradient is. -/
def tn {k n : Nat} (x : (⟨2, ![4224, k]⟩ : Shape).Idx → EReal) (y : (⟨2, ![4224, n]⟩ : Shape).Idx → EReal) :
    (⟨2, ![k, n]⟩ : Shape).Idx → EReal :=
  fun i => ∑ p : Fin 4224, x (ix2 p (i 0)) * y (ix2 p (i 1))

/-- Of padded matrices, it is the product over the 4112 rows. -/
theorem tn_padded {k n : Nat} {x : (⟨2, ![4112, k]⟩ : Shape).Idx → EReal} {y : (⟨2, ![4112, n]⟩ : Shape).Idx → EReal}
    {hx : (⟨2, ![4112, k]⟩ : Shape).Pads ![112, 0] ![0, 0] ![0, 0] ⟨2, ![4224, k]⟩}
    {hy : (⟨2, ![4112, n]⟩ : Shape).Pads ![112, 0] ![0, 0] ![0, 0] ⟨2, ![4224, n]⟩}
    {hu : 0 < (⟨0, ![]⟩ : Shape).numel} (a : Fin k) (b : Fin n) :
    tn (padded x hx hu) (padded y hy hu) (ix2 a b) = ∑ r : Fin 4112, x (ix2 r a) * y (ix2 r b) := by
  refine (sum_rows (fun p => padded x hx hu (ix2 p a) * padded y hy hu (ix2 p b)) fun p hp => ?_).trans
    (Finset.sum_congr rfl fun r _ => ?_)
  · rw [padded_low p _ hp, zero_mul]
  · rw [padded_live, padded_live]

/-- Row `i` of block `t`, in the whole array. -/
abbrev at_ (t : Fin 11) (i : Fin 384) : Fin 4224 := ⟨t.val * 384 + i.val, by omega⟩

/-- Two arrays of 2816 columns side by side, given by their entries. -/
def halves {α : Type} {n : Nat} (a b : Fin n → Fin 2816 → α) : (⟨2, ![n, 5632]⟩ : Shape).Idx → α := fun i =>
  if h : (i 1).val < 2816 then a (i 0) ⟨(i 1).val, h⟩
  else b (i 0) ⟨(i 1).val - 2816, by have : (i 1).val < 5632 := (i 1).isLt; omega⟩

theorem halves_left {α : Type} {n : Nat} {a b : Fin n → Fin 2816 → α} (i : Fin n) (k : Fin 2816) :
    halves a b (ix2 i ⟨k.val, by omega⟩) = a i k := dif_pos k.isLt

theorem halves_right {α : Type} {n : Nat} {a b : Fin n → Fin 2816 → α} (i : Fin n) (k : Fin 2816) :
    halves a b (ix2 i ⟨2816 + k.val, by omega⟩) = b i k := by
  refine (dif_neg (by show ¬ 2816 + k.val < 2816; omega)).trans ?_
  exact congrArg (b i) (Fin.ext (Nat.add_sub_cancel_left 2816 k.val))

end Cert.Rows

end
-- ==== Proof.Norm.lean ====
/-
  The normalisation by a row's root mean square, and its gradient, at one row of 1024 entries: what the kernels and the
  references of this certificate compute, written once. Constants are kept as the words the programs print.
-/
module

public import Idealize.ShloMosaic.Lib.Pointwise
public import Idealize.ShloMosaic.PureOps.Ideal

@[expose] public section

noncomputable section

namespace Cert.Norm

open Idealize.ShloMosaic

/-- The mean square of a row, plus the small constant. -/
def meanSq (f : Fin 1024 → EReal) : EReal :=
  Ideal.div (∑ k, f k * f k) (Ideal.ofBits .f32 0x44800000#32) + Ideal.ofBits .f32 0x358637BD#32

/-- The row's scale: one over the root of its mean square. -/
def scale (f : Fin 1024 → EReal) : EReal := Ideal.rsqrt (meanSq f)

/-- Entry `b` of the normalised row, times the gain. -/
def normed (f w : Fin 1024 → EReal) (b : Fin 1024) : EReal := f b * scale f * w b

theorem normed_zero {f : Fin 1024 → EReal} (h : ∀ k, f k = 0) (w : Fin 1024 → EReal) (b : Fin 1024) :
    normed f w b = 0 := by rw [normed, h, zero_mul, zero_mul]

/-- A row, plus a multiple of another row normalised. -/
def residual (s : EReal) (h f w : Fin 1024 → EReal) (b : Fin 1024) : EReal := h b + s * normed f w b

theorem residual_one (h f w : Fin 1024 → EReal) (b : Fin 1024) : residual 1 h f w b = h b + normed f w b := by
  rw [residual, one_mul]

theorem residual_zero {h f : Fin 1024 → EReal} (hh : ∀ k, h k = 0) (hf : ∀ k, f k = 0) (s : EReal) (w : Fin 1024 → EReal)
    (b : Fin 1024) : residual s h f w b = 0 := by rw [residual, hh, normed_zero hf, mul_zero, add_zero]

/-- What reaches each entry of the row through its mean square, from the gradient `z` of the scaled row. -/
def pull (f z : Fin 1024 → EReal) : EReal :=
  Ideal.div ((∑ k, f k * z k) * (Ideal.ofBits .f32 0xBF000000#32 * Ideal.div (scale f) (meanSq f)))
    (Ideal.ofBits .f32 0x44800000#32)

/-- The gradient of the normalisation at entry `b` of a row `f`, from the gradient `z` of the scaled row. -/
def grad (f z : Fin 1024 → EReal) (b : Fin 1024) : EReal := (z b * scale f + f b * pull f z) + pull f z * f b

/-- The order in which the passing gradient is added. -/
theorem add_last (d x y z : EReal) : d + x + y + z = d + (x + y + z) := by rw [add_assoc d, add_assoc d]

/-- One for a row that is not padding, zero for one that is. -/
def kept (p : Nat) : EReal := if 112 ≤ p then 1 else 0

/-- The mask the kernels compute, at row `i` of block `n`. -/
theorem mask_eq (n : Fin 11) (i : Fin 384) : (FloatOps.sitofp (F := Ideal) .f32 (BitVec.setWidth 32
    (IntOp.cmpi .sge (IntOp.addi (Scalar.muli (BitVec.ofNat 32 n.val) 384#32) (BitVec.ofNat 32 i.val)) 112#32)) : EReal)
      = kept (n.val * 384 + i.val) := by
  have h : ∀ (n : Fin 11) (i : Fin 384), BitVec.setWidth 32 (IntOp.cmpi .sge (IntOp.addi
      (Scalar.muli (BitVec.ofNat 32 n.val) 384#32) (BitVec.ofNat 32 i.val)) 112#32)
        = if 112 ≤ n.val * 384 + i.val then 1#32 else 0#32 := by decide +kernel
  rw [h, kept]
  split
  · show (((1#32 : BitVec 32).toInt : ℝ) : EReal) = 1
    norm_num
  · show (((0#32 : BitVec 32).toInt : ℝ) : EReal) = 0
    simp

end Cert.Norm

end
-- ==== Proof.Reals.lean ====
/-
  Extended reals that are reals, and what keeps them so: sums, products, a division by a nonzero real, the
  normalisation of a row and its gradient. Then the logistic function, written with a hyperbolic tangent and with an
  exponential, and the gradient through a gate that it forms.
-/
module

public import proofs.«01_k».proof.Proof.Norm
public import Idealize.ShloMosaic.Lib.IdealHost

@[expose] public section

noncomputable section

namespace Cert.Reals

open Idealize.ShloMosaic Cert.Norm

/-- `x` is a real number. -/
def IsReal (x : EReal) : Prop := ∃ r : ℝ, x = r

theorem isReal_coe (r : ℝ) : IsReal r := ⟨r, rfl⟩

theorem isReal_add {x y : EReal} : IsReal x → IsReal y → IsReal (x + y) := by
  rintro ⟨a, rfl⟩ ⟨b, rfl⟩
  exact ⟨a + b, (EReal.coe_add a b).symm⟩

theorem isReal_mul {x y : EReal} : IsReal x → IsReal y → IsReal (x * y) := by
  rintro ⟨a, rfl⟩ ⟨b, rfl⟩
  exact ⟨a * b, (EReal.coe_mul a b).symm⟩

theorem isReal_neg {x : EReal} : IsReal x → IsReal (-x) := by
  rintro ⟨a, rfl⟩
  exact ⟨-a, (EReal.coe_neg a).symm⟩

/-- A finite sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem isReal_sum {ι : Type} [Fintype ι] {f : ι → EReal} (h : ∀ i, IsReal (f i)) : IsReal (∑ i, f i) := by
  choose r hr using h
  exact ⟨∑ i, r i, by simp only [hr]; exact coe_sum _ _⟩

/-- A quotient by a nonzero real. -/
theorem isReal_div {x y : EReal} (hx : IsReal x) (hy : ∃ r : ℝ, r ≠ 0 ∧ y = r) : IsReal (Ideal.div x y) := by
  obtain ⟨r, hr, rfl⟩ := hy
  rw [Ideal.div_coe hr]
  exact isReal_mul hx (isReal_coe _)

/-- What a comparison of the absolute value with infinity says. -/
theorem isReal_of_lt {x : EReal} (h : FloatOps.cmpf (F := Ideal) (φ := .f32) .olt (FloatOps.hostAbsf (F := Ideal) (φ := .f32) x)
    (FloatOps.ofBits (F := Ideal) .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  have hlt : max x (-x) < ⊤ := by
    by_contra hn
    simp [Ideal.cmp, hn] at h
  induction x using EReal.rec with
  | bot => simp at hlt
  | top => simp at hlt
  | coe r => exact ⟨r, rfl⟩

theorem word_1024 : Ideal.ofBits .f32 0x44800000#32 = ((1024 : ℝ) : EReal) := by
  simp [Ideal.ofBits, Ideal.ieee]; rw [← EReal.coe_mul]; norm_num

theorem word_half : Ideal.ofBits .f32 0x3F000000#32 = ((1 / 2 : ℝ) : EReal) := by
  simp [Ideal.ofBits, Ideal.ieee]; rw [← EReal.coe_mul]; norm_num

theorem word_half_short : Ideal.ofBits .bf16 0x3F00#16 = ((1 / 2 : ℝ) : EReal) := by
  simp [Ideal.ofBits, Ideal.ieee]; rw [← EReal.coe_mul]; norm_num

theorem word_neg_half : IsReal (Ideal.ofBits .f32 0xBF000000#32) := by
  simp [Ideal.ofBits, Ideal.ieee]
  exact isReal_coe _

theorem word_eps : ∃ r : ℝ, 0 < r ∧ Ideal.ofBits .f32 0x358637BD#32 = r := by
  simp [Ideal.ofBits, Ideal.ieee]
  exact ⟨_, by positivity, rfl⟩

/-- The mean square of a row of reals, plus the small constant, is a positive real. -/
theorem meanSq_pos {f : Fin 1024 → EReal} (h : ∀ k, IsReal (f k)) : ∃ r : ℝ, 0 < r ∧ meanSq f = r := by
  choose r hr using h
  obtain ⟨e, he, e'⟩ := word_eps
  refine ⟨(∑ k, r k * r k) * (1 / 1024) + e, ?_, ?_⟩
  · exact add_pos_of_nonneg_of_pos (mul_nonneg (Finset.sum_nonneg fun k _ => mul_self_nonneg _) (by norm_num)) he
  · rw [meanSq, word_1024, Ideal.div_coe (by norm_num), e']
    simp only [hr, ← EReal.coe_mul]
    rw [coe_sum, ← EReal.coe_mul, ← EReal.coe_add]

theorem isReal_scale {f : Fin 1024 → EReal} (h : ∀ k, IsReal (f k)) : IsReal (scale f) := by
  obtain ⟨r, hr, e⟩ := meanSq_pos h
  rw [scale, e, Ideal.rsqrt_coe, if_neg (by linarith), if_neg (by linarith)]
  exact isReal_coe _

/-- The gradient of the normalisation of a row of reals, from reals, is real. -/
theorem isReal_grad {f z : Fin 1024 → EReal} (hf : ∀ k, IsReal (f k)) (hz : ∀ k, IsReal (z k)) (b : Fin 1024) :
    IsReal (grad f z b) := by
  obtain ⟨r, hr, e⟩ := meanSq_pos hf
  have hp : IsReal (pull f z) := isReal_div (isReal_mul (isReal_sum fun k => isReal_mul (hf k) (hz k))
    (isReal_mul word_neg_half (isReal_div (isReal_scale hf) ⟨r, hr.ne', e⟩))) ⟨1024, by norm_num, word_1024⟩
  exact isReal_add (isReal_add (isReal_mul (hz b) (isReal_scale hf)) (isReal_mul (hf b) hp)) (isReal_mul hp (hf b))

/-- The logistic function, by an exponential. -/
def logi (g : EReal) : EReal := Ideal.div 1 (1 + Ideal.exp (-g))

/-- The logistic function, by a hyperbolic tangent, the half a short word. -/
def logiT (g : EReal) : EReal := Ideal.ofBits .bf16 0x3F00#16 * (Ideal.tanh (Ideal.ofBits .bf16 0x3F00#16 * g) + 1)

theorem logi_coe (r : ℝ) : logi r = ((1 / (1 + Real.exp (-r)) : ℝ) : EReal) := by
  have h : (1 : ℝ) + Real.exp (-r) ≠ 0 := by positivity
  rw [logi, ← EReal.coe_neg, Ideal.exp_coe, ← EReal.coe_one, ← EReal.coe_add, Ideal.div_coe h, ← EReal.coe_mul, one_mul]

theorem isReal_logi {g : EReal} : IsReal g → IsReal (logi g) := by
  rintro ⟨r, rfl⟩
  exact ⟨_, logi_coe r⟩

/-- The two ways to write it agree at a real. -/
theorem logiT_eq {g : EReal} (h : IsReal g) : logiT g = logi g := by
  obtain ⟨r, rfl⟩ := h
  rw [logi_coe, logiT, word_half_short, ← EReal.coe_mul, Ideal.tanh_coe, ← EReal.coe_one, ← EReal.coe_add, ← EReal.coe_mul]
  congr 1
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  rw [Real.tanh_eq_sinh_div_cosh, Real.sinh_eq, Real.cosh_eq, e]
  set a := Real.exp (1 / 2 * r)
  set b := Real.exp (-(1 / 2 * r))
  have ha : 0 < a := Real.exp_pos _
  have hb : 0 < b := Real.exp_pos _
  field_simp
  linear_combination (2 * b) * e1

/-- The half, in its two formats, is one real. -/
theorem half_words : Ideal.ofBits .f32 0x3F000000#32 = Ideal.ofBits .bf16 0x3F00#16 := word_half.trans word_half_short.symm

/-- At the infinities too. -/
theorem logiT_eq_all (g : EReal) : logiT g = logi g := by
  have hpos : (0 : ℝ) < 1 / 2 := by norm_num
  induction g using EReal.rec with
  | coe r => exact logiT_eq ⟨r, rfl⟩
  | top =>
    rw [logiT, logi, word_half_short, EReal.coe_mul_top_of_pos hpos]
    have e : (1 : EReal) + 1 = ((2 : ℝ) : EReal) := by rw [← EReal.coe_one, ← EReal.coe_add]; norm_num
    have d : Ideal.div 1 1 = 1 := by rw [← EReal.coe_one, Ideal.div_coe (by norm_num)]; norm_num
    simp only [Ideal.tanh_top, EReal.neg_top, Ideal.exp_bot, add_zero, e, d]
    rw [← EReal.coe_mul]
    norm_num
  | bot =>
    rw [logiT, logi, word_half_short, EReal.coe_mul_bot_of_pos hpos]
    have e : (-1 : EReal) + 1 = 0 := by rw [← EReal.coe_one, ← EReal.coe_neg, ← EReal.coe_add]; norm_num
    have d : (1 : EReal) + ⊤ = ⊤ := EReal.add_top_of_ne_bot (EReal.coe_ne_bot 1)
    simp only [Ideal.tanh_bot, EReal.neg_bot, Ideal.exp_top, e, d, mul_zero]
    simp [Ideal.div]

/-- The gradient through the gate: one factored product against the product rule's sum. -/
theorem gate_eq {a u g : EReal} (ha : IsReal a) (hu : IsReal u) (hg : IsReal g) :
    a * u * logiT g * (1 + g * (1 - logiT g)) = a * u * logi g + g * (a * u) * (logi g * (1 - logi g)) := by
  rw [logiT_eq hg]
  obtain ⟨s, hs⟩ := isReal_logi hg
  obtain ⟨a, rfl⟩ := ha
  obtain ⟨u, rfl⟩ := hu
  obtain ⟨g, rfl⟩ := hg
  rw [hs]
  simp only [← EReal.coe_one, ← EReal.coe_mul, ← EReal.coe_add, ← EReal.coe_sub]
  congr 1
  ring

/-- The gradient through what the gate multiplies. -/
theorem up_eq {a g : EReal} (hg : IsReal g) : a * g * logiT g = g * logi g * a := by
  rw [logiT_eq hg, mul_comm a g, mul_right_comm]

end Cert.Reals

end
-- ==== Proof.DownBackward.lean ====
/-
  The gradient of the feed-forward block through the normalisation of its output, its down projection and its gated
  product: the rows' gradient, the gain's, and the gate's and the up projection's side by side, block by block over the
  4224 padded rows, are the reference's over the 4112 rows.
-/
module

public import proofs.«01_k».proof.Proof.Rows
public import proofs.«01_k».proof.Proof.Reals
public import proofs.«01_k».proof.Defs
public import proofs.«01_k».proof.Proof.Gen.KernelIdeal.Value
public import proofs.«01_k».proof.Proof.Gen.ReferenceIdeal.Read
public import Idealize.ShloMosaic.Lib.Pipeline.ValueKit
public import Idealize.ShloMosaic.Lib.ReduceAll
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Tied

open Cert.KernelIdeal Cert.KernelIdeal.Gen Cert.Rows Cert.Norm Cert.Reals

variable (m : (ℓ : Loc nD τ sig) → Buf (Elt Ideal) ℓ)

theorem dy_eq (c : Dev nD) : V m c main_v3 = padded (m ((c : Thread nD τ).loc main_arg4)) pads_S4112x1024_S4224x1024_11200_000 h_S_ := by
  simp only [V, hostOps0, hostOps0_1, hostOps0_2, hostOps0_3, hostOps0_4, hostOps0_5, hostOps0_6, hostOps0_7, hostOps0_8, hostOps0_9, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

theorem f_eq (c : Dev nD) : V m c main_v4 = padded (Cert.ReferenceIdeal.Read.val_main_v2 (F := Ideal) (m ((c : Thread nD τ).loc main_arg0))
    (m ((c : Thread nD τ).loc main_arg1)) (m ((c : Thread nD τ).loc main_arg2))) pads_S4112x1024_S4224x1024_11200_000 h_S_ := by
  simp only [V, hostOps0, hostOps0_1, hostOps0_2, hostOps0_3, hostOps0_4, hostOps0_5, hostOps0_6, hostOps0_7, hostOps0_8, hostOps0_9, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

theorem gain_eq (c : Dev nD) : V m c main_v5 = shapeCast S1x1024 (m ((c : Thread nD τ).loc main_arg3)) shapeCasts_S1024_S1x1024 := by
  simp only [V, hostOps0, hostOps0_1, hostOps0_2, hostOps0_3, hostOps0_4, hostOps0_5, hostOps0_6, hostOps0_7, hostOps0_8, hostOps0_9, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

theorem w_eq (c : Dev nD) : V m c main_v6 = (m ((c : Thread nD τ).loc main_arg2)) := by
  simp only [V, hostOps0, hostOps0_1, hostOps0_2, hostOps0_3, hostOps0_4, hostOps0_5, hostOps0_6, hostOps0_7, hostOps0_8, hostOps0_9, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

theorem g_eq (c : Dev nD) : V m c main_v8 = padded (m ((c : Thread nD τ).loc main_arg0)) pads_S4112x2816_S4224x2816_11200_000 h_S_ := by
  simp only [V, hostOps0, hostOps0_1, hostOps0_2, hostOps0_3, hostOps0_4, hostOps0_5, hostOps0_6, hostOps0_7, hostOps0_8, hostOps0_9, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

theorem u_eq (c : Dev nD) : V m c main_v10 = padded (m ((c : Thread nD τ).loc main_arg1)) pads_S4112x2816_S4224x2816_11200_000 h_S_ := by
  simp only [V, hostOps0, hostOps0_1, hostOps0_2, hostOps0_3, hostOps0_4, hostOps0_5, hostOps0_6, hostOps0_7, hostOps0_8, hostOps0_9, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![t.val, 0] ∧ (grid0.coords t 0).val = t.val := by decide +kernel

/-- The rows' gradient through the normalisation from the arrays at region entry, masked. -/
def rows (d f : S4224x1024.Idx → EReal) (w : S1x1024.Idx → EReal) : S4224x1024.Idx → EReal := fun i =>
  grad (fun k => f (ix2 (i 0) k)) (fun k => Ideal.ofBits .f32 0x3F000000#32 * d (ix2 (i 0) k) * w (ix2 0 k)) (i 1)
    * kept (i 0).val

/-- What one row adds to the gain's gradient. -/
def part (d f : S4224x1024.Idx → EReal) (p : Fin 4224) (b : Fin 1024) : EReal :=
  f (ix2 p b) * scale (fun k => f (ix2 p k)) * (Ideal.ofBits .f32 0x3F000000#32 * d (ix2 p b))

/-- The gain's gradient from the arrays at region entry. -/
def gain (d f : S4224x1024.Idx → EReal) : S1x1024.Idx → EReal := fun i => ∑ p : Fin 4224, part d f p (i 1)

/-- The gradient of the product's left factor: row `p` of `x` times row `j` of the weight. -/
def back {n : Nat} (x : (⟨2, ![n, 1024]⟩ : Shape).Idx → EReal) (w : S2816x1024.Idx → EReal) (p : Fin n) (j : Fin 2816) : EReal :=
  ∑ k : Fin 1024, x (ix2 p k) * w (ix2 j k)

/-- The gradient through the gate, factored, and through what it multiplies. -/
def gateG (a u g : EReal) : EReal := a * u * logiT g * (1 + g * (1 - logiT g))
def upG (a g : EReal) : EReal := a * g * logiT g

/-- The gate's and the up projection's gradients side by side, from the rows' gradient `x`. -/
def gates {n : Nat} (x : (⟨2, ![n, 1024]⟩ : Shape).Idx → EReal) (w : S2816x1024.Idx → EReal)
    (g u : (⟨2, ![n, 2816]⟩ : Shape).Idx → EReal) : (⟨2, ![n, 5632]⟩ : Shape).Idx → EReal :=
  halves (fun p j => gateG (back x w p j) (u (ix2 p j)) (g (ix2 p j))) (fun p j => upG (back x w p j) (g (ix2 p j)))

section Halves
variable {n : Nat} (x : (⟨2, ![n, 1024]⟩ : Shape).Idx → EReal) (w : S2816x1024.Idx → EReal)
  (g u : (⟨2, ![n, 2816]⟩ : Shape).Idx → EReal) (p : Fin n) (j : Fin 2816)

theorem gates_left : gates x w g u (ix2 p ⟨j.val, by omega⟩) = gateG (back x w p j) (u (ix2 p j)) (g (ix2 p j)) := by
  rw [gates, halves_left]

theorem gates_right : gates x w g u (ix2 p ⟨2816 + j.val, by omega⟩) = upG (back x w p j) (g (ix2 p j)) := by
  rw [gates, halves_right]

end Halves

section Payloads
variable (f d : Vec Ideal S384x1024 .f32) (w : Vec Ideal S1x1024 .f32) (W : Vec Ideal S2816x1024 .bf16)
  (g u : Vec Ideal S384x2816 .bf16) (i : Fin 384)

/-- What the body computes of the rows' gradient, masked. -/
abbrev payRows (n : Nat) : FVec Ideal S384x1024 .bf16 :=
  k0_pay9 (k0_pay8 f w d) (Scalar.muli (BitVec.ofNat 32 n) 384#32) (iota Kind.tc S384x1 32 [0] iota_S384x1_d0_w32)

theorem pay_rows (n : Fin 11) (b : Fin 1024) : payRows f d w n.val (ix2 i b)
    = grad (fun k => f (ix2 i k)) (fun k => Ideal.ofBits .f32 0x3F000000#32 * d (ix2 i k) * w (ix2 0 k)) b
      * kept (n.val * 384 + i.val) := by
  rw [← mask_eq]
  unfold payRows
  unfold_payloads
  pointwise []
  simp only [Fin.sum_univ_one]
  rfl

/-- What one block adds to the gain's gradient. -/
theorem pay_gain (b : Fin 1024) : k0_pay7 f d (ix2 0 b)
    = ∑ i : Fin 384, f (ix2 i b) * scale (fun k => f (ix2 i k)) * (Ideal.ofBits .f32 0x3F000000#32 * d (ix2 i b)) := by
  unfold_payloads
  pointwise []
  rfl

/-- What one block adds to the accumulator. -/
theorem pay_acc (z v : Vec Ideal S1x1024 .f32) (b : Fin 1024) : k0_pay11 z v (ix2 0 b) = v (ix2 0 b) + z (ix2 0 b) := by
  unfold_payloads
  pointwise []

/-- The accumulator starts at zero. -/
theorem pay_zero (b : Fin 1024) : k0_pay10 (F := Ideal) (ix2 0 b) = 0 := by
  unfold_payloads
  pointwise []

variable (x : FVec Ideal S384x1024 .f32) (s : BitVec 32) (z : IVec S384x1 32) (j : Fin 2816)

/-- The product of the masked rows' gradient with the weight's rows. -/
theorem pay_back : k0_pay13 x s z W (ix2 i j) = back (n := 384) (k0_pay9 x s z) W i j := by
  unfold k0_pay13
  pointwise [dot_S384x1024_S2816x1024_S384x2816_1_1_0_0_n_n]
  rfl

/-- The block's gate half. -/
theorem pay_gate : k0_pay1 (k0_pay15 x s z W g u) (k0_pay16 g) (ix2 i j)
    = gateG (back (n := 384) (k0_pay9 x s z) W i j) (u (ix2 i j)) (g (ix2 i j)) := by
  rw [← pay_back]
  unfold k0_pay1 k0_pay15 k0_pay16 k0_pay14 k0_pay12
  pointwise []
  rfl

/-- The block's up half. -/
theorem pay_up : k0_pay2 (k0_pay12 g) (k0_pay13 x s z W) (k0_pay14 g) (ix2 i j)
    = upG (back (n := 384) (k0_pay9 x s z) W i j) (g (ix2 i j)) := by
  rw [← pay_back]
  unfold k0_pay2 k0_pay14 k0_pay12
  pointwise []
  rfl

end Payloads

section Blocks
variable (c : Dev nD) (t : Fin cfg0.N) (i : Fin 384)

theorem blk_dy (k : Fin 1024) : iblk m c 0 t (ix2 i k) = V m c main_v3 (ix2 (at_ t i) k) := by blk_ext [iblk, idx t]
theorem blk_f (k : Fin 1024) : iblk m c 1 t (ix2 i k) = V m c main_v4 (ix2 (at_ t i) k) := by blk_ext [iblk, idx t]
theorem blk_gain (k : Fin 1024) : iblk m c 2 t (ix2 0 k) = V m c main_v5 (ix2 0 k) := by blk_ext [iblk, idx t]
theorem blk_w (j : Fin 2816) (k : Fin 1024) : iblk m c 3 t (ix2 j k) = V m c main_v6 (ix2 j k) := by blk_ext [iblk, idx t]
theorem blk_g (j : Fin 2816) : iblk m c 4 t (ix2 i j) = V m c main_v8 (ix2 (at_ t i) j) := by blk_ext [iblk, idx t]
theorem blk_u (j : Fin 2816) : iblk m c 5 t (ix2 i j) = V m c main_v10 (ix2 (at_ t i) j) := by blk_ext [iblk, idx t]

/-- The block of rows' gradient the body stores at point `t`. -/
theorem stored (b : Fin 1024) : payRows (iblk m c 1 t) (iblk m c 0 t) (iblk m c 2 t) (grid0.coords t 0).val (ix2 i b)
    = rows (V m c main_v3) (V m c main_v4) (V m c main_v5) (ix2 (at_ t i) b) := by
  rw [(idx t).2.2.2.2.2.2.2.2.2, pay_rows _ _ _ _ t]
  simp only [blk_dy, blk_f, blk_gain]
  rfl

theorem stored_back (j : Fin 2816) :
    back (n := 384) (payRows (iblk m c 1 t) (iblk m c 0 t) (iblk m c 2 t) (grid0.coords t 0).val) (iblk m c 3 t) i j
      = back (n := 4224) (rows (V m c main_v3) (V m c main_v4) (V m c main_v5)) (V m c main_v6) (at_ t i) j :=
  Finset.sum_congr rfl fun k _ => congr (congrArg _ (stored m c t i k)) (blk_w m c t j k)

/-- The block of the gate's and the up projection's gradients at point `t`. -/
theorem stored_gates (k : Fin 5632) :
    gates (n := 384) (payRows (iblk m c 1 t) (iblk m c 0 t) (iblk m c 2 t) (grid0.coords t 0).val) (iblk m c 3 t)
        (iblk m c 4 t) (iblk m c 5 t) (ix2 i k)
      = gates (n := 4224) (rows (V m c main_v3) (V m c main_v4) (V m c main_v5)) (V m c main_v6) (V m c main_v8) (V m c main_v10)
        (ix2 (at_ t i) k) := by
  rcases half_cases k with ⟨j, rfl⟩ | ⟨j, rfl⟩
  · refine (halves_left i j).trans (Eq.trans ?_ (halves_left (at_ t i) j).symm)
    exact congr (congr (congrArg gateG (stored_back m c t i j)) (blk_u m c t i j)) (blk_g m c t i j)
  · refine (halves_right i j).trans (Eq.trans ?_ (halves_right (at_ t i) j).symm)
    exact congr (congrArg upG (stored_back m c t i j)) (blk_g m c t i j)

end Blocks

/-- The rows' gradient after the run. -/
theorem rows_final (c : Dev nD) : (dats m 0 c).arrAt 6 cfg0.N = rows (V m c main_v3) (V m c main_v4) (V m c main_v5) := by
  refine (dats m 0 c).arrAt_eq_of_covers 6 _ (by decide +kernel) fun t hf y => ?_
  have e : (((View.whole main_v11_0).slice (win0_6.rect t)).emb y) = ix2 (at_ t (y 0)) (y 1) := by
    blk_ext [idx t]
  blk_simp
  rw [after0_6]
  have e' := (congrArg _ (eq_ix2 y)).trans ((stored m c t (y 0) (y 1)).trans (congrArg _ e.symm))
  by_cases h : t.val % 11 = 0
  · rw [outsAt0_A m c t h]
    frame_out
    exact e'
  · rw [outsAt0_B m c t h]
    frame_out
    exact e'

/-- The two halves the body stores side by side make one block. -/
theorem pieces (f d : Vec Ideal S384x1024 .f32) (w : Vec Ideal S1x1024 .f32) (W : Vec Ideal S2816x1024 .bf16)
    (g u : Vec Ideal S384x2816 .bf16) (n : Nat) (y : S384x5632.Idx) :
    View.canon (Val := Elt Ideal) (e := .bf16) [⟨Rect.unit ![0, 2816] ![384, 2816] inb_S384x5632_S384x2816_0_2816,
        k0_pay2 (k0_pay12 g) (k0_pay13 (k0_pay8 f w d) (Scalar.muli (BitVec.ofNat 32 n) 384#32)
          (iota Kind.tc S384x1 32 [0] iota_S384x1_d0_w32) W) (k0_pay14 g)⟩,
      ⟨Rect.unit ![0, 0] ![384, 2816] inb_S384x5632_S384x2816_0_0,
        k0_pay1 (k0_pay15 (k0_pay8 f w d) (Scalar.muli (BitVec.ofNat 32 n) 384#32)
          (iota Kind.tc S384x1 32 [0] iota_S384x1_d0_w32) W g u) (k0_pay16 g)⟩] y
      = gates (n := 384) (payRows f d w n) W g u y := by
  canon_tiles x h
  · have e : y = ix2 (x 0) ⟨2816 + (x 1).val, by omega⟩ := at2 h0 h1
    rw [e]
    exact ((congrArg _ (eq_ix2 x)).trans (pay_up _ _ _ _ _ _ _)).trans (gates_right _ _ _ _ _ _).symm
  · have e : y = ix2 (x 0) ⟨(x 1).val, by omega⟩ := at2 h0 h1
    rw [e]
    exact ((congrArg _ (eq_ix2 x)).trans (pay_gate _ _ _ _ _ _ _ _)).trans (gates_left _ _ _ _ _ _).symm

/-- The gate's and the up projection's gradients after the run. -/
theorem gates_final (c : Dev nD) : (dats m 0 c).arrAt 8 cfg0.N
    = gates (n := 4224) (rows (V m c main_v3) (V m c main_v4) (V m c main_v5)) (V m c main_v6) (V m c main_v8) (V m c main_v10) := by
  refine (dats m 0 c).arrAt_eq_of_covers 8 _ (by decide +kernel) fun t hf y => ?_
  have e : (((View.whole main_v11_2).slice (win0_8.rect t)).emb y) = ix2 (at_ t (y 0)) (y 1) := by
    blk_ext [idx t]
  blk_simp
  rw [after0_8]
  have e' := (congrArg _ (eq_ix2 y)).trans ((stored_gates m c t (y 0) (y 1)).trans (congrArg _ e.symm))
  by_cases h : t.val % 11 = 0
  · rw [outsAt0_A m c t h]
    frame_out
    exact (pieces _ _ _ _ _ _ _ _).trans e'
  · rw [outsAt0_B m c t h]
    frame_out
    exact (pieces _ _ _ _ _ _ _ _).trans e'

/-- What point `t` adds to the gain's gradient, over the rows of its block. -/
theorem added (c : Dev nD) (t : Fin cfg0.N) (b : Fin 1024) : k0_pay7 (iblk m c 1 t) (iblk m c 0 t) (ix2 0 b)
    = ∑ i : Fin 384, part (V m c main_v3) (V m c main_v4) (at_ t i) b := by
  rw [pay_gain]
  simp only [blk_dy, blk_f]
  rfl

/-- The last grid point. -/
abbrev last : Fin cfg0.N := ⟨10, by decide⟩

/-- The accumulator after the last point. -/
theorem acc (c : Dev nD) (b : Fin 1024) : (outsAt0 m c last.val last.isLt).2.1 (ix2 0 b)
    = ∑ t : Fin 11, k0_pay7 (iblk m c 1 t) (iblk m c 0 t) (ix2 0 b) :=
  (Pipeline.eq_sum_fin_of_reset_step_apply_last (fun n h b => (outsAt0 m c n h).2.1 (ix2 0 b)) 11 (fun _ => 0)
      (fun t b => k0_pay7 (iblk m c 1 t) (iblk m c 0 t) (ix2 0 b))
      (fun t h j => by rw [outsAt0_A m c t h]; frame_out; rw [pay_acc, pay_zero])
      (fun t h j => by rw [outsAt0_B m c t h]; frame_out; rw [pay_acc])
      (by decide) last rfl b).trans (zero_add _)

/-- The gain's gradient after the run. -/
theorem gain_final (c : Dev nD) : (dats m 0 c).arrAt 7 cfg0.N = gain (V m c main_v3) (V m c main_v4) := by
  refine (dats m 0 c).arrAt_eq_of_after_last 7 last (by decide +kernel) _ fun j => ?_
  rw [after0_7]
  have h0 : (j 0).val < 1 := (j 0).isLt
  have hj : j = ix2 0 (j 1) := at2 (by show (j 0).val = 0; omega) rfl
  have eb : (cfg0.win 7).arr.view.emb j = ix2 0 (j 1) := at2 (by show (j 0).val = 0; omega) rfl
  rw [eb]
  refine (congrArg (outsAt0 m c last.val last.isLt).2.1 hj).trans ((acc m c (j 1)).trans ?_)
  refine Eq.trans ?_ (Fin.sum_mul_add_fin (n := 384) (L := 4224) 11 _ rfl)
  exact Finset.sum_congr rfl fun t _ => added m c t (j 1)

section Reference
open Cert.ReferenceIdeal.Read

variable (x0 x1 : S4112x2816.Idx → EReal) (x2 : S2816x1024.Idx → EReal) (x3 : S1024.Idx → EReal) (x4 : S4112x1024.Idx → EReal)
  (r : Fin 4112) (b : Fin 1024) (j : Fin 2816)

theorem ref_f : val_main_v2 (F := Ideal) x0 x1 x2 (ix2 r b) = ∑ j : Fin 2816, x0 (ix2 r j) * logi (x0 (ix2 r j)) * x1 (ix2 r j) * x2 (ix2 j b) := by
  pointwise [val_main_v2, val_main_v1, val_main_v0_0, val_main_v0_2, val_main_call0_v0, val_main_call0_v1, val_main_call0_cst, val_main_call0_v2,
    val_main_call0_v3, val_main_call0_v4, val_main_call0_cst_0, Cert.ReferenceIdeal.dot_S4112x2816_S2816x1024_S4112x1024_1_0_0_1_n_n]
  rfl

theorem ref_rows : val_main_v42 (F := Ideal) x0 x1 x2 x3 x4 (ix2 r b) = grad (fun k => val_main_v2 (F := Ideal) x0 x1 x2 (ix2 r k))
    (fun k => Ideal.ofBits .f32 0x3F000000#32 * x4 (ix2 r k) * x3 (ix1 k)) b := by
  pointwise [val_main_v3, val_main_v4, val_main_v5, val_main_v6, val_main_v7, val_main_v8, val_main_v9, val_main_v10, val_main_v11, val_main_v12, val_main_v13, val_main_v14, val_main_v15, val_main_v16, val_main_v21, val_main_v22, val_main_v26, val_main_v27, val_main_v29, val_main_v30, val_main_v31, val_main_v32, val_main_v33, val_main_v34, val_main_v35, val_main_v36, val_main_v37, val_main_v38, val_main_v39, val_main_v40, val_main_v41, val_main_v42,
    val_main_cst, val_main_cst_0, val_main_cst_1, val_main_cst_2, val_main_cst_3, val_main_cst_4, val_main_cst_5, val_main_cst_6, val_main_cst_7, val_main_cst_8, val_main_cst_9]
  simp only [Fin.sum_univ_one]
  rfl

theorem ref_gain : val_main_v49 (F := Ideal) x0 x1 x2 x4 (ix2 0 b) = ∑ r : Fin 4112, val_main_v2 (F := Ideal) x0 x1 x2 (ix2 r b)
    * scale (fun k => val_main_v2 (F := Ideal) x0 x1 x2 (ix2 r k)) * (Ideal.ofBits .f32 0x3F000000#32 * x4 (ix2 r b)) := by
  pointwise [val_main_v3, val_main_v4, val_main_v5, val_main_v6, val_main_v7, val_main_v8, val_main_v9, val_main_v10, val_main_v11, val_main_v12, val_main_v13, val_main_v14, val_main_v15, val_main_v21, val_main_v22, val_main_v23, val_main_v24, val_main_v25, val_main_v28, val_main_v49,
    val_main_cst, val_main_cst_0, val_main_cst_1, val_main_cst_2, val_main_cst_3, val_main_cst_4, val_main_cst_5, val_main_cst_6, val_main_cst_7, val_main_cst_8, val_main_cst_9]
  simp only [Fin.sum_univ_one]
  rfl

theorem ref_back : val_main_v43 (F := Ideal) x0 x1 x2 x3 x4 (ix2 r j) = back (n := 4112) (val_main_v42 (F := Ideal) x0 x1 x2 x3 x4) x2 r j := by
  pointwise [val_main_v43, Cert.ReferenceIdeal.dot_S4112x1024_S2816x1024_S4112x2816_1_1_0_0_n_n]
  rfl

theorem ref_up : val_main_v44 (F := Ideal) x0 x1 x2 x3 x4 (ix2 r j) = x0 (ix2 r j) * logi (x0 (ix2 r j))
    * back (n := 4112) (val_main_v42 (F := Ideal) x0 x1 x2 x3 x4) x2 r j := by
  rw [← ref_back]
  pointwise [val_main_v44, val_main_v0_0, val_main_v0_2, val_main_call0_v0, val_main_call0_v1, val_main_call0_cst, val_main_call0_v2,
    val_main_call0_v3, val_main_call0_v4, val_main_call0_cst_0]
  rfl

theorem ref_gate : val_main_v46 (F := Ideal) x0 x1 x2 x3 x4 (ix2 r j)
    = back (n := 4112) (val_main_v42 (F := Ideal) x0 x1 x2 x3 x4) x2 r j * x1 (ix2 r j) * logi (x0 (ix2 r j))
      + x0 (ix2 r j) * (back (n := 4112) (val_main_v42 (F := Ideal) x0 x1 x2 x3 x4) x2 r j * x1 (ix2 r j))
        * (logi (x0 (ix2 r j)) * (1 - logi (x0 (ix2 r j)))) := by
  rw [← ref_back]
  pointwise [val_main_v46, val_main_v45, val_main_call1_v0, val_main_call1_v1, val_main_call1_v2, val_main_v0_1, val_main_v0_2, val_main_call0_v0, val_main_call0_v1, val_main_call0_cst, val_main_call0_v2,
    val_main_call0_v3, val_main_call0_v4, val_main_call0_cst_0, val_main_call0_cst_1, val_main_call0_v6, val_main_call0_v7]
  rfl

end Reference

section Finite
variable [hPre_finite : Cert.Pre_finite.Facts]

/-- What the precondition says: every entry of every argument is real. -/
theorem reals (h : Cert.Pre_KernelIdeal_finite m) (c : Dev nD) : (∀ i, IsReal ((m ((c : Thread nD τ).loc main_arg0)) i)) ∧ (∀ i, IsReal ((m ((c : Thread nD τ).loc main_arg1)) i))
    ∧ (∀ i, IsReal ((m ((c : Thread nD τ).loc main_arg2)) i)) ∧ (∀ i, IsReal ((m ((c : Thread nD τ).loc main_arg3)) i)) ∧ ∀ i, IsReal ((m ((c : Thread nD τ).loc main_arg4)) i) := by
  have hc := h c
  dsimp only [Cert.Pre_finite.fn, Cert.Pre_finite.fn_part1] at hc
  have e := congrFun hc ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => isReal_of_lt (Host.reduce_andi_all _ _ _ _ _ e0 i), fun i => isReal_of_lt (Host.reduce_andi_all _ _ _ _ _ e1 i),
    fun i => isReal_of_lt (Host.reduce_andi_all _ _ _ _ _ e2 i), fun i => isReal_of_lt (Host.reduce_andi_all _ _ _ _ _ e3 i),
    fun i => isReal_of_lt (Host.reduce_andi_all _ _ _ _ _ e4 i)⟩

end Finite

section Together
open Cert.ReferenceIdeal.Read
variable (c : Dev nD)

theorem f_live (r : Fin 4112) (k : Fin 1024) : V m c main_v4 (ix2 (live r) k) = val_main_v2 (F := Ideal) (m ((c : Thread nD τ).loc main_arg0)) (m ((c : Thread nD τ).loc main_arg1)) (m ((c : Thread nD τ).loc main_arg2)) (ix2 r k) := by
  rw [f_eq]; exact padded_live r k

theorem dy_live (r : Fin 4112) (k : Fin 1024) : V m c main_v3 (ix2 (live r) k) = (m ((c : Thread nD τ).loc main_arg4)) (ix2 r k) := by
  rw [dy_eq]; exact padded_live r k

theorem gain_at (k : Fin 1024) : V m c main_v5 (ix2 0 k) = (m ((c : Thread nD τ).loc main_arg3)) (ix1 k) := by
  rw [gain_eq]
  pointwise []

/-- The rows' gradient, masked, is the reference's, padded. -/
theorem rows_eq : rows (V m c main_v3) (V m c main_v4) (V m c main_v5) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ext2 fun p b => ?_
  rcases row_cases p with hp | ⟨r, rfl⟩
  · refine Eq.trans ?_ (padded_low (h := Cert.ReferenceIdeal.Facts₀.pads_S4112x1024_S4224x1024_11200_000) p b hp).symm
    rw [rows, kept, if_neg (by show ¬ 112 ≤ p.val; omega), mul_zero]
  · refine Eq.trans ?_ ((padded_live (h := Cert.ReferenceIdeal.Facts₀.pads_S4112x1024_S4224x1024_11200_000) r b).trans (ref_rows _ _ _ _ _ r b)).symm
    rw [rows, kept, if_pos (by show 112 ≤ r.val + 112; omega), mul_one]
    refine congrFun (congr (congrArg grad ?_) ?_) b
    · exact funext fun k => f_live m c r k
    · exact funext fun k => congr (congrArg _ (congrArg _ (dy_live m c r k))) (gain_at m c k)

/-- The gain's gradient is the reference's. -/
theorem gain_grad_eq : gain (V m c main_v3) (V m c main_v4) = val_main_v49 (F := Ideal) (m ((c : Thread nD τ).loc main_arg0)) (m ((c : Thread nD τ).loc main_arg1)) (m ((c : Thread nD τ).loc main_arg2)) (m ((c : Thread nD τ).loc main_arg4)) := by
  refine ext2 fun z b => ?_
  rw [Subsingleton.elim z 0, ref_gain]
  refine (sum_rows _ fun p hp => ?_).trans (Finset.sum_congr rfl fun r _ => ?_)
  · have h0 : V m c main_v4 (ix2 p b) = (0 : EReal) := by rw [f_eq]; exact padded_low p b hp
    exact (congrArg (fun x : EReal => x * _ * _) h0).trans (by rw [zero_mul, zero_mul])
  · refine congr (congrArg _ (congr (congrArg _ (f_live m c r b)) (congrArg scale ?_))) (congrArg _ (dy_live m c r b))
    exact funext fun k => f_live m c r k

/-- The gradient that reaches the product, at a row that is not padding. -/
theorem back_live (r : Fin 4112) (j : Fin 2816) :
    back (n := 4224) (rows (V m c main_v3) (V m c main_v4) (V m c main_v5)) (V m c main_v6) (live r) j
      = back (n := 4112) (val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg2)) r j := by
  refine Finset.sum_congr rfl fun k _ => congr (congrArg _ ?_) (congrFun (w_eq m c) (ix2 j k))
  exact (congrFun (rows_eq m c) (ix2 (live r) k)).trans (padded_live (h := Cert.ReferenceIdeal.Facts₀.pads_S4112x1024_S4224x1024_11200_000) r k)

/-- At a row of padding it is zero. -/
theorem back_low (p : Fin 4224) (hp : p.val < 112) (j : Fin 2816) :
    back (n := 4224) (rows (V m c main_v3) (V m c main_v4) (V m c main_v5)) (V m c main_v6) p j = 0 := by
  refine Finset.sum_eq_zero fun k _ => ?_
  have e : rows (V m c main_v3) (V m c main_v4) (V m c main_v5) (ix2 p k) = 0 :=
    (congrFun (rows_eq m c) (ix2 p k)).trans (padded_low (h := Cert.ReferenceIdeal.Facts₀.pads_S4112x1024_S4224x1024_11200_000) p k hp)
  rw [e, zero_mul]

theorem g_live (r : Fin 4112) (j : Fin 2816) : V m c main_v8 (ix2 (live r) j) = (m ((c : Thread nD τ).loc main_arg0)) (ix2 r j) := by
  rw [g_eq]; exact padded_live r j

theorem u_live (r : Fin 4112) (j : Fin 2816) : V m c main_v10 (ix2 (live r) j) = (m ((c : Thread nD τ).loc main_arg1)) (ix2 r j) := by
  rw [u_eq]; exact padded_live r j

/-- Of real arguments, what reaches the product is real. -/
theorem back_real [Cert.Pre_finite.Facts] (h : Cert.Pre_KernelIdeal_finite m) (r : Fin 4112) (j : Fin 2816) :
    IsReal (back (n := 4112) (val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg2)) r j) := by
  obtain ⟨hg, hu, hw, hn, hy⟩ := reals m h c
  refine isReal_sum fun k => isReal_mul ?_ (hw _)
  rw [ref_rows]
  refine isReal_grad (fun k => ?_) (fun k => isReal_mul (isReal_mul ⟨_, word_half⟩ (hy _)) (hn _)) k
  rw [ref_f]
  exact isReal_sum fun j => isReal_mul (isReal_mul (isReal_mul (hg _) (isReal_logi (hg _))) (hu _)) (hw _)

/-- The gate's and the up projection's gradients are the reference's. -/
theorem gates_eq [Cert.Pre_finite.Facts] (h : Cert.Pre_KernelIdeal_finite m) :
    gates (n := 4224) (rows (V m c main_v3) (V m c main_v4) (V m c main_v5)) (V m c main_v6) (V m c main_v8) (V m c main_v10)
      = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨hg, hu, _⟩ := reals m h c
  refine ext2 fun p k => ?_
  rcases row_cases p with hp | ⟨r, rfl⟩
  · refine Eq.trans ?_ (padded_low (h := Cert.ReferenceIdeal.Facts₀.pads_S4112x5632_S4224x5632_11200_000) p k hp).symm
    rcases half_cases k with ⟨j, rfl⟩ | ⟨j, rfl⟩
    · exact (halves_left p j).trans (by rw [back_low m c p hp, gateG, zero_mul, zero_mul, zero_mul])
    · exact (halves_right p j).trans (by rw [back_low m c p hp, upG, zero_mul, zero_mul])
  · refine Eq.trans ?_ (padded_live (h := Cert.ReferenceIdeal.Facts₀.pads_S4112x5632_S4224x5632_11200_000) r k).symm
    rcases half_cases k with ⟨j, rfl⟩ | ⟨j, rfl⟩
    · refine (halves_left (live r) j).trans (Eq.trans ?_ (beside_left (h := Cert.ReferenceIdeal.Facts₀.concatenates_S4112x2816_S4112x2816_S4112x5632_d1) r j).symm)
      refine (congr (congr (congrArg gateG (back_live m c r j)) (u_live m c r j)) (g_live m c r j)).trans ?_
      exact (gate_eq (back_real m c h r j) (hu _) (hg _)).trans (ref_gate _ _ _ _ _ r j).symm
    · refine (halves_right (live r) j).trans (Eq.trans ?_ (beside_right (h := Cert.ReferenceIdeal.Facts₀.concatenates_S4112x2816_S4112x2816_S4112x5632_d1) r j).symm)
      refine (congr (congrArg upG (back_live m c r j)) (g_live m c r j)).trans ?_
      exact (up_eq (hg _)).trans (ref_up _ _ _ _ _ r j).symm

end Together

/-- The claim. -/
theorem algebraic [Cert.Pre_finite.Facts] : Cert.algebraic_KernelIdeal_ReferenceIdeal_pre_finite := fun m g m' g' h hag =>
  ⟨fun c => Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.ReferenceIdeal.Read.val_main_v49 (F := Ideal) (m ((c : Thread nD τ).loc main_arg0)) (m ((c : Thread nD τ).loc main_arg1)) (m ((c : Thread nD τ).loc main_arg2)) (m ((c : Thread nD τ).loc main_arg4)),
    fun c => Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun r hr c => ⟨(hr c).1.trans ((rows_final m c).trans (rows_eq m c)),
      (hr c).2.1.trans ((gain_final m c).trans (gain_grad_eq m c)),
      (hr c).2.2.1.trans ((gates_final m c).trans (gates_eq m c h)), (hr c).2.2.2⟩) (Value.run_blocks m g),
    (θ_run _ _ _).mono (fun r hr c => ⟨(hr c).1.trans (by
        rw [Cert.ReferenceIdeal.Read.val_main_v48_eq, (hag c).1, (hag c).2.1, (hag c).2.2.1, (hag c).2.2.2.1, (hag c).2.2.2.2]),
      (hr c).2.1.trans (by
        rw [Cert.ReferenceIdeal.Read.val_main_v49_eq, (hag c).1, (hag c).2.1, (hag c).2.2.1, (hag c).2.2.2.2]),
      (hr c).2.2.1.trans (by
        rw [Cert.ReferenceIdeal.Read.val_main_v52_eq, (hag c).1, (hag c).2.1, (hag c).2.2.1, (hag c).2.2.2.1, (hag c).2.2.2.2]),
      (hr c).2.2.2⟩)
      (Cert.ReferenceIdeal.Value.run m' g')⟩

end Cert.KernelIdeal.Tied

end
-- ==== Proof.UpBackward.lean ====
/-
  The gradient of the feed-forward block through its gate and up projections and its normalisation: the rows' gradient
  and the gain's, block by block over the 4224 padded rows, are the reference's over the 4112 rows.
-/
module

public import proofs.«01_k».proof.Proof.Rows
public import proofs.«01_k».proof.Proof.Norm
public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.Tied

open Cert.Kernel2Ideal Cert.Kernel2Ideal.Gen Cert.Rows Cert.Norm

variable (m : (ℓ : Loc nD τ sig) → Buf (Elt Ideal) ℓ)

/-- `dg` and `du` side by side, at region entry. -/
theorem dgu_eq (c : Dev nD) : V m c main_v6 = padded (concatenate S4112x5632 1 [⟨S4112x2816, m ((c : Thread nD τ).loc main_arg5)⟩,
    ⟨S4112x2816, m ((c : Thread nD τ).loc main_arg6)⟩] concatenates_S4112x2816_S4112x2816_S4112x5632_d1)
    pads_S4112x5632_S4224x5632_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The two weights, transposed, one above the other. -/
theorem w_eq (c : Dev nD) : V m c main_v3 = concatenate S5632x1024 0
    [⟨S2816x1024, transpose S2816x1024 [1, 0] (m ((c : Thread nD τ).loc main_arg2)) transposes_S1024x2816_S2816x1024_1_0⟩,
    ⟨S2816x1024, transpose S2816x1024 [1, 0] (m ((c : Thread nD τ).loc main_arg3)) transposes_S1024x2816_S2816x1024_1_0⟩]
    concatenates_S2816x1024_S2816x1024_S5632x1024_d0 := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block's input at region entry. -/
theorem h_eq (c : Dev nD) : V m c main_v7 = padded (m ((c : Thread nD τ).loc main_arg0)) pads_S4112x1024_S4224x1024_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The gain at region entry. -/
theorem gain_eq (c : Dev nD) : V m c main_v8 = shapeCast S1x1024 (m ((c : Thread nD τ).loc main_arg1)) shapeCasts_S1024_S1x1024 := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The gradient that passes the block by, at region entry. -/
theorem dho_eq (c : Dev nD) : V m c main_v9 = padded (m ((c : Thread nD τ).loc main_arg4)) pads_S4112x1024_S4224x1024_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The block every window is at. -/
theorem idx : ∀ t, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ (grid0.coords t 0).val = t.val := by decide +kernel

/-- Row `i` of a matrix times column `b` of another. -/
def entry {n : Nat} (x : (⟨2, ![n, 5632]⟩ : Shape).Idx → EReal) (y : (⟨2, ![5632, 1024]⟩ : Shape).Idx → EReal) (i : Fin n)
    (b : Fin 1024) : EReal := ∑ k : Fin 5632, x (ix2 i k) * y (ix2 k b)

/-- What one block adds to the gain's gradient. -/
theorem pay_gain (x : Vec Ideal S384x5632 .bf16) (y : Vec Ideal S5632x1024 .bf16) (f : Vec Ideal S384x1024 .f32) (b : Fin 1024) :
    k0_pay8 x y f (ix2 0 b) = ∑ i : Fin 384, f (ix2 i b) * scale (fun k => f (ix2 i k)) * entry x y i b := by
  unfold_payloads
  pointwise [dot_S384x5632_S5632x1024_S384x1024_1_0_0_1_n_n]
  rfl

/-- One block of the rows' gradient through the normalisation. -/
theorem pay_rows (x : Vec Ideal S384x5632 .bf16) (y : Vec Ideal S5632x1024 .bf16) (f : Vec Ideal S384x1024 .f32)
    (w : Vec Ideal S1x1024 .f32) (i : Fin 384) (b : Fin 1024) :
    k0_pay9 x y f w (ix2 i b) = grad (fun k => f (ix2 i k)) (fun k => entry x y i k * w (ix2 0 k)) b := by
  unfold_payloads
  pointwise [dot_S384x5632_S5632x1024_S384x1024_1_0_0_1_n_n]
  simp only [Fin.sum_univ_one]
  rfl

/-- What the body stores of the rows' gradient, masked. -/
theorem pay_out (n : Fin 11) (x y : Vec Ideal S384x1024 .f32) (i : Fin 384) (b : Fin 1024) :
    k0_pay1 (BitVec.ofNat 32 n.val) x y (ix2 i b) = (y (ix2 i b) + x (ix2 i b)) * kept (n.val * 384 + i.val) := by
  rw [← mask_eq]
  unfold_payloads
  pointwise []

/-- The rows' gradient from the arrays at region entry. -/
def rows (x : S4224x5632.Idx → EReal) (y : S5632x1024.Idx → EReal) (f : S4224x1024.Idx → EReal) (w : S1x1024.Idx → EReal)
    (d : S4224x1024.Idx → EReal) : S4224x1024.Idx → EReal := fun i =>
  (d (ix2 (i 0) (i 1)) + grad (fun k => f (ix2 (i 0) k)) (fun k => entry x y (i 0) k * w (ix2 0 k)) (i 1)) * kept (i 0).val

section Blocks
variable (c : Dev nD) (t : Fin cfg0.N) (i : Fin 384)

theorem blk_dgu (k : Fin 5632) : iblk m c 0 t (ix2 i k) = V m c main_v6 (ix2 (at_ t i) k) := by blk_ext [iblk, idx t]
theorem blk_w (k : Fin 5632) (b : Fin 1024) : iblk m c 1 t (ix2 k b) = V m c main_v3 (ix2 k b) := by blk_ext [iblk, idx t]
theorem blk_h (k : Fin 1024) : iblk m c 2 t (ix2 i k) = V m c main_v7 (ix2 (at_ t i) k) := by blk_ext [iblk, idx t]
theorem blk_gain (k : Fin 1024) : iblk m c 3 t (ix2 0 k) = V m c main_v8 (ix2 0 k) := by blk_ext [iblk, idx t]
theorem blk_dho (k : Fin 1024) : iblk m c 4 t (ix2 i k) = V m c main_v9 (ix2 (at_ t i) k) := by blk_ext [iblk, idx t]

theorem blk_entry (b : Fin 1024) : entry (n := 384) (iblk m c 0 t) (iblk m c 1 t) i b = entry (n := 4224) (V m c main_v6) (V m c main_v3) (at_ t i) b :=
  Finset.sum_congr rfl fun k _ => congr (congrArg _ (blk_dgu m c t i k)) (blk_w m c t k b)

/-- The block of rows' gradient the body stores at point `t`. -/
theorem stored (b : Fin 1024) : k0_pay1 (BitVec.ofNat 32 (grid0.coords t 0).val)
    (k0_pay9 (iblk m c 0 t) (iblk m c 1 t) (iblk m c 2 t) (iblk m c 3 t)) (iblk m c 4 t) (ix2 i b)
      = rows (V m c main_v6) (V m c main_v3) (V m c main_v7) (V m c main_v8) (V m c main_v9) (ix2 (at_ t i) b) := by
  rw [(idx t).2.2.2.2.2.2.2, pay_out t, pay_rows]
  simp only [blk_entry, blk_gain, blk_h, blk_dho]
  rfl

end Blocks

/-- The rows' gradient after the run. -/
theorem rows_final (c : Dev nD) : (dats m 0 c).arrAt 5 cfg0.N
    = rows (V m c main_v6) (V m c main_v3) (V m c main_v7) (V m c main_v8) (V m c main_v9) := by
  refine (dats m 0 c).arrAt_eq_of_covers 5 _ (by decide +kernel) fun t hf y => ?_
  have e : (((View.whole main_v10_0).slice (win0_5.rect t)).emb y) = ix2 (at_ t (y 0)) (y 1) := by
    blk_ext [idx t]
  blk_simp
  rw [after0_5]
  have e' := (congrArg _ (eq_ix2 y)).trans ((stored m c t (y 0) (y 1)).trans (congrArg _ e.symm))
  by_cases h : t.val % 11 = 0
  · rw [outsAt0_A m c t h]
    frame_out
    exact e'
  · rw [outsAt0_B m c t h]
    frame_out
    exact e'

/-- What one row adds to the gain's gradient. -/
def part {n : Nat} (x : (⟨2, ![n, 5632]⟩ : Shape).Idx → EReal) (y : S5632x1024.Idx → EReal)
    (f : (⟨2, ![n, 1024]⟩ : Shape).Idx → EReal) (p : Fin n) (b : Fin 1024) : EReal :=
  f (ix2 p b) * scale (fun k => f (ix2 p k)) * entry x y p b

/-- The gain's gradient from the arrays at region entry. -/
def gain (x : S4224x5632.Idx → EReal) (y : S5632x1024.Idx → EReal) (f : S4224x1024.Idx → EReal) : S1x1024.Idx → EReal :=
  fun i => ∑ p : Fin 4224, part x y f p (i 1)

/-- What one block adds to it. -/
theorem pay_acc (z v : Vec Ideal S1x1024 .f32) (b : Fin 1024) : k0_pay3 z v (ix2 0 b) = v (ix2 0 b) + z (ix2 0 b) := by
  unfold_payloads
  pointwise []

/-- The accumulator starts at zero. -/
theorem pay_zero (b : Fin 1024) : k0_pay2 (F := Ideal) (ix2 0 b) = 0 := by
  unfold_payloads
  pointwise []

/-- What point `t` adds, over the rows of its block. -/
theorem added (c : Dev nD) (t : Fin cfg0.N) (b : Fin 1024) : k0_pay8 (iblk m c 0 t) (iblk m c 1 t) (iblk m c 2 t) (ix2 0 b)
    = ∑ i : Fin 384, part (n := 4224) (V m c main_v6) (V m c main_v3) (V m c main_v7) (at_ t i) b := by
  rw [pay_gain]
  simp only [blk_entry, blk_h]
  rfl

/-- The last grid point. -/
abbrev last : Fin cfg0.N := ⟨10, by decide⟩

theorem acc (c : Dev nD) (b : Fin 1024) : (outsAt0 m c last.val last.isLt).2 (ix2 0 b)
    = ∑ t : Fin 11, k0_pay8 (iblk m c 0 t) (iblk m c 1 t) (iblk m c 2 t) (ix2 0 b) :=
  (Pipeline.eq_sum_fin_of_reset_step_apply_last (fun n h b => (outsAt0 m c n h).2 (ix2 0 b)) 11 (fun _ => 0)
      (fun t b => k0_pay8 (iblk m c 0 t) (iblk m c 1 t) (iblk m c 2 t) (ix2 0 b))
      (fun t h j => by rw [outsAt0_A m c t h]; frame_out; rw [pay_acc, pay_zero])
      (fun t h j => by rw [outsAt0_B m c t h]; frame_out; rw [pay_acc])
      (by decide) last rfl b).trans (zero_add _)

/-- The gain's gradient after the run. -/
theorem gain_final (c : Dev nD) : (dats m 0 c).arrAt 6 cfg0.N = gain (V m c main_v6) (V m c main_v3) (V m c main_v7) := by
  refine (dats m 0 c).arrAt_eq_of_after_last 6 last (by decide +kernel) _ fun j => ?_
  rw [after0_6]
  have h0 : (j 0).val < 1 := (j 0).isLt
  have hj : j = ix2 0 (j 1) := at2 (by show (j 0).val = 0; omega) rfl
  have eb : (cfg0.win 6).arr.view.emb j = ix2 0 (j 1) := at2 (by show (j 0).val = 0; omega) rfl
  rw [eb]
  refine (congrArg (outsAt0 m c last.val last.isLt).2 hj).trans ((acc m c (j 1)).trans ?_)
  refine Eq.trans ?_ (Fin.sum_mul_add_fin (n := 384) (L := 4224) 11 _ rfl)
  exact Finset.sum_congr rfl fun t _ => added m c t (j 1)

section Reference
open Cert.Reference2Ideal.Read

variable (x0 : S4112x1024.Idx → EReal) (x1 : S1024.Idx → EReal) (x2 x3 : S1024x2816.Idx → EReal) (x4 : S4112x1024.Idx → EReal)
  (x5 x6 : S4112x2816.Idx → EReal) (r : Fin 4112) (b : Fin 1024)

theorem ref_prod : val_main_v20 (F := Ideal) x2 x3 x5 x6 (ix2 r b)
    = (∑ k : Fin 2816, x6 (ix2 r k) * x3 (ix2 b k)) + ∑ k : Fin 2816, x5 (ix2 r k) * x2 (ix2 b k) := by
  pointwise [val_main_v20, val_main_v19, val_main_v18, Cert.Reference2Ideal.dot_S4112x2816_S1024x2816_S4112x1024_1_1_0_0_n_n]

theorem ref_rows : val_main_v41 (F := Ideal) x0 x1 x2 x3 x4 x5 x6 (ix2 r b) = x4 (ix2 r b)
    + grad (fun k => x0 (ix2 r k)) (fun k => val_main_v20 (F := Ideal) x2 x3 x5 x6 (ix2 r k) * x1 (ix1 k)) b := by
  pointwise [val_main_v0, val_main_v1, val_main_v2, val_main_v3, val_main_v4, val_main_v5, val_main_v6, val_main_v7,
    val_main_v8, val_main_v9, val_main_v10, val_main_v13, val_main_v24, val_main_v25, val_main_v27, val_main_v28, val_main_v29,
    val_main_v30, val_main_v31, val_main_v32, val_main_v33, val_main_v34, val_main_v35, val_main_v36, val_main_v37, val_main_v38, val_main_v39,
    val_main_v40, val_main_v41, val_main_cst, val_main_cst_0, val_main_cst_1, val_main_cst_2, val_main_cst_5, val_main_cst_6, val_main_cst_7]
  simp only [Fin.sum_univ_one]
  exact add_last _ _ _ _

theorem ref_gain : val_main_v43 (F := Ideal) x0 x2 x3 x5 x6 (ix2 0 b) = ∑ r : Fin 4112, x0 (ix2 r b) * scale (fun k => x0 (ix2 r k))
    * val_main_v20 (F := Ideal) x2 x3 x5 x6 (ix2 r b) := by
  pointwise [val_main_v0, val_main_v1, val_main_v2, val_main_v3, val_main_v4, val_main_v5, val_main_v6, val_main_v7,
    val_main_v11, val_main_v12, val_main_v21, val_main_v22, val_main_v23, val_main_v26, val_main_v43, val_main_cst_3, val_main_cst_4,
    val_main_cst, val_main_cst_0, val_main_cst_1]
  simp only [Fin.sum_univ_one]
  rfl

end Reference

section Together
open Cert.Reference2Ideal.Read
variable (c : Dev nD)

/-- The products agree at a row that is not padding. -/
theorem entry_live (r : Fin 4112) (b : Fin 1024) : entry (n := 4224) (V m c main_v6) (V m c main_v3) (live r) b
    = val_main_v20 (F := Ideal) (m ((c : Thread nD τ).loc main_arg2)) (m ((c : Thread nD τ).loc main_arg3))
      (m ((c : Thread nD τ).loc main_arg5)) (m ((c : Thread nD τ).loc main_arg6)) (ix2 r b) := by
  rw [ref_prod, entry, dgu_eq, w_eq, sum_halves, add_comm]
  congr 1
  · refine Finset.sum_congr rfl fun k _ => ?_
    rw [padded_live, beside_right r k, above_bottom k b]
    pointwise []
  · refine Finset.sum_congr rfl fun k _ => ?_
    rw [padded_live, beside_left r k, above_top k b]
    pointwise []

/-- The input's rows, read where they are not padding. -/
theorem h_live (r : Fin 4112) (k : Fin 1024) : V m c main_v7 (ix2 (live r) k) = m ((c : Thread nD τ).loc main_arg0) (ix2 r k) := by
  rw [h_eq]; exact padded_live r k

/-- The gradient that passes by, read where it is not padding. -/
theorem dho_live (r : Fin 4112) (k : Fin 1024) : V m c main_v9 (ix2 (live r) k) = m ((c : Thread nD τ).loc main_arg4) (ix2 r k) := by
  rw [dho_eq]; exact padded_live r k

/-- The gain, read at an entry. -/
theorem gain_at (k : Fin 1024) : V m c main_v8 (ix2 0 k) = m ((c : Thread nD τ).loc main_arg1) (ix1 k) := by
  rw [gain_eq]
  pointwise []

/-- The rows' gradient is the reference's. -/
theorem rows_eq : rows (V m c main_v6) (V m c main_v3) (V m c main_v7) (V m c main_v8) (V m c main_v9)
    = val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine ext2 fun p b => ?_
  rcases row_cases p with hp | ⟨r, rfl⟩
  · refine Eq.trans ?_ (padded_low p b hp).symm
    rw [rows, kept, if_neg (by show ¬ 112 ≤ p.val; omega), mul_zero]
  · refine Eq.trans ?_ ((padded_live r b).trans (ref_rows _ _ _ _ _ _ _ r b)).symm
    rw [rows, kept, if_pos (by show 112 ≤ r.val + 112; omega), mul_one]
    refine congr (congrArg _ (dho_live m c r b)) (congrFun (congr (congrArg grad ?_) ?_) b)
    · exact funext fun k => h_live m c r k
    · exact funext fun k => congr (congrArg _ (entry_live m c r k)) (gain_at m c k)

/-- The gain's gradient is the reference's. -/
theorem gain_grad_eq : gain (V m c main_v6) (V m c main_v3) (V m c main_v7)
    = val_main_v43 (F := Ideal) (m ((c : Thread nD τ).loc main_arg0)) (m ((c : Thread nD τ).loc main_arg2)) (m ((c : Thread nD τ).loc main_arg3))
      (m ((c : Thread nD τ).loc main_arg5)) (m ((c : Thread nD τ).loc main_arg6)) := by
  refine ext2 fun z b => ?_
  rw [Subsingleton.elim z 0, ref_gain]
  refine (sum_rows _ fun p hp => ?_).trans (Finset.sum_congr rfl fun r _ => ?_)
  · have h0 : V m c main_v7 (ix2 p b) = (0 : EReal) := by rw [h_eq]; exact padded_low p b hp
    exact (congrArg (fun x : EReal => x * _ * _) h0).trans (by rw [zero_mul, zero_mul])
  · refine congr (congrArg _ (congr (congrArg _ (h_live m c r b)) (congrArg scale ?_))) (entry_live m c r b)
    exact funext fun k => h_live m c r k

end Together

/-- The claim. -/
theorem algebraic : Cert.algebraic_Kernel2Ideal_Reference2Ideal := fun m g m' g' _ hag =>
  ⟨fun c => Cert.Reference2Ideal.Read.val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)),
    fun c => Cert.Reference2Ideal.Read.val_main_v43 (F := Ideal) (m ((c : Thread nD τ).loc main_arg0)) (m ((c : Thread nD τ).loc main_arg2)) (m ((c : Thread nD τ).loc main_arg3))
      (m ((c : Thread nD τ).loc main_arg5)) (m ((c : Thread nD τ).loc main_arg6)),
    (θ_run _ _ _).mono (fun r h c => ⟨(h c).1.trans ((rows_final m c).trans (rows_eq m c)),
      (h c).2.1.trans ((gain_final m c).trans (gain_grad_eq m c)), (h c).2.2⟩) (Value.run_blocks m g),
    (θ_run _ _ _).mono (fun r h c => ⟨(h c).1.trans (by
        rw [Cert.Reference2Ideal.Read.val_main_v42_eq, (hag c).1, (hag c).2.1, (hag c).2.2.1, (hag c).2.2.2.1,
          (hag c).2.2.2.2.1, (hag c).2.2.2.2.2.1, (hag c).2.2.2.2.2.2]),
      (h c).2.1.trans (by
        rw [Cert.Reference2Ideal.Read.val_main_v43_eq, (hag c).1, (hag c).2.2.1, (hag c).2.2.2.1,
          (hag c).2.2.2.2.2.1, (hag c).2.2.2.2.2.2]), (h c).2.2⟩)
      (Cert.Reference2Ideal.Value.run m' g')⟩

end Cert.Kernel2Ideal.Tied

end
-- ==== Proof.GateUpWeights.lean ====
/-
  The gradient of the feed-forward block's gate and up projections, in one product: `[dg | du]` transposed against the
  normalised rows, over the 4224 padded rows, is the reference's two products over the 4112 rows, one above the other.
-/
module

public import proofs.«01_k».proof.Proof.Rows
public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Tied

open Cert.Kernel3Ideal Cert.Kernel3Ideal.Gen Cert.Rows

variable (m : (ℓ : Loc nD τ sig) → Buf (Elt Ideal) ℓ)

/-- The first operand at region entry: `dg` and `du` side by side, padded. -/
theorem left_eq (c : Dev nD) : V m c main_v2 = padded (concatenate S4112x5632 1 [⟨S4112x2816, m ((c : Thread nD τ).loc main_arg2)⟩,
    ⟨S4112x2816, m ((c : Thread nD τ).loc main_arg3)⟩] concatenates_S4112x2816_S4112x2816_S4112x5632_d1)
    pads_S4112x5632_S4224x5632_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The second operand at region entry: the normalised rows, padded. -/
theorem right_eq (c : Dev nD) : V m c main_v17 = padded (Cert.Reference3Ideal.Read.val_main_v13 (F := Ideal)
    (m ((c : Thread nD τ).loc main_arg0)) (m ((c : Thread nD τ).loc main_arg1))) pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![0, t.val] ∧ win0_1.index t = ![0, 0] ∧ win0_2.index t = ![t.val, 0] := by decide +kernel

/-- What the body stores: one block of columns of the product. -/
theorem pay (x : Vec Ideal S4224x512 .bf16) (y : Vec Ideal S4224x1024 .bf16) (j : S512x1024.Idx) :
    k0_pay1 x y j = ∑ p : Fin 4224, x (ix2 p (j 0)) * y (ix2 p (j 1)) := by
  unfold_payloads
  pointwise [dot_S4224x512_S4224x1024_S512x1024_0_0_1_1_n_n]

/-- The result array after the run: the product of the two arrays at region entry. -/
theorem final (c : Dev nD) : (dats m 0 c).arrAt 2 cfg0.N = tn (V m c main_v2) (V m c main_v17) := by
  refine (dats m 0 c).arrAt_eq_of_covers 2 _ (by decide +kernel) fun t hf y => ?_
  blk_simp
  rw [after0_2]
  frame_out
  rw [pay]
  refine Finset.sum_congr (M := EReal) rfl fun k _ => ?_
  congr 1 <;> blk_ext [iblk, idx t]

open Cert.Reference3Ideal.Read in
/-- The product over the padded rows is the reference's two products over the 4112. -/
theorem product_eq (c : Dev nD) : tn (V m c main_v2) (V m c main_v17) = val_main_v23 (F := Ideal)
    (m ((c : Thread nD τ).loc main_arg0)) (m ((c : Thread nD τ).loc main_arg1))
    (m ((c : Thread nD τ).loc main_arg2)) (m ((c : Thread nD τ).loc main_arg3)) := by
  refine ext2 fun a b => ?_
  rw [left_eq, right_eq]
  refine (tn_padded a b).trans ?_
  rw [val_main_v23_apply]
  rcases half_cases a with ⟨k, rfl⟩ | ⟨k, rfl⟩
  · refine Eq.trans ?_ (above_top (h := Cert.Reference3Ideal.Facts₀.concatenates_S2816x1024_S2816x1024_S5632x1024_d0) k b).symm
    rw [val_main_v20_apply, val_main_v19_apply]
    refine Eq.trans ?_ (val_main_v18_apply _ _ _ _).symm
    refine Finset.sum_congr rfl fun r _ => ?_
    rw [beside_left r k]
    congr 2 <;> exact (at2 rfl rfl).symm
  · refine Eq.trans ?_ (above_bottom (h := Cert.Reference3Ideal.Facts₀.concatenates_S2816x1024_S2816x1024_S5632x1024_d0) k b).symm
    rw [val_main_v21_apply, val_main_v17_apply]
    refine Eq.trans ?_ (val_main_v16_apply _ _ _ _).symm
    refine Finset.sum_congr rfl fun r _ => ?_
    rw [beside_right r k]
    congr 2 <;> exact (at2 rfl rfl).symm

/-- The claim. -/
theorem algebraic : Cert.algebraic_Kernel3Ideal_Reference3Ideal := fun m g m' g' _ hag =>
  ⟨fun c => Cert.Reference3Ideal.Read.val_main_v23 (F := Ideal)
    (m ((c : Thread nD τ).loc main_arg0)) (m ((c : Thread nD τ).loc main_arg1))
    (m ((c : Thread nD τ).loc main_arg2)) (m ((c : Thread nD τ).loc main_arg3)),
    (θ_run _ _ _).mono (fun r h c => ⟨(h c).1.trans ((final m c).trans (product_eq m c)), (h c).2⟩) (Value.run_blocks m g),
    (θ_run _ _ _).mono (fun r h c => ⟨(h c).1.trans (by
      rw [Cert.Reference3Ideal.Read.val_main_v23_eq, (hag c).1, (hag c).2.1, (hag c).2.2.1, (hag c).2.2.2]), (h c).2⟩)
      (Cert.Reference3Ideal.Value.run m' g')⟩

end Cert.Kernel3Ideal.Tied

end
-- ==== Proof.DownWeights.lean ====
/-
  The gradient of the feed-forward block's down projection: the product `silu(g) * u` transposed against the incoming
  gradient, column block by column block over the 4224 padded rows, is the reference's product over the 4112 rows.
-/
module

public import proofs.«01_k».proof.Proof.Rows
public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Tied

open Cert.Kernel4Ideal Cert.Kernel4Ideal.Gen Cert.Rows

variable (m : (ℓ : Loc nD τ sig) → Buf (Elt Ideal) ℓ)

/-- The first operand at region entry: `silu(g) * u`, padded. -/
theorem left_eq (c : Dev nD) : V m c main_v3 = padded (Cert.Reference4Ideal.Read.val_main_v2 (F := Ideal)
    (m ((c : Thread nD τ).loc main_arg0)) (m ((c : Thread nD τ).loc main_arg1))) pads_S4112x2816_S4224x2816_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The second operand at region entry: the incoming gradient, padded. -/
theorem right_eq (c : Dev nD) : V m c main_v5 = padded (m ((c : Thread nD τ).loc main_arg2)) pads_S4112x1024_S4224x1024_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![0, t.val] ∧ win0_1.index t = ![0, 0] ∧ win0_2.index t = ![t.val, 0] := by decide +kernel

/-- What the body stores: one block of columns of the product. -/
theorem pay (x : Vec Ideal S4224x256 .bf16) (y : Vec Ideal S4224x1024 .bf16) (j : S256x1024.Idx) :
    k0_pay1 x y j = ∑ p : Fin 4224, x (ix2 p (j 0)) * y (ix2 p (j 1)) := by
  unfold_payloads
  pointwise [dot_S4224x256_S4224x1024_S256x1024_0_0_1_1_n_n]

/-- The result array after the run: the product of the two arrays at region entry. -/
theorem final (c : Dev nD) : (dats m 0 c).arrAt 2 cfg0.N = tn (V m c main_v3) (V m c main_v5) := by
  refine (dats m 0 c).arrAt_eq_of_covers 2 _ (by decide +kernel) fun t hf y => ?_
  blk_simp
  rw [after0_2]
  frame_out
  rw [pay]
  refine Finset.sum_congr (M := EReal) rfl fun k _ => ?_
  congr 1 <;> blk_ext [iblk, idx t]

open Cert.Reference4Ideal.Read in
/-- The product over the padded rows is the reference's over the 4112. -/
theorem product_eq (c : Dev nD) : tn (V m c main_v3) (V m c main_v5) = Cert.Reference4Ideal.Read.val_main_v6 (F := Ideal)
    (m ((c : Thread nD τ).loc main_arg0)) (m ((c : Thread nD τ).loc main_arg1)) (m ((c : Thread nD τ).loc main_arg2)) := by
  refine ext2 fun a b => ?_
  rw [left_eq, right_eq]
  refine (tn_padded a b).trans ?_
  rw [val_main_v6_apply, val_main_v5_apply]
  refine Eq.trans ?_ (val_main_v4_apply _ _ _ _).symm
  refine Finset.sum_congr rfl fun r _ => (mul_comm _ _).trans ?_
  congr 2 <;> exact (at2 rfl rfl).symm

/-- The claim. -/
theorem algebraic : Cert.algebraic_Kernel4Ideal_Reference4Ideal := fun m g m' g' _ hag =>
  ⟨fun c => Cert.Reference4Ideal.Read.val_main_v6 (F := Ideal)
    (m ((c : Thread nD τ).loc main_arg0)) (m ((c : Thread nD τ).loc main_arg1)) (m ((c : Thread nD τ).loc main_arg2)),
    (θ_run _ _ _).mono (fun r h c => ⟨(h c).1.trans ((final m c).trans (product_eq m c)), (h c).2⟩) (Value.run_blocks m g),
    (θ_run _ _ _).mono (fun r h c => ⟨(h c).1.trans (by
      rw [Cert.Reference4Ideal.Read.val_main_v6_eq, (hag c).1, (hag c).2.1, (hag c).2.2]), (h c).2⟩)
      (Cert.Reference4Ideal.Value.run m' g')⟩

end Cert.Kernel4Ideal.Tied

end
-- ==== Proof.UpForward.lean ====
/-
  The feed-forward block, forward, through its normalisation, its gate and up projections and their gated product: over
  the 4224 padded rows, block by block, the kernel's arrays are the reference's.
-/
module

public import proofs.«01_k».proof.Proof.Rows
public import proofs.«01_k».proof.Proof.Norm
public import proofs.«01_k».proof.Proof.Reals
public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.Tied

open Cert.Kernel5Ideal Cert.Kernel5Ideal.Gen Cert.Rows Cert.Norm Cert.Reals

variable (m : (ℓ : Loc nD τ sig) → Buf (Elt Ideal) ℓ)

/-- The rows at region entry. -/
theorem h_eq (c : Dev nD) : V m c main_v4 = padded (m ((c : Thread nD τ).loc main_arg0)) pads_S4112x1024_S4224x1024_11200_000 h_S_ := by
  simp only [V, hostOps0, hostOps0_1, hostOps0_2, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The gain at region entry. -/
theorem gain_eq (c : Dev nD) : V m c main_v5 = shapeCast S1x1024 (m ((c : Thread nD τ).loc main_arg1)) shapeCasts_S1024_S1x1024 := by
  simp only [V, hostOps0, hostOps0_1, hostOps0_2, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The two weights at region entry, transposed, one above the other. -/
theorem w_eq (c : Dev nD) : V m c main_v3 = concatenate S5632x1024 0
    [⟨S2816x1024, transpose S2816x1024 [1, 0] (m ((c : Thread nD τ).loc main_arg2)) transposes_S1024x2816_S2816x1024_1_0⟩,
    ⟨S2816x1024, transpose S2816x1024 [1, 0] (m ((c : Thread nD τ).loc main_arg3)) transposes_S1024x2816_S2816x1024_1_0⟩]
    concatenates_S2816x1024_S2816x1024_S5632x1024_d0 := by
  simp only [V, hostOps0, hostOps0_1, hostOps0_2, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] := by decide +kernel

section Arrays
variable {n : Nat} (f : (⟨2, ![n, 1024]⟩ : Shape).Idx → EReal) (w : S1x1024.Idx → EReal) (y : S5632x1024.Idx → EReal)

/-- The normalised rows. -/
def hn (i : Fin n) (b : Fin 1024) : EReal := normed (fun k => f (ix2 i k)) (fun k => w (ix2 0 k)) b

/-- Their product with the first of the two weights. -/
def gate (i : Fin n) (k : Fin 2816) : EReal := ∑ b : Fin 1024, hn f w i b * y (ix2 ⟨k.val, by omega⟩ b)

/-- Their product with the second. -/
def up (i : Fin n) (k : Fin 2816) : EReal := ∑ b : Fin 1024, hn f w i b * y (ix2 ⟨2816 + k.val, by omega⟩ b)

/-- The gated product. -/
def act (i : Fin n) (k : Fin 2816) : EReal := gate f w y i k * logi (gate f w y i k) * up f w y i k

end Arrays

section Payloads
variable (x : Vec Ideal S384x1024 .f32) (w : Vec Ideal S1x1024 .f32) (y : Vec Ideal S5632x1024 .bf16) (i : Fin 384)

theorem pay_hn (b : Fin 1024) : k0_pay1 x w (ix2 i b) = hn x w i b := by
  unfold_payloads
  pointwise []
  rfl

theorem pay_gate (k : Fin 2816) : k0_pay3 x w y (ix2 i k) = gate x w y i k := by
  unfold k0_pay3 k0_pay2
  pointwise [dot_S384x1024_S5632x1024_S384x5632_1_1_0_0_n_n]
  simp only [pay_hn]
  rfl

theorem pay_up (k : Fin 2816) : k0_pay4 x w y (ix2 i k) = up x w y i k := by
  unfold k0_pay4 k0_pay2
  pointwise [dot_S384x1024_S5632x1024_S384x5632_1_1_0_0_n_n]
  simp only [pay_hn]
  rfl

theorem pay_act (k : Fin 2816) : k0_pay7 x w y (ix2 i k) = act x w y i k := by
  unfold k0_pay7
  pointwise []
  rw [pay_gate, pay_up, act, ← logiT_eq_all, logiT, ← half_words]

end Payloads

section Blocks
variable (c : Dev nD) (t : Fin cfg0.N) (i : Fin 384)

theorem blk_h (k : Fin 1024) : iblk m c 0 t (ix2 i k) = V m c main_v4 (ix2 (at_ t i) k) := by blk_ext [iblk, idx t]
theorem blk_gain (k : Fin 1024) : iblk m c 1 t (ix2 0 k) = V m c main_v5 (ix2 0 k) := by blk_ext [iblk, idx t]
theorem blk_w (k : Fin 5632) (b : Fin 1024) : iblk m c 2 t (ix2 k b) = V m c main_v3 (ix2 k b) := by blk_ext [iblk, idx t]

theorem blk_hn (b : Fin 1024) : hn (n := 384) (iblk m c 0 t) (iblk m c 1 t) i b
    = hn (n := 4224) (V m c main_v4) (V m c main_v5) (at_ t i) b := by
  simp only [hn, blk_h, blk_gain]

theorem blk_gate (k : Fin 2816) : gate (n := 384) (iblk m c 0 t) (iblk m c 1 t) (iblk m c 2 t) i k
    = gate (n := 4224) (V m c main_v4) (V m c main_v5) (V m c main_v3) (at_ t i) k := by
  simp only [gate, blk_hn, blk_w]

theorem blk_up (k : Fin 2816) : up (n := 384) (iblk m c 0 t) (iblk m c 1 t) (iblk m c 2 t) i k
    = up (n := 4224) (V m c main_v4) (V m c main_v5) (V m c main_v3) (at_ t i) k := by
  simp only [up, blk_hn, blk_w]

theorem blk_act (k : Fin 2816) : act (n := 384) (iblk m c 0 t) (iblk m c 1 t) (iblk m c 2 t) i k
    = act (n := 4224) (V m c main_v4) (V m c main_v5) (V m c main_v3) (at_ t i) k := by
  simp only [act, blk_gate, blk_up]

end Blocks

/-- The normalised rows after the run. -/
theorem hn_final (c : Dev nD) : (dats m 0 c).arrAt 3 cfg0.N = fun i : S4224x1024.Idx => hn (V m c main_v4) (V m c main_v5) (i 0) (i 1) := by
  refine (dats m 0 c).arrAt_eq_of_covers 3 _ (by decide +kernel) fun t hf y => ?_
  have e : (((View.whole main_v6_0).slice (win0_3.rect t)).emb y) = ix2 (at_ t (y 0)) (y 1) := by
    blk_ext [idx t]
  blk_simp
  rw [after0_3, e]
  frame_out
  refine (congrArg _ (eq_ix2 y)).trans ?_
  exact (pay_hn _ _ (y 0) (y 1)).trans (blk_hn m c t (y 0) (y 1))

/-- The first product after the run. -/
theorem gate_final (c : Dev nD) : (dats m 0 c).arrAt 4 cfg0.N = fun i : S4224x2816.Idx => gate (V m c main_v4) (V m c main_v5) (V m c main_v3) (i 0) (i 1) := by
  refine (dats m 0 c).arrAt_eq_of_covers 4 _ (by decide +kernel) fun t hf y => ?_
  have e : (((View.whole main_v6_1).slice (win0_4.rect t)).emb y) = ix2 (at_ t (y 0)) (y 1) := by
    blk_ext [idx t]
  blk_simp
  rw [after0_4, e]
  frame_out
  refine (congrArg _ (eq_ix2 y)).trans ?_
  exact (pay_gate _ _ _ (y 0) (y 1)).trans (blk_gate m c t (y 0) (y 1))

/-- The second product after the run. -/
theorem up_final (c : Dev nD) : (dats m 0 c).arrAt 5 cfg0.N = fun i : S4224x2816.Idx => up (V m c main_v4) (V m c main_v5) (V m c main_v3) (i 0) (i 1) := by
  refine (dats m 0 c).arrAt_eq_of_covers 5 _ (by decide +kernel) fun t hf y => ?_
  have e : (((View.whole main_v6_2).slice (win0_5.rect t)).emb y) = ix2 (at_ t (y 0)) (y 1) := by
    blk_ext [idx t]
  blk_simp
  rw [after0_5, e]
  frame_out
  refine (congrArg _ (eq_ix2 y)).trans ?_
  exact (pay_up _ _ _ (y 0) (y 1)).trans (blk_up m c t (y 0) (y 1))

/-- The gated product after the run. -/
theorem act_final (c : Dev nD) : (dats m 0 c).arrAt 6 cfg0.N = fun i : S4224x2816.Idx => act (V m c main_v4) (V m c main_v5) (V m c main_v3) (i 0) (i 1) := by
  refine (dats m 0 c).arrAt_eq_of_covers 6 _ (by decide +kernel) fun t hf y => ?_
  have e : (((View.whole main_v6_3).slice (win0_6.rect t)).emb y) = ix2 (at_ t (y 0)) (y 1) := by
    blk_ext [idx t]
  blk_simp
  rw [after0_6, e]
  frame_out
  refine (congrArg _ (eq_ix2 y)).trans ?_
  exact (pay_act _ _ _ (y 0) (y 1)).trans (blk_act m c t (y 0) (y 1))

section Padding
variable (c : Dev nD)

theorem hn_low (p : Fin 4224) (hp : p.val < 112) (b : Fin 1024) : hn (V m c main_v4) (V m c main_v5) p b = 0 := by
  rw [h_eq]
  exact normed_zero (fun k => padded_low p k hp) _ b

theorem gate_low (p : Fin 4224) (hp : p.val < 112) (k : Fin 2816) :
    gate (V m c main_v4) (V m c main_v5) (V m c main_v3) p k = 0 :=
  Finset.sum_eq_zero fun b _ => by rw [hn_low m c p hp, zero_mul]

theorem up_low (p : Fin 4224) (hp : p.val < 112) (k : Fin 2816) :
    up (V m c main_v4) (V m c main_v5) (V m c main_v3) p k = 0 :=
  Finset.sum_eq_zero fun b _ => by rw [hn_low m c p hp, zero_mul]

theorem act_low (p : Fin 4224) (hp : p.val < 112) (k : Fin 2816) :
    act (V m c main_v4) (V m c main_v5) (V m c main_v3) p k = 0 := by
  rw [act, up_low m c p hp, mul_zero]

end Padding

section Reference
open Cert.Reference5Ideal.Read
variable (c : Dev nD) (r : Fin 4112)

theorem ref_hn (b : Fin 1024) : val_main_v12 (F := Ideal) (m ((c : Thread nD τ).loc main_arg0))
    (m ((c : Thread nD τ).loc main_arg1)) (ix2 r b) = hn (V m c main_v4) (V m c main_v5) (live r) b := by
  rw [h_eq, gain_eq]
  pointwise [val_main_v12, val_main_v11, val_main_v10, val_main_v9, val_main_v8, val_main_v7, val_main_v6, val_main_v5,
    val_main_cst_1, val_main_v4, val_main_v3, val_main_cst_0, val_main_v2, val_main_v1, val_main_v0, val_main_cst]
  simp only [hn, padded_live]
  pointwise []
  rfl

/-- The first weight's entries, in the array the two are laid in. -/
theorem w_gate (k : Fin 2816) (b : Fin 1024) :
    V m c main_v3 (ix2 ⟨k.val, by omega⟩ b) = m ((c : Thread nD τ).loc main_arg2) (ix2 b k) := by
  rw [w_eq]
  refine (above_top k b).trans ?_
  pointwise []

theorem ref_gate (k : Fin 2816) : val_main_v13 (F := Ideal) (m ((c : Thread nD τ).loc main_arg0))
    (m ((c : Thread nD τ).loc main_arg1)) (m ((c : Thread nD τ).loc main_arg2)) (ix2 r k)
      = gate (V m c main_v4) (V m c main_v5) (V m c main_v3) (live r) k := by
  rw [val_main_v13_apply]
  refine Finset.sum_congr rfl fun b _ => congr (congrArg _ ?_) ?_
  · exact (congrArg _ (at2 rfl rfl)).trans (ref_hn m c r b)
  · exact (congrArg _ (at2 rfl rfl)).trans (w_gate m c k b).symm

/-- The second weight's entries, in the array the two are laid in. -/
theorem w_up (k : Fin 2816) (b : Fin 1024) :
    V m c main_v3 (ix2 ⟨2816 + k.val, by omega⟩ b) = m ((c : Thread nD τ).loc main_arg3) (ix2 b k) := by
  rw [w_eq]
  refine (above_bottom k b).trans ?_
  pointwise []

theorem ref_up (k : Fin 2816) : val_main_v14 (F := Ideal) (m ((c : Thread nD τ).loc main_arg0))
    (m ((c : Thread nD τ).loc main_arg1)) (m ((c : Thread nD τ).loc main_arg3)) (ix2 r k)
      = up (V m c main_v4) (V m c main_v5) (V m c main_v3) (live r) k := by
  rw [val_main_v14_apply]
  refine Finset.sum_congr rfl fun b _ => congr (congrArg _ ?_) ?_
  · exact (congrArg _ (at2 rfl rfl)).trans (ref_hn m c r b)
  · exact (congrArg _ (at2 rfl rfl)).trans (w_up m c k b).symm

theorem ref_act (k : Fin 2816) : val_main_v16 (F := Ideal) (m ((c : Thread nD τ).loc main_arg0))
    (m ((c : Thread nD τ).loc main_arg1)) (m ((c : Thread nD τ).loc main_arg2)) (m ((c : Thread nD τ).loc main_arg3)) (ix2 r k)
      = act (V m c main_v4) (V m c main_v5) (V m c main_v3) (live r) k := by
  rw [act, ← ref_gate, ← ref_up]
  pointwise [val_main_v16, val_main_v15, val_main_call0_v0, val_main_call0_v1, val_main_call0_v2, val_main_call0_v3,
    val_main_call0_v4, val_main_call0_v5, val_main_call0_cst, val_main_call0_cst_0]
  rfl

end Reference

open Cert.Reference5Ideal.Read in
/-- The claim. -/
theorem algebraic : Cert.algebraic_Kernel5Ideal_Reference5Ideal := fun m g m' g' _ hag =>
  ⟨fun c => val_main_v18 (F := Ideal) (m ((c : Thread nD τ).loc main_arg0)) (m ((c : Thread nD τ).loc main_arg1)),
    fun c => val_main_v20 (F := Ideal) (m ((c : Thread nD τ).loc main_arg0)) (m ((c : Thread nD τ).loc main_arg1))
      (m ((c : Thread nD τ).loc main_arg2)),
    fun c => val_main_v22 (F := Ideal) (m ((c : Thread nD τ).loc main_arg0)) (m ((c : Thread nD τ).loc main_arg1))
      (m ((c : Thread nD τ).loc main_arg3)),
    fun c => val_main_v24 (F := Ideal) (m ((c : Thread nD τ).loc main_arg0)) (m ((c : Thread nD τ).loc main_arg1))
      (m ((c : Thread nD τ).loc main_arg2)) (m ((c : Thread nD τ).loc main_arg3)),
    (θ_run _ _ _).mono (fun r h c => ⟨
      (h c).1.trans ((hn_final m c).trans (eq_padded (h := Cert.Reference5Ideal.Facts₀.pads_S4112x1024_S4224x1024_11200_000)
        (fun p q hp => hn_low m c p hp q) fun r q => (ref_hn m c r q).symm)),
      (h c).2.1.trans ((gate_final m c).trans (eq_padded (h := Cert.Reference5Ideal.Facts₀.pads_S4112x2816_S4224x2816_11200_000)
        (fun p q hp => gate_low m c p hp q) fun r q => (ref_gate m c r q).symm)),
      (h c).2.2.1.trans ((up_final m c).trans (eq_padded (h := Cert.Reference5Ideal.Facts₀.pads_S4112x2816_S4224x2816_11200_000)
        (fun p q hp => up_low m c p hp q) fun r q => (ref_up m c r q).symm)),
      (h c).2.2.2.1.trans ((act_final m c).trans (eq_padded (h := Cert.Reference5Ideal.Facts₀.pads_S4112x2816_S4224x2816_11200_000)
        (fun p q hp => act_low m c p hp q) fun r q => (ref_act m c r q).symm)),
      (h c).2.2.2.2⟩) (Value.run_blocks m g),
    (θ_run _ _ _).mono (fun r h c => ⟨
      (h c).1.trans (by rw [val_main_v18_eq, (hag c).1, (hag c).2.1]),
      (h c).2.1.trans (by rw [val_main_v20_eq, (hag c).1, (hag c).2.1, (hag c).2.2.1]),
      (h c).2.2.1.trans (by rw [val_main_v22_eq, (hag c).1, (hag c).2.1, (hag c).2.2.2]),
      (h c).2.2.2.1.trans (by rw [val_main_v24_eq, (hag c).1, (hag c).2.1, (hag c).2.2.1, (hag c).2.2.2]), (h c).2.2.2.2⟩)
      (Cert.Reference5Ideal.Value.run m' g')⟩

end Cert.Kernel5Ideal.Tied

end
-- ==== Proof.DownForward.lean ====
/-
  The feed-forward block, forward, through its down projection: the product and the rows plus half of its normalised rows,
  block by block over the 4224 padded rows, are the reference's.
-/
module

public import proofs.«01_k».proof.Proof.Rows
public import proofs.«01_k».proof.Proof.Norm
public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.Tied

open Cert.Kernel6Ideal Cert.Kernel6Ideal.Gen Cert.Rows Cert.Norm

variable (m : (ℓ : Loc nD τ sig) → Buf (Elt Ideal) ℓ)

/-- The left operand at region entry. -/
theorem left_eq (c : Dev nD) : V m c main_v1 = padded (m ((c : Thread nD τ).loc main_arg0)) pads_S4112x2816_S4224x2816_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The weight at region entry. -/
theorem w_eq (c : Dev nD) : V m c main_v2 = m ((c : Thread nD τ).loc main_arg1) := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The rows that pass by, at region entry. -/
theorem h_eq (c : Dev nD) : V m c main_v3 = padded (m ((c : Thread nD τ).loc main_arg2)) pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The gain at region entry. -/
theorem gain_eq (c : Dev nD) : V m c main_v4 = shapeCast S1x1024 (m ((c : Thread nD τ).loc main_arg3)) shapeCasts_S1024_S1x1024 := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![t.val, 0] ∧ win0_1.index t = ![0, 0] ∧ win0_2.index t = ![t.val, 0]
    ∧ win0_3.index t = ![0, 0] ∧ win0_4.index t = ![t.val, 0] ∧ win0_5.index t = ![t.val, 0] := by decide +kernel

/-- Rows, plus the normalised rows of a product, halved. -/
def out {n : Nat} (x : (⟨2, ![n, 2816]⟩ : Shape).Idx → EReal) (y : S2816x1024.Idx → EReal)
    (h : (⟨2, ![n, 1024]⟩ : Shape).Idx → EReal) (w : S1x1024.Idx → EReal) (i : Fin n) (b : Fin 1024) : EReal :=
  residual (Ideal.ofBits .f32 0x3F000000#32) (fun k => h (ix2 i k)) (mm x y i) (fun k => w (ix2 0 k)) b

section Payloads
variable (x : Vec Ideal S384x2816 .bf16) (y : Vec Ideal S2816x1024 .bf16) (h : Vec Ideal S384x1024 .f32)
  (w : Vec Ideal S1x1024 .f32) (i : Fin 384) (b : Fin 1024)

theorem pay_prod : k0_pay1 x y (ix2 i b) = mm x y i b := by
  unfold_payloads
  pointwise [dot_S384x2816_S2816x1024_S384x1024_1_0_0_1_n_n]
  rfl

theorem pay_out : k0_pay2 x y h w (ix2 i b) = out x y h w i b := by
  unfold k0_pay2
  pointwise []
  simp only [pay_prod]
  rfl

end Payloads

section Blocks
variable (c : Dev nD) (t : Fin cfg0.N) (i : Fin 384)

theorem blk_left (k : Fin 2816) : iblk m c 0 t (ix2 i k) = V m c main_v1 (ix2 (at_ t i) k) := by blk_ext [iblk, idx t]
theorem blk_w (k : Fin 2816) (b : Fin 1024) : iblk m c 1 t (ix2 k b) = V m c main_v2 (ix2 k b) := by blk_ext [iblk, idx t]
theorem blk_h (k : Fin 1024) : iblk m c 2 t (ix2 i k) = V m c main_v3 (ix2 (at_ t i) k) := by blk_ext [iblk, idx t]
theorem blk_gain (k : Fin 1024) : iblk m c 3 t (ix2 0 k) = V m c main_v4 (ix2 0 k) := by blk_ext [iblk, idx t]

theorem blk_prod (b : Fin 1024) : mm (n := 384) (k := 2816) (l := 1024) (iblk m c 0 t) (iblk m c 1 t) i b
    = mm (V m c main_v1) (V m c main_v2) (at_ t i) b := by
  simp only [mm, blk_left, blk_w]

theorem blk_out (b : Fin 1024) : out (n := 384) (iblk m c 0 t) (iblk m c 1 t) (iblk m c 2 t) (iblk m c 3 t) i b
    = out (V m c main_v1) (V m c main_v2) (V m c main_v3) (V m c main_v4) (at_ t i) b := by
  simp only [out, blk_h, blk_gain, funext (blk_prod m c t i)]

end Blocks

/-- The product after the run. -/
theorem prod_final (c : Dev nD) : (dats m 0 c).arrAt 4 cfg0.N
    = fun i : S4224x1024.Idx => mm (V m c main_v1) (V m c main_v2) (i 0) (i 1) := by
  refine (dats m 0 c).arrAt_eq_of_covers 4 _ (by decide +kernel) fun t hf y => ?_
  have e : (((View.whole main_v5_0).slice (win0_4.rect t)).emb y) = ix2 (at_ t (y 0)) (y 1) := by
    blk_ext [idx t]
  blk_simp
  rw [after0_4, e]
  frame_out
  refine (congrArg _ (eq_ix2 y)).trans ?_
  exact (pay_prod _ _ (y 0) (y 1)).trans (blk_prod m c t (y 0) (y 1))

/-- The second result after the run. -/
theorem out_final (c : Dev nD) : (dats m 0 c).arrAt 5 cfg0.N
    = fun i : S4224x1024.Idx => out (V m c main_v1) (V m c main_v2) (V m c main_v3) (V m c main_v4) (i 0) (i 1) := by
  refine (dats m 0 c).arrAt_eq_of_covers 5 _ (by decide +kernel) fun t hf y => ?_
  have e : (((View.whole main_v5_1).slice (win0_5.rect t)).emb y) = ix2 (at_ t (y 0)) (y 1) := by
    blk_ext [idx t]
  blk_simp
  rw [after0_5, e]
  frame_out
  refine (congrArg _ (eq_ix2 y)).trans ?_
  exact (pay_out _ _ _ _ (y 0) (y 1)).trans (blk_out m c t (y 0) (y 1))

/-- A padding row of the product is zero. -/
theorem prod_low (c : Dev nD) (p : Fin 4224) (hp : p.val < 112) (b : Fin 1024) :
    mm (V m c main_v1) (V m c main_v2) p b = 0 := by
  rw [left_eq]
  exact mm_zero (fun k => padded_low p k hp) b

/-- A padding row of the second result is zero. -/
theorem out_low (c : Dev nD) (p : Fin 4224) (hp : p.val < 112) (b : Fin 1024) :
    out (V m c main_v1) (V m c main_v2) (V m c main_v3) (V m c main_v4) p b = 0 := by
  rw [h_eq]
  exact residual_zero (fun k => padded_low p k hp) (fun k => prod_low m c p hp k) _ _ b

section Reference
open Cert.Reference6Ideal.Read
variable (c : Dev nD) (r : Fin 4112) (b : Fin 1024)

theorem ref_prod : val_main_v0 (F := Ideal) (m ((c : Thread nD τ).loc main_arg0)) (m ((c : Thread nD τ).loc main_arg1)) (ix2 r b)
    = mm (V m c main_v1) (V m c main_v2) (live r) b := by
  rw [left_eq, w_eq, val_main_v0_apply]
  refine Finset.sum_congr rfl fun k _ => congr (congrArg _ ?_) ?_
  · exact (congrArg _ (at2 rfl rfl)).trans (padded_live r k).symm
  · exact congrArg _ (at2 rfl rfl)

theorem ref_out : val_main_v17 (F := Ideal) (m ((c : Thread nD τ).loc main_arg0)) (m ((c : Thread nD τ).loc main_arg1))
    (m ((c : Thread nD τ).loc main_arg2)) (m ((c : Thread nD τ).loc main_arg3)) (ix2 r b)
      = out (V m c main_v1) (V m c main_v2) (V m c main_v3) (V m c main_v4) (live r) b := by
  rw [h_eq, gain_eq]
  simp only [out, ← funext (ref_prod m c r), padded_live]
  pointwise [val_main_v2, val_main_v3, val_main_v4, val_main_v5, val_main_v6, val_main_v7, val_main_v8, val_main_v9,
    val_main_v10, val_main_v11, val_main_v12, val_main_v13, val_main_v14, val_main_v15, val_main_v16, val_main_v17, val_main_cst_2, val_main_cst,
    val_main_cst_0, val_main_cst_1]
  rfl

end Reference

open Cert.Reference6Ideal.Read in
/-- The claim. -/
theorem algebraic : Cert.algebraic_Kernel6Ideal_Reference6Ideal := fun m g m' g' _ hag =>
  ⟨fun c => val_main_v1 (F := Ideal) (m ((c : Thread nD τ).loc main_arg0)) (m ((c : Thread nD τ).loc main_arg1)),
    fun c => val_main_v18 (F := Ideal) (m ((c : Thread nD τ).loc main_arg0)) (m ((c : Thread nD τ).loc main_arg1))
      (m ((c : Thread nD τ).loc main_arg2)) (m ((c : Thread nD τ).loc main_arg3)),
    (θ_run _ _ _).mono (fun r h c => ⟨
      (h c).1.trans ((prod_final m c).trans (eq_padded (h := Cert.Reference6Ideal.Facts₀.pads_S4112x1024_S4224x1024_11200_000)
        (fun p q hp => prod_low m c p hp q) fun r q => (ref_prod m c r q).symm)),
      (h c).2.1.trans ((out_final m c).trans (eq_padded (h := Cert.Reference6Ideal.Facts₀.pads_S4112x1024_S4224x1024_11200_000)
        (fun p q hp => out_low m c p hp q) fun r q => (ref_out m c r q).symm)),
      (h c).2.2⟩) (Value.run_blocks m g),
    (θ_run _ _ _).mono (fun r h c => ⟨
      (h c).1.trans (by rw [val_main_v1_eq, (hag c).1, (hag c).2.1]),
      (h c).2.1.trans (by rw [val_main_v18_eq, (hag c).1, (hag c).2.1, (hag c).2.2.1, (hag c).2.2.2]), (h c).2.2⟩)
      (Cert.Reference6Ideal.Value.run m' g')⟩

end Cert.Kernel6Ideal.Tied

end
-- ==== Proof.Shifted.lean ====
/-
  The sequence of the mixers' short causal convolution, one row to eight rows behind: what the blocks of both its
  passes load from a buffer that holds the eight rows before a block and the block, and what the plain program reads
  from the sequence with three zero rows in front.
-/
module

public import proofs.«01_k».proof.Proof.Rows
public import proofs.«01_k».proof.Defs
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.Shifted

open Cert.Rows

/-- The column of the wide array that holds column `q` of the sequence. -/
abbrev wide (q : Fin 1536) : Fin 3200 := ⟨1024 + q.val, by omega⟩

/-- Row `p - 8` of the sequence, zero before its start. -/
def behind (x : (⟨2, ![4224, 3200]⟩ : Shape).Idx → EReal) (p : Nat) (q : Fin 1536) : EReal :=
  if h : 8 ≤ p ∧ p < 4232 then x (ix2 ⟨p - 8, by omega⟩ (wide q)) else 0

/-- A row of the array, counted from eight rows before its start. -/
theorem behind_of (x : (⟨2, ![4224, 3200]⟩ : Shape).Idx → EReal) {n : Nat} (p : Fin 4224) (q : Fin 1536) (h : p.val + 8 = n) :
    x (ix2 p (wide q)) = behind x n q := by
  subst h
  rw [behind, dif_pos (by omega)]
  exact congrArg x (congrArg (ix2 · _) (Fin.ext (Nat.add_sub_cancel _ _).symm))

/-- Two stores that fill the rows up to `n` and from `n` on, loaded from row `o` on. -/
theorem two_pieces {sig : RefSig} {κ : Kind} {sp : Space} (v : View sig κ sp ⟨2, ![392, 512]⟩ .f32) (n k o : Nat) (hn : n + k = 392)
    (h1 : ∀ a, (![n, 0] : Fin 2 → Nat) a + (![k, 512] : Fin 2 → Nat) a ≤ (⟨2, ![392, 512]⟩ : Shape).size a)
    (h0 : ∀ a, (![0, 0] : Fin 2 → Nat) a + (![n, 512] : Fin 2 → Nat) a ≤ (⟨2, ![392, 512]⟩ : Shape).size a)
    (ho : ∀ a, (![o, 0] : Fin 2 → Nat) a + (![384, 512] : Fin 2 → Nat) a ≤ (⟨2, ![392, 512]⟩ : Shape).size a)
    (x : (⟨2, ![k, 512]⟩ : Shape).Idx → EReal) (y : (⟨2, ![n, 512]⟩ : Shape).Idx → EReal) (G : Nat → Fin 512 → EReal)
    (hx : ∀ i b, x (ix2 i b) = G (n + i.val) b) (hy : ∀ i b, y (ix2 i b) = G i.val b) (i : Fin 384) (b : Fin 512) :
    v.readCov (Val := Elt Ideal) [⟨Rect.unit ![n, 0] ![k, 512] h1, x⟩, ⟨Rect.unit ![0, 0] ![n, 512] h0, y⟩]
      (Rect.unit (s := ⟨2, ![392, 512]⟩) ![o, 0] ![384, 512] ho).toLoadRect (ix2 i b) = G (o + i.val) b := by
  rw [View.readCov_eq_canon']
  have ho0 : o + 384 ≤ 392 := ho 0
  set z := (Rect.unit (s := ⟨2, ![392, 512]⟩) ![o, 0] ![384, 512] ho).toLoadRect.idx (ix2 i b) with hz
  have z0 : (z 0).val = o + i.val := Rect.idx_unit_val (s := ⟨2, ![392, 512]⟩) ![o, 0] ![384, 512] ho (ix2 i b) 0
  have z1 : (z 1).val = b.val := (Rect.idx_unit_val (s := ⟨2, ![392, 512]⟩) ![o, 0] ![384, 512] ho (ix2 i b) 1).trans (Nat.zero_add _)
  refine View.canon_eq_of_allAt _ _ _ ?_ (View.allAt_cons_unit _ _ _ _ _ (fun u hu => ?_) (View.allAt_cons_unit _ _ _ _ _ (fun u hu => ?_) (View.allAt_nil _ _)))
  · by_cases h : n ≤ o + i.val
    · refine ⟨_, List.mem_cons_self, (Rect.mem_set_unit (inb := h1)).mpr (Fin.forall_fin_two.mpr ⟨?_, ?_⟩)⟩
      · show n ≤ (z 0).val ∧ (z 0).val < n + k
        omega
      · show 0 ≤ (z 1).val ∧ (z 1).val < 0 + 512
        omega
    · refine ⟨_, List.mem_cons_of_mem _ List.mem_cons_self, (Rect.mem_set_unit (inb := h0)).mpr (Fin.forall_fin_two.mpr ⟨?_, ?_⟩)⟩
      · show 0 ≤ (z 0).val ∧ (z 0).val < 0 + n
        omega
      · show 0 ≤ (z 1).val ∧ (z 1).val < 0 + 512
        omega
  · have u0 : (z 0).val = n + (u 0).val := hu 0
    have u1 : (z 1).val = 0 + (u 1).val := hu 1
    rw [eq_ix2 u]
    refine (hx (u 0) (u 1)).trans ?_
    rw [← u0, z0]
    exact congrArg _ (Fin.ext (by omega))
  · have u0 : (z 0).val = 0 + (u 0).val := hu 0
    have u1 : (z 1).val = 0 + (u 1).val := hu 1
    rw [eq_ix2 u]
    refine (hy (u 0) (u 1)).trans ?_
    rw [show (u 0).val = o + i.val by omega]
    exact congrArg _ (Fin.ext (by omega))

section TapRows
variable (r : Nat) (hr : ∀ a, (![r, 0] : Fin 2 → Nat) a + (![1, 512] : Fin 2 → Nat) a ≤ (⟨2, ![4, 512]⟩ : Shape).size a)
  (j : Fin 4) (b : Fin 512)

/-- The index of column `b` of row `r`, as the store of one row places it. -/
theorem row_emb (hj : j.val = r) : (Rect.unit (s := ⟨2, ![4, 512]⟩) ![r, 0] ![1, 512] hr).emb (ix2 0 b) = ix2 j b :=
  at2 ((Rect.idx_unit_val (s := ⟨2, ![4, 512]⟩) ![r, 0] ![1, 512] hr (ix2 0 b) 0).trans hj.symm)
    ((Rect.idx_unit_val (s := ⟨2, ![4, 512]⟩) ![r, 0] ![1, 512] hr (ix2 0 b) 1).trans (Nat.zero_add _))

/-- A load of row `j` of a block. -/
theorem row_load (x : (⟨2, ![4, 512]⟩ : Shape).Idx → EReal) (hj : j.val = r) :
    View.ld (Val := Elt Ideal) (e' := .f32) x (Rect.unit ![r, 0] ![1, 512] hr) (ix2 0 b) = x (ix2 j b) :=
  congrArg x (row_emb r hr j b hj)

end TapRows

/-- The sequence with three zero rows in front. -/
theorem rows_in_front {x : (⟨2, ![4224, 3200]⟩ : Shape).Idx → EReal} {z : (⟨2, ![3, 1536]⟩ : Shape).Idx → EReal}
    {y : (⟨2, ![4224, 1536]⟩ : Shape).Idx → EReal} {h : Shape.Concatenates [⟨2, ![3, 1536]⟩, ⟨2, ![4224, 1536]⟩] ⟨2, ![4227, 1536]⟩ 0}
    (hz : ∀ i, z i = 0) (hy : ∀ i q, y (ix2 i q) = x (ix2 i (wide q))) (p : Fin 4227) (q : Fin 1536) :
    concatenate ⟨2, ![4227, 1536]⟩ 0 [⟨_, z⟩, ⟨_, y⟩] h (ix2 p q) = behind x (p.val + 5) q := by
  by_cases hp : p.val < 3
  · rw [behind, dif_neg (by omega)]
    exact (concatenate_pair_apply_left (s₁ := ⟨2, ![3, 1536]⟩) (s₂ := ⟨2, ![4224, 1536]⟩) 0 _ _ _ (ix2 p q) rfl (ix2 ⟨p.val, hp⟩ q)
      (Fin.forall_fin_two.mpr ⟨rfl, rfl⟩)).trans (hz _)
  · rw [← behind_of _ ⟨p.val - 3, by omega⟩ q (by show p.val - 3 + 8 = _; omega)]
    refine (concatenate_pair_apply_right (s₁ := ⟨2, ![3, 1536]⟩) (s₂ := ⟨2, ![4224, 1536]⟩) 0 _ _ _ (ix2 p q) rfl rfl
      (ix2 ⟨p.val - 3, by omega⟩ q) (fun c hc => ?_) ?_).trans (hy _ _)
    · match c with
      | ⟨1, _⟩ => rfl
      | ⟨0, _⟩ => exact absurd rfl hc
    · show p.val - 3 + 3 = p.val
      omega

end Cert.Shifted

end
-- ==== Proof.ConvBackward.lean ====
/-
  The gradient of the mixers' short causal convolution: of the sequence, in three blocks of columns of an array whose
  other columns stay as they were, and of the four taps, accumulated over the blocks of rows. The body keeps a block
  with the eight rows before it, and the gradient's block with the eight rows after it, in two buffers.
-/
module

public import proofs.«01_k».proof.Proof.Rows
public import proofs.«01_k».proof.Proof.Shifted
public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.KernelVsHost
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.Tied

open Cert.Kernel7Ideal Cert.Kernel7Ideal.Gen Cert.Rows Cert.Shifted

variable (m : (ℓ : Loc nD τ sig) → Buf (Elt Ideal) ℓ)

/-- The block every window is at. -/
theorem idx : ∀ t, win0_0.index t = ![t.val % 11, 2 + t.val / 11] ∧ win0_1.index t = ![t.val % 11 * 48 - 1, 2 + t.val / 11]
    ∧ win0_2.index t = ![0, t.val / 11]
    ∧ win0_3.index t = ![t.val % 11, t.val / 11] ∧ win0_4.index t = ![min ((t.val % 11 + 1) * 48) 527, t.val / 11]
    ∧ win0_5.index t = ![t.val % 11, 2 + t.val / 11]
    ∧ win0_6.index t = ![0, t.val / 11] ∧ (grid0.coords t 1).val = t.val % 11 := by decide +kernel

/-! ## What is computed -/

/-- Row `p` of the gradient, zero past its end. -/
def ahead (d : S4224x1536.Idx → EReal) (p : Nat) (q : Fin 1536) : EReal :=
  if h : p < 4224 then d (ix2 ⟨p, h⟩ q) else 0

theorem ahead_of (d : S4224x1536.Idx → EReal) {n : Nat} (p : Fin 4224) (q : Fin 1536) (h : p.val = n) : d (ix2 p q) = ahead d n q := by
  subst h
  rw [ahead, dif_pos p.isLt]

/-- The sequence's gradient: the four taps over the rows ahead. -/
def taps (d : S4224x1536.Idx → EReal) (w : S4x1536.Idx → EReal) (p : Nat) (q : Fin 1536) : EReal :=
  w (ix2 0 q) * ahead d (p + 3) q + w (ix2 1 q) * ahead d (p + 2) q + w (ix2 2 q) * ahead d (p + 1) q
    + w (ix2 3 q) * ahead d p q

/-- What row `p` adds to the gradient of tap `j`. -/
def part (d : S4224x1536.Idx → EReal) (x : S4224x3200.Idx → EReal) (p : Fin 4224) (j : Fin 4) (q : Fin 1536) : EReal :=
  d (ix2 p q) * behind x (p.val + j.val + 5) q

/-! ## Rows of the taps' block -/

section TapRows
variable (r : Nat) (hr : ∀ a, (![r, 0] : Fin 2 → Nat) a + (![1, 512] : Fin 2 → Nat) a ≤ S4x512.size a)
  (w : (⟨2, ![1, 512]⟩ : Shape).Idx → EReal) (L : List (View.Piece (Elt Ideal) S4x512 .f32)) (j : Fin 4) (b : Fin 512)

/-- The last store was of row `j`. -/
theorem row_hit (hj : j.val = r) :
    View.canon (Val := Elt Ideal) (e := .f32) (⟨Rect.unit ![r, 0] ![1, 512] hr, w⟩ :: L) (ix2 j b) = w (ix2 0 b) := by
  rw [← row_emb r hr j b hj]
  exact View.canon_cons_emb _ _ _ _

/-- The last store was of another row. -/
theorem row_miss (hj : j.val ≠ r) :
    View.canon (Val := Elt Ideal) (e := .f32) (⟨Rect.unit ![r, 0] ![1, 512] hr, w⟩ :: L) (ix2 j b) = View.canon L (ix2 j b) := by
  refine View.canon_cons_of_not_mem _ _ fun h => ?_
  have : r ≤ j.val ∧ j.val < r + 1 := (Rect.mem_set_unit (inb := hr)).mp h 0
  omega

/-- A load of row `j` of what the stores left. -/
theorem row_read {κ : Kind} {sp : Space} (v : View sig κ sp S4x512 .f32) (hj : j.val = r) :
    v.readCov (Val := Elt Ideal) L (Rect.unit (s := S4x512) ![r, 0] ![1, 512] hr).toLoadRect (ix2 0 b) = View.canon L (ix2 j b) := by
  rw [View.readCov_eq_canon']
  exact congrArg _ (row_emb r hr j b hj)

end TapRows

/-! ## Payloads -/

section Payloads
variable (i : Fin 384) (b : Fin 512)

/-- The block's gradient: one row of the weights times the rows loaded, four times. -/
theorem pay_dx (w0 w1 w2 w3 : Vec Ideal S1x512 .f32) (d0 d1 d2 d3 : Vec Ideal S384x512 .f32) :
    k0_pay15 w0 d3 w1 d2 w2 d1 w3 d0 (ix2 i b) = w0 (ix2 0 b) * d3 (ix2 i b) + w1 (ix2 0 b) * d2 (ix2 i b)
      + w2 (ix2 0 b) * d1 (ix2 i b) + w3 (ix2 0 b) * d0 (ix2 i b) := by
  unfold_payloads
  pointwise []

variable (d x : Vec Ideal S384x512 .f32) (o : Vec Ideal S1x512 .f32)

theorem pay_tap0 : k0_pay2 (k0_pay11 (k0_pay10 d) x) o (ix2 0 b) = o (ix2 0 b) + ∑ i : Fin 384, d (ix2 i b) * x (ix2 i b) := by
  unfold_payloads
  pointwise []
theorem pay_tap1 : k0_pay3 (k0_pay12 (k0_pay10 d) x) o (ix2 0 b) = o (ix2 0 b) + ∑ i : Fin 384, d (ix2 i b) * x (ix2 i b) := by
  unfold_payloads
  pointwise []
theorem pay_tap2 : k0_pay4 (k0_pay13 (k0_pay10 d) x) o (ix2 0 b) = o (ix2 0 b) + ∑ i : Fin 384, d (ix2 i b) * x (ix2 i b) := by
  unfold_payloads
  pointwise []
theorem pay_tap3 : k0_pay5 (k0_pay14 (k0_pay10 d) x) o (ix2 0 b) = o (ix2 0 b) + ∑ i : Fin 384, d (ix2 i b) * x (ix2 i b) := by
  unfold_payloads
  pointwise []
theorem pay_zero (j : S4x512.Idx) : k0_pay1 (F := Ideal) j = 0 := by
  unfold_payloads
  pointwise []

theorem pay_block : k0_pay7 d (ix2 i b) = d (ix2 i b) := by
  unfold_payloads
  pointwise []
theorem pay_block' : k0_pay8 d (ix2 i b) = d (ix2 i b) := by
  unfold_payloads
  pointwise []

/-- Whether a block of rows is not the first, and not the last. -/
theorem not_first : ∀ t : Fin grid0.N, Scalar.cmpi .sgt (BitVec.ofNat 32 (grid0.coords t 1).val) 0#32
    = if 0 < t.val % 11 then 1#1 else 0#1 := by decide +kernel
theorem not_last : ∀ t : Fin grid0.N, Scalar.cmpi .slt (BitVec.ofNat 32 (grid0.coords t 1).val) 10#32
    = if t.val % 11 < 10 then 1#1 else 0#1 := by decide +kernel

theorem pay_before (t : Fin grid0.N) (h : Vec Ideal S8x512 .f32) (r : Fin 8) : k0_pay6 (grid0.coords t) h (ix2 r b)
    = if 0 < t.val % 11 then h (ix2 r b) else 0 := by
  unfold k0_pay6
  simp only [not_first]
  split <;> pointwise []
theorem pay_after (t : Fin grid0.N) (h : Vec Ideal S8x512 .f32) (r : Fin 8) : k0_pay9 (grid0.coords t) h (ix2 r b)
    = if t.val % 11 < 10 then h (ix2 r b) else 0 := by
  unfold k0_pay9
  simp only [not_last]
  split <;> pointwise []

end Payloads

/-! ## The blocks at a grid point -/

section Blocks
variable (c : Dev nD) (t : Fin cfg0.N) (i : Fin 384) (b : Fin 512)

/-- The column of the sequence that column `b` of the block is. -/
abbrev col : Fin 1536 := ⟨t.val / 11 * 512 + b.val, by have : t.val < 33 := t.isLt; omega⟩

/-- The row that row `i` of the block is. -/
abbrev row : Fin 4224 := ⟨t.val % 11 * 384 + i.val, by omega⟩

theorem blk_w (j : Fin 4) : iblk m c 2 t (ix2 j b) = V m c main_arg1 (ix2 j (col t b)) := by blk_ext [iblk, idx t]
theorem blk_dy : iblk m c 3 t (ix2 i b) = V m c main_v1 (ix2 (row t i) (col t b)) := by blk_ext [iblk, idx t]
theorem blk_dy_after (h : t.val % 11 < 10) (r : Fin 8) : iblk m c 4 t (ix2 r b)
    = V m c main_v1 (ix2 ⟨t.val % 11 * 384 + 384 + r.val, by omega⟩ (col t b)) := by
  blk_ext [iblk, idx t]
theorem blk_x : X0_0 m c t (ix2 i b) = V m c main_v0 (ix2 (row t i) (wide (col t b))) := by
  unfold X0_0 Pipeline.Window.fill
  rw [dif_pos (moved0_0 t _)]
  blk_ext [iblk, idx t]
theorem blk_x_before (h : 0 < t.val % 11) (r : Fin 8) : X0_1 m c t (ix2 r b)
    = V m c main_v0 (ix2 ⟨t.val % 11 * 384 + r.val - 8, by omega⟩ (wide (col t b))) := by
  unfold X0_1 Pipeline.Window.fill
  rw [dif_pos (moved0_1 t _)]
  blk_ext [iblk, idx t]

end Blocks

/-! ## The buffers at a grid point -/

section Buffers
variable (c : Dev nD) (t : Fin cfg0.N)

/-- The buffer of the gradient holds the block's rows and the eight after them. -/
theorem load_ahead {κ : Kind} {sp : Space} (v : View sig κ sp S392x512 .f32) (o : Nat)
    (ho : ∀ a, (![o, 0] : Fin 2 → Nat) a + (![384, 512] : Fin 2 → Nat) a ≤ S392x512.size a) (i : Fin 384) (b : Fin 512) :
    v.readCov (Val := Elt Ideal) [⟨Rect.unit ![384, 0] ![8, 512] inb_S392x512_S8x512_384_0, k0_pay9 (grid0.coords t) (iblk m c 4 t)⟩,
        ⟨Rect.unit ![0, 0] ![384, 512] inb_S392x512_S384x512_0_0, k0_pay8 (iblk m c 3 t)⟩]
      (Rect.unit (s := S392x512) ![o, 0] ![384, 512] ho).toLoadRect (ix2 i b)
      = ahead (V m c main_v1) (t.val % 11 * 384 + i.val + o) (col t b) := by
  refine (two_pieces v 384 8 o rfl _ _ ho _ _ (fun p q => ahead (V m c main_v1) (t.val % 11 * 384 + p) (col t q))
    (fun r q => ?_) (fun p q => ?_) i b).trans ?_
  · refine (pay_after q t _ r).trans ?_
    by_cases h : t.val % 11 < 10
    · rw [if_pos h, blk_dy_after m c t q h r]
      exact ahead_of _ _ _ (Nat.add_assoc _ _ _)
    · rw [if_neg h, ahead, dif_neg (by omega)]
  · refine (pay_block' p q _).trans ?_
    rw [blk_dy]
    exact ahead_of _ _ _ rfl
  · show ahead _ (_ + (o + i.val)) _ = _
    rw [show t.val % 11 * 384 + (o + i.val) = t.val % 11 * 384 + i.val + o by omega]

/-- The buffer of the sequence holds the eight rows before the block's and the block's. -/
theorem load_behind {κ : Kind} {sp : Space} (v : View sig κ sp S392x512 .f32) (o : Nat)
    (ho : ∀ a, (![o, 0] : Fin 2 → Nat) a + (![384, 512] : Fin 2 → Nat) a ≤ S392x512.size a) (i : Fin 384) (b : Fin 512) :
    v.readCov (Val := Elt Ideal) [⟨Rect.unit ![8, 0] ![384, 512] inb_S392x512_S384x512_8_0, k0_pay7 (X0_0 m c t)⟩,
        ⟨Rect.unit ![0, 0] ![8, 512] inb_S392x512_S8x512_0_0, k0_pay6 (grid0.coords t) (X0_1 m c t)⟩]
      (Rect.unit (s := S392x512) ![o, 0] ![384, 512] ho).toLoadRect (ix2 i b)
      = behind (V m c main_v0) (t.val % 11 * 384 + i.val + o) (col t b) := by
  refine (two_pieces v 8 384 o rfl _ _ ho _ _ (fun p q => behind (V m c main_v0) (t.val % 11 * 384 + p) (col t q))
    (fun p q => ?_) (fun r q => ?_) i b).trans ?_
  · refine (pay_block p q _).trans ?_
    rw [blk_x]
    exact behind_of _ _ _ (by show _ + _ + 8 = _ + (8 + _); omega)
  · refine (pay_before q t _ r).trans ?_
    by_cases h : 0 < t.val % 11
    · rw [if_pos h, blk_x_before m c t q h r]
      exact behind_of _ _ _ (by show _ + _ - 8 + 8 = _; omega)
    · rw [if_neg h, behind, dif_neg (by omega)]
  · show behind _ (_ + (o + i.val)) _ = _
    rw [show t.val % 11 * 384 + (o + i.val) = t.val % 11 * 384 + i.val + o by omega]

/-- The block of the sequence's gradient the body stores. -/
theorem stored (i : Fin 384) (b : Fin 512) : (outsAt0 m c t.val t.isLt).1 (ix2 i b)
    = taps (V m c main_v1) (V m c main_arg1) (row t i).val (col t b) := by
  by_cases h : t.val % 11 = 0
  all_goals
    first | rw [outsAt0_A m c t h] | rw [outsAt0_B m c t h]
    frame_out
    refine (pay_dx i b _ _ _ _ _ _ _ _).trans ?_
    rw [load_ahead, load_ahead, load_ahead, load_ahead, row_load 0 _ 0 b _ rfl, row_load 1 _ 1 b _ rfl,
      row_load 2 _ 2 b _ rfl, row_load 3 _ 3 b _ rfl, blk_w, blk_w, blk_w, blk_w]
    rfl

/-- What grid point `t` adds to the gradient of tap `j`. -/
def added (i : S4x512.Idx) : EReal :=
  ∑ r : Fin 384, part (V m c main_v1) (V m c main_v0) (row t r) (i 0) (col t (i 1))

/-- One tap's sum over the block's rows. -/
theorem summed (o : Nat) (b : Fin 512) (j : Fin 4) (x : (⟨2, ![384, 512]⟩ : Shape).Idx → EReal) (ho : o = j.val + 5)
    (hx : ∀ i, x (ix2 i b) = behind (V m c main_v0) (t.val % 11 * 384 + i.val + o) (col t b)) :
    (∑ i : Fin 384, (show EReal from iblk m c 3 t (ix2 i b)) * x (ix2 i b)) = added m c t (ix2 j b) :=
  Finset.sum_congr rfl fun i _ => by
    subst ho
    rw [hx, ← Nat.add_assoc]
    exact congrArg (· * _) (blk_dy m c t i b)

/-- One tap's row of the scratch block after the body: what it held, and the block's sum. -/
theorem tap_step (o : Nat) (b : Fin 512) (j : Fin 4) (x : (⟨2, ![384, 512]⟩ : Shape).Idx → EReal) (ho : o = j.val + 5)
    (hx : ∀ i, x (ix2 i b) = behind (V m c main_v0) (t.val % 11 * 384 + i.val + o) (col t b)) {old old' s : EReal}
    (hs : s = old + ∑ i : Fin 384, (show EReal from iblk m c 3 t (ix2 i b)) * x (ix2 i b)) (h : old = old') :
    s = old' + added m c t (ix2 j b) := by
  rw [hs, h, summed m c t o b j x ho hx]

/-- At the first block of rows the scratch starts from zero. -/
theorem stepA (h : t.val % 11 = 0) (y : S4x512.Idx) : (outsAt0 m c t.val t.isLt).2 y = 0 + added m c t y := by
  rw [outsAt0_A m c t h]
  frame_out
  obtain ⟨j, b, rfl⟩ : ∃ j b, y = ix2 j b := ⟨_, _, eq_ix2 y⟩
  have z (j : Fin 4) : View.canon (Val := Elt Ideal) (e := .f32) [⟨Rect.unit (s := S4x512) ![0, 0] ![4, 512] inb_S4x512_S4x512_0_0, k0_pay1 (F := Ideal)⟩]
      (ix2 j b) = 0 := by
    rw [View.canon_cons_unit_lit (S := S4x512) _ _ _ (by decide)]
    exact pay_zero _
  fin_cases j
  · exact (row_miss 3 _ _ _ 0 b (by decide)).trans ((row_miss 2 _ _ _ 0 b (by decide)).trans ((row_miss 1 _ _ _ 0 b (by decide)).trans
      ((row_hit 0 _ _ _ 0 b rfl).trans (tap_step m c t 5 b 0 _ rfl (load_behind m c t _ 5 _ · b) (pay_tap0 b _ _ _)
      ((row_read 0 _ _ 0 b _ rfl).trans (z 0))))))
  · exact (row_miss 3 _ _ _ 1 b (by decide)).trans ((row_miss 2 _ _ _ 1 b (by decide)).trans
      ((row_hit 1 _ _ _ 1 b rfl).trans (tap_step m c t 6 b 1 _ rfl (load_behind m c t _ 6 _ · b) (pay_tap1 b _ _ _)
      ((row_read 1 _ _ 1 b _ rfl).trans ((row_miss 0 _ _ _ 1 b (by decide)).trans (z 1))))))
  · exact (row_miss 3 _ _ _ 2 b (by decide)).trans
      ((row_hit 2 _ _ _ 2 b rfl).trans (tap_step m c t 7 b 2 _ rfl (load_behind m c t _ 7 _ · b) (pay_tap2 b _ _ _)
      ((row_read 2 _ _ 2 b _ rfl).trans ((row_miss 1 _ _ _ 2 b (by decide)).trans ((row_miss 0 _ _ _ 2 b (by decide)).trans (z 2))))))
  · exact (row_hit 3 _ _ _ 3 b rfl).trans (tap_step m c t 8 b 3 _ rfl (load_behind m c t _ 8 _ · b) (pay_tap3 b _ _ _)
      ((row_read 3 _ _ 3 b _ rfl).trans ((row_miss 2 _ _ _ 3 b (by decide)).trans ((row_miss 1 _ _ _ 3 b (by decide)).trans ((row_miss 0 _ _ _ 3 b (by decide)).trans (z 3))))))

/-- At the others it adds to what the block before left. -/
theorem stepB (h : ¬t.val % 11 = 0) (y : S4x512.Idx) : (outsAt0 m c t.val t.isLt).2 y
    = (outsAt0 m c (t.val - 1) (Nat.lt_of_le_of_lt (Nat.sub_le _ _) t.isLt)).2 y + added m c t y := by
  rw [outsAt0_B m c t h]
  frame_out
  obtain ⟨j, b, rfl⟩ : ∃ j b, y = ix2 j b := ⟨_, _, eq_ix2 y⟩
  fin_cases j
  · exact (row_miss 3 _ _ _ 0 b (by decide)).trans ((row_miss 2 _ _ _ 0 b (by decide)).trans ((row_miss 1 _ _ _ 0 b (by decide)).trans
      ((row_hit 0 _ _ _ 0 b rfl).trans (tap_step m c t 5 b 0 _ rfl (load_behind m c t _ 5 _ · b) (pay_tap0 b _ _ _)
      (row_load 0 _ 0 b _ rfl)))))
  · exact (row_miss 3 _ _ _ 1 b (by decide)).trans ((row_miss 2 _ _ _ 1 b (by decide)).trans
      ((row_hit 1 _ _ _ 1 b rfl).trans (tap_step m c t 6 b 1 _ rfl (load_behind m c t _ 6 _ · b) (pay_tap1 b _ _ _)
      (row_load 1 _ 1 b _ rfl))))
  · exact (row_miss 3 _ _ _ 2 b (by decide)).trans
      ((row_hit 2 _ _ _ 2 b rfl).trans (tap_step m c t 7 b 2 _ rfl (load_behind m c t _ 7 _ · b) (pay_tap2 b _ _ _)
      (row_load 2 _ 2 b _ rfl)))
  · exact (row_hit 3 _ _ _ 3 b rfl).trans (tap_step m c t 8 b 3 _ rfl (load_behind m c t _ 8 _ · b) (pay_tap3 b _ _ _)
      (row_load 3 _ 3 b _ rfl))

end Buffers

/-! ## The results after the run -/

section Final
variable (c : Dev nD)

/-- The gradient of the taps after the run: the sum over all rows. -/
theorem taps_final : (dats m 0 c).arrAt 6 cfg0.N = fun i : S4x1536.Idx =>
    ∑ p : Fin 4224, part (V m c main_v1) (V m c main_v0) p (i 0) (i 1) := by
  refine (dats m 0 c).arrAt_eq_of_covers 6 _ (by decide +kernel) fun t hf y => ?_
  have hr : t.val % 11 = 10 := (flush0_6 t).mp hf
  have e : (((View.whole main_v3_1).slice (win0_6.rect t)).emb y) = ix2 (y 0) (col t (y 1)) := by
    blk_ext [idx t]
  blk_simp
  rw [after0_6, e]
  refine (Pipeline.eq_sum_fin_of_reset_step_apply_of_flush (N := cfg0.N) (fun n hn => (outsAt0 m c n hn).2) 11 (fun _ => (0 : EReal)) (added m c)
    (fun t h i => stepA m c t h i) (fun t h i => stepB m c t h i) t hr y).trans ?_
  refine (zero_add _).trans (Eq.trans ?_ (Fin.sum_mul_add_fin 11 384
    (fun p : Fin 4224 => part (V m c main_v1) (V m c main_v0) p (y 0) (col t (y 1)))))
  refine Finset.sum_congr rfl fun s _ => Finset.sum_congr rfl fun r _ => ?_
  refine congr (congrArg (fun p => part _ _ p (y 0)) (Fin.ext ?_)) (Fin.ext ?_)
  · show (11 * (t.val / 11) + s.val) % 11 * 384 + r.val = s.val * 384 + r.val
    omega
  · show (col _ _).val = (col _ _).val
    simp only [col]
    omega

/-- The sequence's gradient, at the columns of the wide array. -/
def within (d : S4224x1536.Idx → EReal) (w : S4x1536.Idx → EReal) (i : S4224x3200.Idx) : EReal :=
  if h : (i 1).val - 1024 < 1536 then taps d w (i 0).val ⟨(i 1).val - 1024, h⟩ else 0

/-- The wide array after the run: the sequence's gradient in the middle columns, the rest as it came. -/
theorem wide_final : (dats m 0 c).arrAt 5 cfg0.N = fun i : S4224x3200.Idx =>
    if 2 ≤ (i 1).val / 512 ∧ (i 1).val / 512 < 5 then within (V m c main_v1) (V m c main_arg1) i else V m c main_v3_0 i := by
  refine (dats m 0 c).arrAt_eq_of_coversWhere 5 _ (fun β => 2 ≤ β (1 : Fin _) ∧ β (1 : Fin _) < 5) (by decide +kernel)
    (fun t hf y => ?_) (fun j => Iff.rfl)
  obtain ⟨z, hz⟩ : ∃ z : S384x512.Idx, z = (cfg0.win 5).xinj (cfg0.grid.coords t) y := ⟨_, rfl⟩
  have e : (((View.whole main_v3_0).slice (win0_5.rect t)).emb y) = ix2 (row t (z 0)) (wide (col t (z 1))) := by
    subst hz
    blk_ext [idx t]
  blk_simp
  rw [after0_5, e, ← hz]
  refine (congrArg _ (eq_ix2 z)).trans ((stored m c t (z 0) (z 1)).trans ?_)
  rw [within, dif_pos (by show 1024 + (col t (z 1)).val - 1024 < 1536; omega)]
  exact congrArg _ (Fin.ext (by show _ = 1024 + (col t (z 1)).val - 1024; omega))

end Final

/-! ## The arrays at region entry -/

section Entry
variable (c : Dev nD)

/-- The projection, the gradient and the wide array, as the region finds them. -/
theorem x_eq : V m c main_v0 = padded (m ((c : Thread nD τ).loc main_arg0)) pads_S4112x3200_S4224x3200_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

theorem dy_eq : V m c main_v1 = padded (m ((c : Thread nD τ).loc main_arg2)) pads_S4112x1536_S4224x1536_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

theorem wide_eq : V m c main_v3_0 = fun i => (m ((c : Thread nD τ).loc main_arg3) i : EReal) := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

end Entry

/-! ## Rows set into a taller array -/

section Taller
variable {α : Type} {k l n lo hi : Nat} {x : (⟨2, ![k, n]⟩ : Shape).Idx → α} {v : (⟨0, ![]⟩ : Shape).Idx → α}
  {h : (⟨2, ![k, n]⟩ : Shape).Pads ![lo, 0] ![hi, 0] ![0, 0] ⟨2, ![l, n]⟩} {hu : 0 < (⟨0, ![]⟩ : Shape).numel}

/-- A row of the operand, and a row that is padding. -/
theorem taller_in (p : Fin l) (r : Fin k) (q : Fin n) (hp : p.val = lo + r.val) :
    pad ⟨2, ![l, n]⟩ ![lo, 0] ![hi, 0] ![0, 0] x v h hu (ix2 p q) = x (ix2 r q) :=
  pad_apply_of_inside _ _ _ _ _ _ _ _ _ (Fin.forall_fin_two.mpr
    ⟨hp.trans (by show _ = lo + r.val * 1; omega), by show q.val = 0 + q.val * 1; omega⟩)

theorem taller_out {z : α} (hv : ∀ i, v i = z) (p : Fin l) (q : Fin n) (hp : p.val < lo ∨ lo + k ≤ p.val) :
    pad ⟨2, ![l, n]⟩ ![lo, 0] ![hi, 0] ![0, 0] x v h hu (ix2 p q) = z :=
  (pad_apply_of_not_inside _ _ _ _ _ _ _ _ 0 (by
    show ¬(lo ≤ p.val ∧ (p.val - lo) % 1 = 0 ∧ (p.val - lo) / 1 < k)
    omega)).trans (hv _)

end Taller

/-- One tap's product, set `3 - o` rows down, read from row 3 on: the rows `o` ahead. -/
theorem tap_ahead {lo hi o : Nat} {y : S4224x1536.Idx → EReal} {d : S4224x1536.Idx → EReal} {w : Fin 1536 → EReal} {v : S_.Idx → EReal}
    {h : S4224x1536.Pads ![lo, 0] ![hi, 0] ![0, 0] ⟨2, ![4227, 1536]⟩} (hv : ∀ i, v i = 0) (hy : ∀ r q, y (ix2 r q) = w q * d (ix2 r q))
    (ho : lo + o = 3) (p : Fin 4224) (q : Fin 1536) (p' : Fin 4227) (hp : p'.val = 3 + p.val) :
    pad ⟨2, ![4227, 1536]⟩ ![lo, 0] ![hi, 0] ![0, 0] y v h h_S_ (ix2 p' q) = w q * ahead d (p.val + o) q := by
  by_cases hr : p.val + o < 4224
  · rw [← ahead_of d ⟨p.val + o, hr⟩ q rfl, ← hy]
    exact taller_in _ _ _ (by show _ = lo + (_ + _); omega)
  · rw [ahead, dif_neg hr, mul_zero]
    exact taller_out hv _ _ (by omega)

section Pieces
variable {α : Type} {n0 n1 n2 : Nat} {x0 : (⟨2, ![4224, n0]⟩ : Shape).Idx → α} {x1 : (⟨2, ![4224, n1]⟩ : Shape).Idx → α}
  {x2 : (⟨2, ![4224, n2]⟩ : Shape).Idx → α}
  {h : Shape.Concatenates [⟨2, ![4224, n0]⟩, ⟨2, ![4224, n1]⟩, ⟨2, ![4224, n2]⟩] ⟨2, ![4224, 3200]⟩ 1} (p : Fin 4224) (k : Fin 3200)

/-- Three arrays side by side. -/
abbrev three (x0 : (⟨2, ![4224, n0]⟩ : Shape).Idx → α) (x1 : (⟨2, ![4224, n1]⟩ : Shape).Idx → α) (x2 : (⟨2, ![4224, n2]⟩ : Shape).Idx → α) :
    List ((s : Shape) × (s.Idx → α)) := [⟨_, x0⟩, ⟨_, x1⟩, ⟨_, x2⟩]

/-- Two places in one row agree off the columns' axis. -/
theorem same_row {n : Nat} (q : Fin n) (b : Fin 2) (hb : b ≠ 1) : ((ix2 p q : (⟨2, ![4224, n]⟩ : Shape).Idx) b).val
    = ((ix2 p k : (⟨2, ![4224, 3200]⟩ : Shape).Idx) b).val := by
  match b with
  | ⟨0, _⟩ => rfl
  | ⟨1, _⟩ => exact absurd rfl hb

/-- A place in the first, in the second and in the third. -/
theorem piece0 (q : Fin n0) (hq : q.val = k.val) : concatenate ⟨2, ![4224, 3200]⟩ 1 (three x0 x1 x2) h (ix2 p k) = x0 (ix2 p q) :=
  concatenate_apply_piece 1 (three x0 x1 x2) h (ix2 p k) 0 (by show 0 < 3; omega) _ x0 rfl rfl 0 rfl (ix2 p q) (fun b hb => same_row p k q b hb)
    ((Nat.zero_add _).trans hq)

theorem piece1 (q : Fin n1) (hq : n0 + q.val = k.val) : concatenate ⟨2, ![4224, 3200]⟩ 1 (three x0 x1 x2) h (ix2 p k) = x1 (ix2 p q) :=
  concatenate_apply_piece 1 (three x0 x1 x2) h (ix2 p k) 1 (by show 1 < 3; omega) _ x1 rfl rfl n0 (Nat.add_zero _) (ix2 p q)
    (fun b hb => same_row p k q b hb) hq

theorem piece2 (q : Fin n2) (hq : n0 + n1 + q.val = k.val) : concatenate ⟨2, ![4224, 3200]⟩ 1 (three x0 x1 x2) h (ix2 p k) = x2 (ix2 p q) :=
  concatenate_apply_piece 1 (three x0 x1 x2) h (ix2 p k) 2 (by show 2 < 3; omega) _ x2 rfl rfl (n0 + n1) rfl (ix2 p q)
    (fun b hb => same_row p k q b hb) hq

end Pieces

section Reference
open Cert.Reference7Ideal.Read
variable (x : S4112x3200.Idx → EReal) (w : S4x1536.Idx → EReal) (d : S4112x1536.Idx → EReal)

/-- The four taps' products. -/
theorem tap0 (r : Fin 4224) (q : Fin 1536) : (val_main_v67 (F := Ideal) w d (ix2 r q) : EReal) = w (ix2 0 q) * val_main_v34 (F := Ideal) d (ix2 r q) := by
  pointwise [val_main_v67, val_main_v66, val_main_v8, val_main_v6, val_main_v5]
theorem tap1 (r : Fin 4224) (q : Fin 1536) : (val_main_v56 (F := Ideal) w d (ix2 r q) : EReal) = w (ix2 1 q) * val_main_v34 (F := Ideal) d (ix2 r q) := by
  pointwise [val_main_v56, val_main_v55, val_main_v16, val_main_v14, val_main_v13]
theorem tap2 (r : Fin 4224) (q : Fin 1536) : (val_main_v45 (F := Ideal) w d (ix2 r q) : EReal) = w (ix2 2 q) * val_main_v34 (F := Ideal) d (ix2 r q) := by
  pointwise [val_main_v45, val_main_v44, val_main_v23, val_main_v21, val_main_v20]
theorem tap3 (r : Fin 4224) (q : Fin 1536) : (val_main_v36 (F := Ideal) w d (ix2 r q) : EReal) = w (ix2 3 q) * val_main_v34 (F := Ideal) d (ix2 r q) := by
  pointwise [val_main_v36, val_main_v35, val_main_v30, val_main_v28, val_main_v27]

/-- The reference's gradient of the sequence. -/
theorem ref_dx (p : Fin 4224) (q : Fin 1536) : (val_main_v78 (F := Ideal) w d (ix2 p q) : EReal)
    = taps (val_main_v34 (F := Ideal) d) w p.val q := by
  have e : val_main_v78 (F := Ideal) w d (ix2 p q) = val_main_v73 (F := Ideal) w d (ix2 ⟨3 + p.val, by omega⟩ q) :=
    (val_main_v78_apply _ _ _).trans (congrArg _ (at2 rfl rfl))
  rw [e]
  have a3 := tap_ahead (h := Cert.Reference7Ideal.Facts₀.pads_S4224x1536_S4227x1536_300_000) (o := 0) (fun i => (by pointwise [val_main_cst_5] : val_main_cst_5 (F := Ideal) i = 0)) (tap3 w d) rfl p q ⟨3 + p.val, by omega⟩ rfl
  have a2 := tap_ahead (h := Cert.Reference7Ideal.Facts₀.pads_S4224x1536_S4227x1536_210_000) (o := 1) (fun i => (by pointwise [val_main_cst_9] : val_main_cst_9 (F := Ideal) i = 0)) (tap2 w d) rfl p q ⟨3 + p.val, by omega⟩ rfl
  have a1 := tap_ahead (h := Cert.Reference7Ideal.Facts₀.pads_S4224x1536_S4227x1536_120_000) (o := 2) (fun i => (by pointwise [val_main_cst_13] : val_main_cst_13 (F := Ideal) i = 0)) (tap1 w d) rfl p q ⟨3 + p.val, by omega⟩ rfl
  have a0 := tap_ahead (h := Cert.Reference7Ideal.Facts₀.pads_S4224x1536_S4227x1536_030_000) (o := 3) (fun i => (by pointwise [val_main_cst_17] : val_main_cst_17 (F := Ideal) i = 0)) (tap0 w d) rfl p q ⟨3 + p.val, by omega⟩ rfl
  refine (congr (congrArg _ (congr (congrArg _ (congr (congrArg _ a3) a2)) a1)) a0 : _ = (_ + _ + _ + _ : EReal)).trans ?_
  rw [taps, add_comm (_ + _ + _) (w (ix2 0 q) * _), add_comm (_ + _) (w (ix2 1 q) * _), add_comm (w (ix2 3 q) * _) (w (ix2 2 q) * _), ← add_assoc, ← add_assoc]
  rfl

/-- The sequence with three zero rows in front. -/
theorem ref_rows (p : Fin 4227) (q : Fin 1536) : (val_main_v3 (F := Ideal) x (ix2 p q) : EReal)
    = behind (val_main_v0 (F := Ideal) x) (p.val + 5) q :=
  rows_in_front (fun i => by pointwise [val_main_v2, val_main_cst]) (fun _ _ => (val_main_v1_apply _ _).trans (congrArg _ (at2 rfl rfl))) p q

/-- What the reference sums for one tap: the gradient's row times the row of the sequence behind it. -/
theorem ref_part (p : Fin 4224) (j : Fin 4) (q : Fin 1536) (r : Fin 4227) (hr : r.val = p.val + j.val) :
    (val_main_v34 (F := Ideal) d (ix2 p q) * val_main_v3 (F := Ideal) x (ix2 r q) : EReal)
      = part (val_main_v34 (F := Ideal) d) (val_main_v0 (F := Ideal) x) p j q := by
  rw [ref_rows, hr]
  rfl

/-- The four taps' sums over the rows. -/
theorem sum0 (q : Fin 1536) : (val_main_v74 (F := Ideal) x d (ix2 0 q) : EReal)
    = ∑ p : Fin 4224, part (val_main_v34 (F := Ideal) d) (val_main_v0 (F := Ideal) x) p 0 q := by
  pointwise [val_main_v74, val_main_v71, val_main_v70, val_main_v69, val_main_v68, val_main_cst_15, val_main_cst_16, val_main_v7]
  exact (Fin.sum_univ_one _).trans (Finset.sum_congr rfl fun p _ => ref_part x d p 0 q _ rfl)
theorem sum1 (q : Fin 1536) : (val_main_v63 (F := Ideal) x d (ix2 0 q) : EReal)
    = ∑ p : Fin 4224, part (val_main_v34 (F := Ideal) d) (val_main_v0 (F := Ideal) x) p 1 q := by
  pointwise [val_main_v63, val_main_v60, val_main_v59, val_main_v58, val_main_v57, val_main_cst_11, val_main_cst_12, val_main_v15]
  exact (Fin.sum_univ_one _).trans (Finset.sum_congr rfl fun p _ => ref_part x d p 1 q _ (Nat.add_comm 1 p.val))
theorem sum2 (q : Fin 1536) : (val_main_v52 (F := Ideal) x d (ix2 0 q) : EReal)
    = ∑ p : Fin 4224, part (val_main_v34 (F := Ideal) d) (val_main_v0 (F := Ideal) x) p 2 q := by
  pointwise [val_main_v52, val_main_v49, val_main_v48, val_main_v47, val_main_v46, val_main_cst_7, val_main_cst_8, val_main_v22]
  exact (Fin.sum_univ_one _).trans (Finset.sum_congr rfl fun p _ => ref_part x d p 2 q _ (Nat.add_comm 2 p.val))
theorem sum3 (q : Fin 1536) : (val_main_v42 (F := Ideal) x d (ix2 0 q) : EReal)
    = ∑ p : Fin 4224, part (val_main_v34 (F := Ideal) d) (val_main_v0 (F := Ideal) x) p 3 q := by
  pointwise [val_main_v42, val_main_v40, val_main_v39, val_main_v38, val_main_v37, val_main_cst_3, val_main_cst_4, val_main_v29]
  exact (Fin.sum_univ_one _).trans (Finset.sum_congr rfl fun p _ => ref_part x d p 3 q _ (Nat.add_comm 3 p.val))

/-- A row of four, of which only row `lo` is not zero. -/
theorem one_row {lo hi : Nat} {y : (⟨2, ![1, 1536]⟩ : Shape).Idx → EReal} {v : S_.Idx → EReal}
    {h : (⟨2, ![1, 1536]⟩ : Shape).Pads ![lo, 0] ![hi, 0] ![0, 0] ⟨2, ![4, 1536]⟩} (hv : ∀ i, v i = 0) (j : Fin 4) (q : Fin 1536) :
    pad ⟨2, ![4, 1536]⟩ ![lo, 0] ![hi, 0] ![0, 0] y v h h_S_ (ix2 j q) = if j.val = lo then y (ix2 0 q) else 0 := by
  split
  · exact taller_in _ _ _ (by assumption)
  · exact taller_out hv _ _ (by omega)

/-- The reference's gradient of the taps. -/
theorem ref_dw (j : Fin 4) (q : Fin 1536) : (val_main_v76 (F := Ideal) x d (ix2 j q) : EReal)
    = ∑ p : Fin 4224, part (val_main_v34 (F := Ideal) d) (val_main_v0 (F := Ideal) x) p j q := by
  have a3 := one_row (y := val_main_v42 (F := Ideal) x d) (h := Cert.Reference7Ideal.Facts₀.pads_S1x1536_S4x1536_300_000) (fun i => (by pointwise [val_main_cst_6] : val_main_cst_6 (F := Ideal) i = 0)) j q
  have a2 := one_row (y := val_main_v52 (F := Ideal) x d) (h := Cert.Reference7Ideal.Facts₀.pads_S1x1536_S4x1536_210_000) (fun i => (by pointwise [val_main_cst_10] : val_main_cst_10 (F := Ideal) i = 0)) j q
  have a1 := one_row (y := val_main_v63 (F := Ideal) x d) (h := Cert.Reference7Ideal.Facts₀.pads_S1x1536_S4x1536_120_000) (fun i => (by pointwise [val_main_cst_14] : val_main_cst_14 (F := Ideal) i = 0)) j q
  have a0 := one_row (y := val_main_v74 (F := Ideal) x d) (h := Cert.Reference7Ideal.Facts₀.pads_S1x1536_S4x1536_030_000) (fun i => (by pointwise [val_main_cst_18] : val_main_cst_18 (F := Ideal) i = 0)) j q
  refine (congr (congrArg _ (congr (congrArg _ (congr (congrArg _ a3) a2)) a1)) a0 : _ = (_ + _ + _ + _ : EReal)).trans ?_
  rw [sum0, sum1, sum2, sum3]
  fin_cases j <;> simp

/-- The wide array of the reference: the middle columns, and those on either side. -/
theorem ref_wide (e : S4224x3200.Idx → EReal) (i : S4224x3200.Idx) : (val_main_v82 (F := Ideal) w d e i : EReal)
    = if 2 ≤ (i 1).val / 512 ∧ (i 1).val / 512 < 5 then within (val_main_v34 (F := Ideal) d) w i else e i := by
  obtain ⟨p, k, rfl⟩ : ∃ (p : Fin 4224) (k : Fin 3200), i = ix2 p k := ⟨_, _, eq_ix2 i⟩
  rw [val_main_v82_apply]
  show val_main_v81 (F := Ideal) w d e (ix2 p k) = if 2 ≤ k.val / 512 ∧ k.val / 512 < 5 then _ else _
  rcases Nat.lt_or_ge k.val 1024 with h | h
  · rw [if_neg (by omega)]
    refine (piece0 (h := Cert.Reference7Ideal.Facts₀.concatenates_S4224x1024_S4224x1536_S4224x640_S4224x3200_d1) p k ⟨k.val, h⟩ rfl).trans ?_
    exact (val_main_v79_apply _ _).trans (congrArg _ (at2 rfl rfl))
  · rcases Nat.lt_or_ge k.val 2560 with h' | h'
    · rw [if_pos (by omega), within, dif_pos (by show k.val - 1024 < 1536; omega)]
      refine (piece1 (h := Cert.Reference7Ideal.Facts₀.concatenates_S4224x1024_S4224x1536_S4224x640_S4224x3200_d1) p k ⟨k.val - 1024, by omega⟩
        (by show 1024 + (k.val - 1024) = k.val; omega)).trans ?_
      exact ref_dx w d p _
    · rw [if_neg (by omega)]
      refine (piece2 (h := Cert.Reference7Ideal.Facts₀.concatenates_S4224x1024_S4224x1536_S4224x640_S4224x3200_d1) p k ⟨k.val - 2560, by omega⟩
        (by show 2560 + (k.val - 2560) = k.val; omega)).trans ?_
      exact (val_main_v80_apply _ _).trans (congrArg _ (at2 rfl (by show 2560 + (k.val - 2560) = k.val; omega)))

end Reference

open Cert.Reference7Ideal.Read in
/-- The claim. -/
theorem algebraic : Cert.algebraic_Kernel7Ideal_Reference7Ideal := fun m g m' g' _ hag =>
  ⟨fun c => val_main_v82 (F := Ideal) (m ((c : Thread nD τ).loc main_arg1)) (m ((c : Thread nD τ).loc main_arg2))
      (m ((c : Thread nD τ).loc main_arg3)),
    fun c => val_main_v76 (F := Ideal) (m ((c : Thread nD τ).loc main_arg0)) (m ((c : Thread nD τ).loc main_arg2)),
    (θ_run _ _ _).mono (fun r h c => ⟨
      (h c).1.trans ((wide_final m c).trans (funext fun i => by rw [dy_eq, wide_eq, V_main_arg1]; exact (ref_wide _ _ _ i).symm)),
      (h c).2.1.trans ((taps_final m c).trans (ext2 fun j q => by rw [dy_eq, x_eq]; exact (ref_dw _ _ j q).symm)),
      (h c).2.2⟩) (Value.run_blocks m g),
    (θ_run _ _ _).mono (fun r h c => ⟨
      (h c).1.trans (by rw [val_main_v82_eq, (hag c).2.1, (hag c).2.2.1, (hag c).2.2.2]),
      (h c).2.1.trans (by rw [val_main_v76_eq, (hag c).1, (hag c).2.2.1]), (h c).2.2⟩)
      (Cert.Reference7Ideal.Value.run m' g')⟩

end Cert.Kernel7Ideal.Tied

end
-- ==== Proof.MixOutBackward.lean ====
/-
  The gradient through the normalisation of a mixer's output and its output projection: the rows' gradient, the gain's, and
  the gradient that goes on to the projection's input, block by block over the 4224 padded rows, are the reference's over
  the 4112 rows.
-/
module

public import proofs.«01_k».proof.Proof.Rows
public import proofs.«01_k».proof.Proof.Norm
public import proofs.«01_k».proof.Defs
public import proofs.«01_k».proof.Proof.Gen.Kernel8Ideal.Value
public import proofs.«01_k».proof.Proof.Gen.Reference8Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.Tied

open Cert.Kernel8Ideal Cert.Kernel8Ideal.Gen Cert.Rows Cert.Norm

variable (m : (ℓ : Loc nD τ sig) → Buf (Elt Ideal) ℓ)

/-- The gradient of the mixer's output at region entry. -/
theorem dy_eq (c : Dev nD) : V m c main_v1 = padded (m ((c : Thread nD τ).loc main_arg3)) pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The product that was normalised, at region entry. -/
theorem f_eq (c : Dev nD) : V m c main_v2 = padded (Cert.Reference8Ideal.Read.val_main_v0 (F := Ideal) (m ((c : Thread nD τ).loc main_arg0)) (m ((c : Thread nD τ).loc main_arg1)))
    pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The gain at region entry. -/
theorem gain_eq (c : Dev nD) : V m c main_v3 = shapeCast S1x1024 (m ((c : Thread nD τ).loc main_arg2)) shapeCasts_S1024_S1x1024 := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The weight at region entry. -/
theorem w_eq (c : Dev nD) : V m c main_v4 = (m ((c : Thread nD τ).loc main_arg1)) := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ (grid0.coords t 0).val = t.val := by decide +kernel

/-- The rows' gradient through the normalisation from the arrays at region entry, masked. -/
def rows (d f : S4224x1024.Idx → EReal) (w : S1x1024.Idx → EReal) : S4224x1024.Idx → EReal := fun i =>
  grad (fun k => f (ix2 (i 0) k)) (fun k => d (ix2 (i 0) k) * w (ix2 0 k)) (i 1) * kept (i 0).val

/-- What one row adds to the gain's gradient. -/
def part (d f : S4224x1024.Idx → EReal) (p : Fin 4224) (b : Fin 1024) : EReal :=
  f (ix2 p b) * scale (fun k => f (ix2 p k)) * d (ix2 p b)

/-- The gain's gradient from the arrays at region entry. -/
def gain (d f : S4224x1024.Idx → EReal) : S1x1024.Idx → EReal := fun i => ∑ p : Fin 4224, part d f p (i 1)

/-- The gradient of the product's left factor: each row of `x` times each row of the weight. -/
def back {n : Nat} (x : (⟨2, ![n, 1024]⟩ : Shape).Idx → EReal) (w : S1024x1024.Idx → EReal) : (⟨2, ![n, 1024]⟩ : Shape).Idx → EReal :=
  fun i => ∑ k : Fin 1024, x (ix2 (i 0) k) * w (ix2 (i 1) k)

section Payloads
variable (f d : Vec Ideal S384x1024 .f32) (w : Vec Ideal S1x1024 .f32) (W : Vec Ideal S1024x1024 .bf16) (i : Fin 384) (b : Fin 1024)

/-- What the body computes of the rows' gradient, masked. -/
abbrev payRows (n : Nat) : FVec Ideal S384x1024 .bf16 :=
  k0_pay1 (k0_pay10 f w d) (Scalar.muli (BitVec.ofNat 32 n) 384#32) (iota Kind.tc S384x1 32 [0] iota_S384x1_d0_w32)

theorem pay_rows (n : Fin 11) : payRows f d w n.val (ix2 i b)
    = grad (fun k => f (ix2 i k)) (fun k => d (ix2 i k) * w (ix2 0 k)) b * kept (n.val * 384 + i.val) := by
  rw [← mask_eq]
  unfold payRows
  unfold_payloads
  pointwise []
  simp only [Fin.sum_univ_one]
  rfl

/-- What one block adds to the gain's gradient. -/
theorem pay_gain : k0_pay9 f d (ix2 0 b) = ∑ i : Fin 384, f (ix2 i b) * scale (fun k => f (ix2 i k)) * d (ix2 i b) := by
  unfold_payloads
  pointwise []
  rfl

/-- What one block adds to the accumulator. -/
theorem pay_acc (z v : Vec Ideal S1x1024 .f32) : k0_pay3 z v (ix2 0 b) = v (ix2 0 b) + z (ix2 0 b) := by
  unfold_payloads
  pointwise []

/-- The accumulator starts at zero. -/
theorem pay_zero : k0_pay2 (F := Ideal) (ix2 0 b) = 0 := by
  unfold_payloads
  pointwise []

/-- The product of the masked rows' gradient with the weight's rows. -/
theorem pay_back (x : FVec Ideal S384x1024 .f32) (s : BitVec 32) (z : IVec S384x1 32) :
    k0_pay4 x s z W (ix2 i b) = back (n := 384) (k0_pay1 x s z) W (ix2 i b) := by
  unfold k0_pay4
  pointwise [dot_S384x1024_S1024x1024_S384x1024_1_1_0_0_n_n]
  rfl

end Payloads

section Blocks
variable (c : Dev nD) (t : Fin cfg0.N) (i : Fin 384) (k : Fin 1024)

theorem blk_dy : iblk m c 0 t (ix2 i k) = V m c main_v1 (ix2 (at_ t i) k) := by blk_ext [iblk, idx t]
theorem blk_f : iblk m c 1 t (ix2 i k) = V m c main_v2 (ix2 (at_ t i) k) := by blk_ext [iblk, idx t]
theorem blk_gain : iblk m c 2 t (ix2 0 k) = V m c main_v3 (ix2 0 k) := by blk_ext [iblk, idx t]
theorem blk_w (j : Fin 1024) : iblk m c 3 t (ix2 j k) = V m c main_v4 (ix2 j k) := by blk_ext [iblk, idx t]

/-- The block of rows' gradient the body stores at point `t`. -/
theorem stored : payRows (iblk m c 1 t) (iblk m c 0 t) (iblk m c 2 t) (grid0.coords t 0).val (ix2 i k)
    = rows (V m c main_v1) (V m c main_v2) (V m c main_v3) (ix2 (at_ t i) k) := by
  rw [(idx t).2.2.2.2.2.2.2, pay_rows _ _ _ _ _ t]
  simp only [blk_dy, blk_f, blk_gain]
  rfl

/-- The block of the gradient that goes on, at point `t`. -/
theorem stored_back : k0_pay4 (k0_pay10 (iblk m c 1 t) (iblk m c 2 t) (iblk m c 0 t))
      (Scalar.muli (BitVec.ofNat 32 (grid0.coords t 0).val) 384#32) (iota Kind.tc S384x1 32 [0] iota_S384x1_d0_w32) (iblk m c 3 t) (ix2 i k)
    = back (n := 4224) (rows (V m c main_v1) (V m c main_v2) (V m c main_v3)) (V m c main_v4) (ix2 (at_ t i) k) :=
  (pay_back _ _ _ _ _ _).trans (Finset.sum_congr rfl fun q _ => congr (congrArg _ (stored m c t i q)) (blk_w m c t q k))

end Blocks

/-- The rows' gradient after the run. -/
theorem rows_final (c : Dev nD) : (dats m 0 c).arrAt 4 cfg0.N = rows (V m c main_v1) (V m c main_v2) (V m c main_v3) := by
  refine (dats m 0 c).arrAt_eq_of_covers 4 _ (by decide +kernel) fun t hf y => ?_
  have e : (((View.whole main_v5_0).slice (win0_4.rect t)).emb y) = ix2 (at_ t (y 0)) (y 1) := by
    blk_ext [idx t]
  blk_simp
  rw [after0_4]
  have e' := (congrArg _ (eq_ix2 y)).trans ((stored m c t (y 0) (y 1)).trans (congrArg _ e.symm))
  by_cases h : t.val % 11 = 0
  · rw [outsAt0_A m c t h]
    frame_out
    exact e'
  · rw [outsAt0_B m c t h]
    frame_out
    exact e'

/-- The gradient that goes on, after the run. -/
theorem back_final (c : Dev nD) : (dats m 0 c).arrAt 6 cfg0.N
    = back (n := 4224) (rows (V m c main_v1) (V m c main_v2) (V m c main_v3)) (V m c main_v4) := by
  refine (dats m 0 c).arrAt_eq_of_covers 6 _ (by decide +kernel) fun t hf y => ?_
  have e : (((View.whole main_v5_2).slice (win0_6.rect t)).emb y) = ix2 (at_ t (y 0)) (y 1) := by
    blk_ext [idx t]
  blk_simp
  rw [after0_6]
  have e' := (congrArg _ (eq_ix2 y)).trans ((stored_back m c t (y 0) (y 1)).trans (congrArg _ e.symm))
  by_cases h : t.val % 11 = 0
  · rw [outsAt0_A m c t h]
    frame_out
    exact e'
  · rw [outsAt0_B m c t h]
    frame_out
    exact e'

/-- What point `t` adds to the gain's gradient, over the rows of its block. -/
theorem added (c : Dev nD) (t : Fin cfg0.N) (b : Fin 1024) : k0_pay9 (iblk m c 1 t) (iblk m c 0 t) (ix2 0 b)
    = ∑ i : Fin 384, part (V m c main_v1) (V m c main_v2) (at_ t i) b := by
  rw [pay_gain]
  simp only [blk_dy, blk_f]
  rfl

/-- The last grid point. -/
abbrev last : Fin cfg0.N := ⟨10, by decide⟩

/-- The accumulator after the last point. -/
theorem acc (c : Dev nD) (b : Fin 1024) : (outsAt0 m c last.val last.isLt).2.1 (ix2 0 b)
    = ∑ t : Fin 11, k0_pay9 (iblk m c 1 t) (iblk m c 0 t) (ix2 0 b) :=
  (Pipeline.eq_sum_fin_of_reset_step_apply_last (fun n h b => (outsAt0 m c n h).2.1 (ix2 0 b)) 11 (fun _ => 0)
      (fun t b => k0_pay9 (iblk m c 1 t) (iblk m c 0 t) (ix2 0 b))
      (fun t h j => by rw [outsAt0_A m c t h]; frame_out; rw [pay_acc, pay_zero])
      (fun t h j => by rw [outsAt0_B m c t h]; frame_out; rw [pay_acc])
      (by decide) last rfl b).trans (zero_add _)

/-- The gain's gradient after the run. -/
theorem gain_final (c : Dev nD) : (dats m 0 c).arrAt 5 cfg0.N = gain (V m c main_v1) (V m c main_v2) := by
  refine (dats m 0 c).arrAt_eq_of_after_last 5 last (by decide +kernel) _ fun j => ?_
  rw [after0_5]
  have h0 : (j 0).val < 1 := (j 0).isLt
  have hj : j = ix2 0 (j 1) := at2 (by show (j 0).val = 0; omega) rfl
  have eb : (cfg0.win 5).arr.view.emb j = ix2 0 (j 1) := at2 (by show (j 0).val = 0; omega) rfl
  rw [eb]
  refine (congrArg (outsAt0 m c last.val last.isLt).2.1 hj).trans ((acc m c (j 1)).trans ?_)
  refine Eq.trans ?_ (Fin.sum_mul_add_fin (n := 384) (L := 4224) 11 _ rfl)
  exact Finset.sum_congr rfl fun t _ => added m c t (j 1)

section Reference
open Cert.Reference8Ideal.Read

variable (x0 : S4112x1024.Idx → EReal) (x1 : S1024x1024.Idx → EReal) (x2 : S1024.Idx → EReal) (x3 : S4112x1024.Idx → EReal)
  (r : Fin 4112) (b : Fin 1024)

/-- The reference's rows' gradient. -/
theorem ref_rows : val_main_v36 (F := Ideal) x0 x1 x2 x3 (ix2 r b)
    = grad (fun k => val_main_v0 (F := Ideal) x0 x1 (ix2 r k)) (fun k => x3 (ix2 r k) * x2 (ix1 k)) b := by
  pointwise [val_main_v1, val_main_v2, val_main_v3, val_main_v4, val_main_v5, val_main_v6, val_main_v7, val_main_v8, val_main_v9,
    val_main_v10, val_main_v11, val_main_v12, val_main_v14, val_main_v20, val_main_v21, val_main_v23, val_main_v24, val_main_v25,
    val_main_v26, val_main_v27, val_main_v28, val_main_v29, val_main_v30, val_main_v31, val_main_v32, val_main_v33, val_main_v34,
    val_main_v35, val_main_v36, val_main_cst, val_main_cst_0, val_main_cst_1, val_main_cst_2, val_main_cst_5, val_main_cst_6,
    val_main_cst_7]
  simp only [Fin.sum_univ_one]
  rfl

/-- The reference's gain's gradient. -/
theorem ref_gain : val_main_v39 (F := Ideal) x0 x1 x3 (ix2 0 b) = ∑ r : Fin 4112, val_main_v0 (F := Ideal) x0 x1 (ix2 r b)
    * scale (fun k => val_main_v0 (F := Ideal) x0 x1 (ix2 r k)) * x3 (ix2 r b) := by
  pointwise [val_main_v1, val_main_v2, val_main_v3, val_main_v4, val_main_v5, val_main_v6, val_main_v7, val_main_v8, val_main_v12,
    val_main_v13, val_main_v17, val_main_v18, val_main_v19, val_main_v22, val_main_v39, val_main_cst, val_main_cst_0, val_main_cst_1,
    val_main_cst_3, val_main_cst_4]
  simp only [Fin.sum_univ_one]
  rfl

/-- The reference's gradient that goes on. -/
theorem ref_back : val_main_v40 (F := Ideal) x0 x1 x2 x3 (ix2 r b)
    = back (n := 4112) (val_main_v36 (F := Ideal) x0 x1 x2 x3) x1 (ix2 r b) := by
  pointwise [val_main_v40, Cert.Reference8Ideal.dot_S4112x1024_S1024x1024_S4112x1024_1_1_0_0_n_n]
  rfl

end Reference

section Together
open Cert.Reference8Ideal.Read
variable (c : Dev nD)

/-- The product, read where it is not padding. -/
theorem f_live (r : Fin 4112) (k : Fin 1024) : V m c main_v2 (ix2 (live r) k) = val_main_v0 (F := Ideal) (m ((c : Thread nD τ).loc main_arg0)) (m ((c : Thread nD τ).loc main_arg1)) (ix2 r k) := by
  rw [f_eq]; exact padded_live r k

/-- The gradient of the output, read where it is not padding. -/
theorem dy_live (r : Fin 4112) (k : Fin 1024) : V m c main_v1 (ix2 (live r) k) = (m ((c : Thread nD τ).loc main_arg3)) (ix2 r k) := by
  rw [dy_eq]; exact padded_live r k

/-- The gain, read at an entry. -/
theorem gain_at (k : Fin 1024) : V m c main_v3 (ix2 0 k) = (m ((c : Thread nD τ).loc main_arg2)) (ix1 k) := by
  rw [gain_eq]
  pointwise []

/-- The rows' gradient at a row that is not padding. -/
theorem rows_live (r : Fin 4112) (b : Fin 1024) : rows (V m c main_v1) (V m c main_v2) (V m c main_v3) (ix2 (live r) b)
    = val_main_v36 (F := Ideal) (m ((c : Thread nD τ).loc main_arg0)) (m ((c : Thread nD τ).loc main_arg1)) (m ((c : Thread nD τ).loc main_arg2)) (m ((c : Thread nD τ).loc main_arg3)) (ix2 r b) := by
  rw [ref_rows, rows, kept, if_pos (by show 112 ≤ r.val + 112; omega), mul_one]
  refine congrFun (congr (congrArg grad ?_) ?_) b
  · exact funext fun k => f_live m c r k
  · exact funext fun k => congr (congrArg _ (dy_live m c r k)) (gain_at m c k)

/-- At a row of padding it is zero. -/
theorem rows_low (p : Fin 4224) (b : Fin 1024) (hp : p.val < 112) :
    rows (V m c main_v1) (V m c main_v2) (V m c main_v3) (ix2 p b) = 0 := by
  rw [rows, kept, if_neg (by show ¬ 112 ≤ p.val; omega), mul_zero]

/-- The rows' gradient, masked, is the reference's, padded. -/
theorem rows_eq : rows (V m c main_v1) (V m c main_v2) (V m c main_v3) = val_main_v38 (F := Ideal) (m ((c : Thread nD τ).loc main_arg0)) (m ((c : Thread nD τ).loc main_arg1)) (m ((c : Thread nD τ).loc main_arg2)) (m ((c : Thread nD τ).loc main_arg3)) :=
  eq_padded (h := Cert.Reference8Ideal.Facts₀.pads_S4112x1024_S4224x1024_11200_000) (fun p q hp => rows_low m c p q hp)
    (fun r q => rows_live m c r q)

/-- The gain's gradient is the reference's. -/
theorem gain_grad_eq : gain (V m c main_v1) (V m c main_v2) = val_main_v39 (F := Ideal) (m ((c : Thread nD τ).loc main_arg0)) (m ((c : Thread nD τ).loc main_arg1)) (m ((c : Thread nD τ).loc main_arg3)) := by
  refine ext2 fun z b => ?_
  rw [Subsingleton.elim z 0, ref_gain]
  refine (sum_rows _ fun p hp => ?_).trans (Finset.sum_congr rfl fun r _ => ?_)
  · have h0 : V m c main_v2 (ix2 p b) = (0 : EReal) := by rw [f_eq]; exact padded_low p b hp
    exact (congrArg (fun x : EReal => x * _ * _) h0).trans (by rw [zero_mul, zero_mul])
  · refine congr (congrArg _ (congr (congrArg _ (f_live m c r b)) (congrArg scale ?_))) (dy_live m c r b)
    exact funext fun k => f_live m c r k

/-- The gradient that goes on is the reference's, padded. -/
theorem back_eq : back (n := 4224) (rows (V m c main_v1) (V m c main_v2) (V m c main_v3)) (V m c main_v4)
    = val_main_v41 (F := Ideal) (m ((c : Thread nD τ).loc main_arg0)) (m ((c : Thread nD τ).loc main_arg1)) (m ((c : Thread nD τ).loc main_arg2)) (m ((c : Thread nD τ).loc main_arg3)) := by
  refine eq_padded (h := Cert.Reference8Ideal.Facts₀.pads_S4112x1024_S4224x1024_11200_000) (fun p q hp => ?_) (fun r q => ?_)
  · refine Finset.sum_eq_zero fun k _ => ?_
    exact (congrArg (· * _) (rows_low m c p k hp)).trans (zero_mul _)
  · refine Eq.trans ?_ (ref_back _ _ _ _ r q).symm
    exact Finset.sum_congr rfl fun k _ => congr (congrArg _ (rows_live m c r k)) (congrFun (w_eq m c) (ix2 q k))

end Together

/-- The claim. -/
theorem algebraic : Cert.algebraic_Kernel8Ideal_Reference8Ideal := fun m g m' g' _ hag =>
  ⟨fun c => Cert.Reference8Ideal.Read.val_main_v38 (F := Ideal) (m ((c : Thread nD τ).loc main_arg0)) (m ((c : Thread nD τ).loc main_arg1)) (m ((c : Thread nD τ).loc main_arg2)) (m ((c : Thread nD τ).loc main_arg3)),
    fun c => Cert.Reference8Ideal.Read.val_main_v39 (F := Ideal) (m ((c : Thread nD τ).loc main_arg0)) (m ((c : Thread nD τ).loc main_arg1)) (m ((c : Thread nD τ).loc main_arg3)),
    fun c => Cert.Reference8Ideal.Read.val_main_v41 (F := Ideal) (m ((c : Thread nD τ).loc main_arg0)) (m ((c : Thread nD τ).loc main_arg1)) (m ((c : Thread nD τ).loc main_arg2)) (m ((c : Thread nD τ).loc main_arg3)),
    (θ_run _ _ _).mono (fun r h c => ⟨(h c).1.trans ((rows_final m c).trans (rows_eq m c)),
      (h c).2.1.trans ((gain_final m c).trans (gain_grad_eq m c)),
      (h c).2.2.1.trans ((back_final m c).trans (back_eq m c)), (h c).2.2.2⟩) (Value.run_blocks m g),
    (θ_run _ _ _).mono (fun r h c => ⟨(h c).1.trans (by
        rw [Cert.Reference8Ideal.Read.val_main_v38_eq, (hag c).1, (hag c).2.1, (hag c).2.2.1, (hag c).2.2.2]),
      (h c).2.1.trans (by
        rw [Cert.Reference8Ideal.Read.val_main_v39_eq, (hag c).1, (hag c).2.1, (hag c).2.2.2]),
      (h c).2.2.1.trans (by
        rw [Cert.Reference8Ideal.Read.val_main_v41_eq, (hag c).1, (hag c).2.1, (hag c).2.2.1, (hag c).2.2.2]), (h c).2.2.2⟩)
      (Cert.Reference8Ideal.Value.run m' g')⟩

end Cert.Kernel8Ideal.Tied

end
-- ==== Proof.MixInBackward.lean ====
/-
  The gradient of a mixer's input through its projection and its normalisation: the rows' gradient and the gain's, block by block over the 4224 padded rows, are the reference's over the 4112 rows.
-/
module

public import proofs.«01_k».proof.Proof.Rows
public import proofs.«01_k».proof.Proof.Norm
public import proofs.«01_k».proof.Defs
public import proofs.«01_k».proof.Proof.Gen.Kernel9Ideal.Value
public import proofs.«01_k».proof.Proof.Gen.Reference9Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel9Ideal.Tied

open Cert.Kernel9Ideal Cert.Kernel9Ideal.Gen Cert.Rows Cert.Norm

variable (m : (ℓ : Loc nD τ sig) → Buf (Elt Ideal) ℓ)

/-- The gradient of the product at region entry. -/
theorem dp_eq (c : Dev nD) : V m c main_v1 = padded (m ((c : Thread nD τ).loc main_arg4)) pads_S4112x3200_S4224x3200_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The weight, transposed. -/
theorem w_eq (c : Dev nD) : V m c main_v3 = transpose S3200x1024 [1, 0] (m ((c : Thread nD τ).loc main_arg2)) transposes_S1024x3200_S3200x1024_1_0 := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The mixer's input at region entry. -/
theorem h_eq (c : Dev nD) : V m c main_v4 = padded (m ((c : Thread nD τ).loc main_arg0)) pads_S4112x1024_S4224x1024_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The gain at region entry. -/
theorem gain_eq (c : Dev nD) : V m c main_v5 = shapeCast S1x1024 (m ((c : Thread nD τ).loc main_arg1)) shapeCasts_S1024_S1x1024 := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The gradient that passes the mixer by, at region entry. -/
theorem dho_eq (c : Dev nD) : V m c main_v6 = padded (m ((c : Thread nD τ).loc main_arg3)) pads_S4112x1024_S4224x1024_11200_000 h_S_ := by
  simp only [V, hostOps0, hostOps0_1, hostOps0_2, hostOps0_3, hostOps0_4, hostOps0_5, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The block every window is at. -/
theorem idx : ∀ t, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ (grid0.coords t 0).val = t.val := by decide +kernel

/-- Row `i` of a matrix times column `b` of another. -/
def entry {n : Nat} (x : (⟨2, ![n, 3200]⟩ : Shape).Idx → EReal) (y : (⟨2, ![3200, 1024]⟩ : Shape).Idx → EReal) (i : Fin n)
    (b : Fin 1024) : EReal := ∑ k : Fin 3200, x (ix2 i k) * y (ix2 k b)

/-- What one block adds to the gain's gradient. -/
theorem pay_gain (x : Vec Ideal S384x3200 .bf16) (y : Vec Ideal S3200x1024 .bf16) (f : Vec Ideal S384x1024 .f32) (b : Fin 1024) :
    k0_pay8 x y f (ix2 0 b) = ∑ i : Fin 384, f (ix2 i b) * scale (fun k => f (ix2 i k)) * entry x y i b := by
  unfold_payloads
  pointwise [dot_S384x3200_S3200x1024_S384x1024_1_0_0_1_n_n]
  rfl

/-- One block of the rows' gradient through the normalisation. -/
theorem pay_rows (x : Vec Ideal S384x3200 .bf16) (y : Vec Ideal S3200x1024 .bf16) (f : Vec Ideal S384x1024 .f32)
    (w : Vec Ideal S1x1024 .f32) (i : Fin 384) (b : Fin 1024) :
    k0_pay9 x y f w (ix2 i b) = grad (fun k => f (ix2 i k)) (fun k => entry x y i k * w (ix2 0 k)) b := by
  unfold_payloads
  pointwise [dot_S384x3200_S3200x1024_S384x1024_1_0_0_1_n_n]
  simp only [Fin.sum_univ_one]
  rfl

/-- What the body stores of the rows' gradient, masked. -/
theorem pay_out (n : Fin 11) (x y : Vec Ideal S384x1024 .f32) (i : Fin 384) (b : Fin 1024) :
    k0_pay1 (BitVec.ofNat 32 n.val) x y (ix2 i b) = (y (ix2 i b) + x (ix2 i b)) * kept (n.val * 384 + i.val) := by
  rw [← mask_eq]
  unfold_payloads
  pointwise []

/-- The rows' gradient from the arrays at region entry. -/
def rows (x : S4224x3200.Idx → EReal) (y : S3200x1024.Idx → EReal) (f : S4224x1024.Idx → EReal) (w : S1x1024.Idx → EReal)
    (d : S4224x1024.Idx → EReal) : S4224x1024.Idx → EReal := fun i =>
  (d (ix2 (i 0) (i 1)) + grad (fun k => f (ix2 (i 0) k)) (fun k => entry x y (i 0) k * w (ix2 0 k)) (i 1)) * kept (i 0).val

section Blocks
variable (c : Dev nD) (t : Fin cfg0.N) (i : Fin 384)

theorem blk_dp (k : Fin 3200) : iblk m c 0 t (ix2 i k) = V m c main_v1 (ix2 (at_ t i) k) := by blk_ext [iblk, idx t]
theorem blk_w (k : Fin 3200) (b : Fin 1024) : iblk m c 1 t (ix2 k b) = V m c main_v3 (ix2 k b) := by blk_ext [iblk, idx t]
theorem blk_h (k : Fin 1024) : iblk m c 2 t (ix2 i k) = V m c main_v4 (ix2 (at_ t i) k) := by blk_ext [iblk, idx t]
theorem blk_gain (k : Fin 1024) : iblk m c 3 t (ix2 0 k) = V m c main_v5 (ix2 0 k) := by blk_ext [iblk, idx t]
theorem blk_dho (k : Fin 1024) : iblk m c 4 t (ix2 i k) = V m c main_v6 (ix2 (at_ t i) k) := by blk_ext [iblk, idx t]

theorem blk_entry (b : Fin 1024) : entry (n := 384) (iblk m c 0 t) (iblk m c 1 t) i b = entry (n := 4224) (V m c main_v1) (V m c main_v3) (at_ t i) b :=
  Finset.sum_congr rfl fun k _ => congr (congrArg _ (blk_dp m c t i k)) (blk_w m c t k b)

/-- The block of rows' gradient the body stores at point `t`. -/
theorem stored (b : Fin 1024) : k0_pay1 (BitVec.ofNat 32 (grid0.coords t 0).val)
    (k0_pay9 (iblk m c 0 t) (iblk m c 1 t) (iblk m c 2 t) (iblk m c 3 t)) (iblk m c 4 t) (ix2 i b)
      = rows (V m c main_v1) (V m c main_v3) (V m c main_v4) (V m c main_v5) (V m c main_v6) (ix2 (at_ t i) b) := by
  rw [(idx t).2.2.2.2.2.2.2, pay_out t, pay_rows]
  simp only [blk_entry, blk_gain, blk_h, blk_dho]
  rfl

end Blocks

/-- The rows' gradient after the run. -/
theorem rows_final (c : Dev nD) : (dats m 0 c).arrAt 5 cfg0.N
    = rows (V m c main_v1) (V m c main_v3) (V m c main_v4) (V m c main_v5) (V m c main_v6) := by
  refine (dats m 0 c).arrAt_eq_of_covers 5 _ (by decide +kernel) fun t hf y => ?_
  have e : (((View.whole main_v7_0).slice (win0_5.rect t)).emb y) = ix2 (at_ t (y 0)) (y 1) := by
    blk_ext [idx t]
  blk_simp
  rw [after0_5]
  have e' := (congrArg _ (eq_ix2 y)).trans ((stored m c t (y 0) (y 1)).trans (congrArg _ e.symm))
  by_cases h : t.val % 11 = 0
  · rw [outsAt0_A m c t h]
    frame_out
    exact e'
  · rw [outsAt0_B m c t h]
    frame_out
    exact e'

/-- What one row adds to the gain's gradient. -/
def part {n : Nat} (x : (⟨2, ![n, 3200]⟩ : Shape).Idx → EReal) (y : S3200x1024.Idx → EReal)
    (f : (⟨2, ![n, 1024]⟩ : Shape).Idx → EReal) (p : Fin n) (b : Fin 1024) : EReal :=
  f (ix2 p b) * scale (fun k => f (ix2 p k)) * entry x y p b

/-- The gain's gradient from the arrays at region entry. -/
def gain (x : S4224x3200.Idx → EReal) (y : S3200x1024.Idx → EReal) (f : S4224x1024.Idx → EReal) : S1x1024.Idx → EReal :=
  fun i => ∑ p : Fin 4224, part x y f p (i 1)

/-- What one block adds to it. -/
theorem pay_acc (z v : Vec Ideal S1x1024 .f32) (b : Fin 1024) : k0_pay3 z v (ix2 0 b) = v (ix2 0 b) + z (ix2 0 b) := by
  unfold_payloads
  pointwise []

/-- The accumulator starts at zero. -/
theorem pay_zero (b : Fin 1024) : k0_pay2 (F := Ideal) (ix2 0 b) = 0 := by
  unfold_payloads
  pointwise []

/-- What point `t` adds, over the rows of its block. -/
theorem added (c : Dev nD) (t : Fin cfg0.N) (b : Fin 1024) : k0_pay8 (iblk m c 0 t) (iblk m c 1 t) (iblk m c 2 t) (ix2 0 b)
    = ∑ i : Fin 384, part (n := 4224) (V m c main_v1) (V m c main_v3) (V m c main_v4) (at_ t i) b := by
  rw [pay_gain]
  simp only [blk_entry, blk_h]
  rfl

/-- The last grid point. -/
abbrev last : Fin cfg0.N := ⟨10, by decide⟩

theorem acc (c : Dev nD) (b : Fin 1024) : (outsAt0 m c last.val last.isLt).2 (ix2 0 b)
    = ∑ t : Fin 11, k0_pay8 (iblk m c 0 t) (iblk m c 1 t) (iblk m c 2 t) (ix2 0 b) :=
  (Pipeline.eq_sum_fin_of_reset_step_apply_last (fun n h b => (outsAt0 m c n h).2 (ix2 0 b)) 11 (fun _ => 0)
      (fun t b => k0_pay8 (iblk m c 0 t) (iblk m c 1 t) (iblk m c 2 t) (ix2 0 b))
      (fun t h j => by rw [outsAt0_A m c t h]; frame_out; rw [pay_acc, pay_zero])
      (fun t h j => by rw [outsAt0_B m c t h]; frame_out; rw [pay_acc])
      (by decide) last rfl b).trans (zero_add _)

/-- The gain's gradient after the run. -/
theorem gain_final (c : Dev nD) : (dats m 0 c).arrAt 6 cfg0.N = gain (V m c main_v1) (V m c main_v3) (V m c main_v4) := by
  refine (dats m 0 c).arrAt_eq_of_after_last 6 last (by decide +kernel) _ fun j => ?_
  rw [after0_6]
  have h0 : (j 0).val < 1 := (j 0).isLt
  have hj : j = ix2 0 (j 1) := at2 (by show (j 0).val = 0; omega) rfl
  have eb : (cfg0.win 6).arr.view.emb j = ix2 0 (j 1) := at2 (by show (j 0).val = 0; omega) rfl
  rw [eb]
  refine (congrArg (outsAt0 m c last.val last.isLt).2 hj).trans ((acc m c (j 1)).trans ?_)
  refine Eq.trans ?_ (Fin.sum_mul_add_fin (n := 384) (L := 4224) 11 _ rfl)
  exact Finset.sum_congr rfl fun t _ => added m c t (j 1)

section Reference
open Cert.Reference9Ideal.Read

variable (x0 : S4112x1024.Idx → EReal) (x1 : S1024.Idx → EReal) (x2 : S1024x3200.Idx → EReal) (x3 : S4112x1024.Idx → EReal)
  (x4 : S4112x3200.Idx → EReal) (r : Fin 4112) (b : Fin 1024)

/-- The gradient that reaches the normalised rows. -/
theorem ref_prod : val_main_v17 (F := Ideal) x2 x4 (ix2 r b) = ∑ k : Fin 3200, x4 (ix2 r k) * x2 (ix2 b k) := by
  pointwise [val_main_v17, Cert.Reference9Ideal.dot_S4112x3200_S1024x3200_S4112x1024_1_1_0_0_n_n]

/-- The reference's rows' gradient. -/
theorem ref_rows : val_main_v38 (F := Ideal) x0 x1 x2 x3 x4 (ix2 r b) = x3 (ix2 r b)
    + grad (fun k => x0 (ix2 r k)) (fun k => val_main_v17 (F := Ideal) x2 x4 (ix2 r k) * x1 (ix1 k)) b := by
  pointwise [val_main_v0, val_main_v1, val_main_v2, val_main_v3, val_main_v4, val_main_v5, val_main_v6, val_main_v7,
    val_main_v8, val_main_v9, val_main_v10, val_main_v11, val_main_v13, val_main_v21, val_main_v22, val_main_v24, val_main_v25,
    val_main_v26, val_main_v27, val_main_v28, val_main_v29, val_main_v30, val_main_v31, val_main_v32, val_main_v33, val_main_v34,
    val_main_v35, val_main_v36, val_main_v37, val_main_v38, val_main_cst, val_main_cst_0, val_main_cst_1, val_main_cst_2,
    val_main_cst_5, val_main_cst_6, val_main_cst_7]
  simp only [Fin.sum_univ_one]
  exact add_last _ _ _ _

/-- The reference's gain's gradient. -/
theorem ref_gain : val_main_v40 (F := Ideal) x0 x2 x4 (ix2 0 b) = ∑ r : Fin 4112, x0 (ix2 r b) * scale (fun k => x0 (ix2 r k))
    * val_main_v17 (F := Ideal) x2 x4 (ix2 r b) := by
  pointwise [val_main_v0, val_main_v1, val_main_v2, val_main_v3, val_main_v4, val_main_v5, val_main_v6, val_main_v7,
    val_main_v11, val_main_v12, val_main_v18, val_main_v19, val_main_v20, val_main_v23, val_main_v40, val_main_cst_3, val_main_cst_4,
    val_main_cst, val_main_cst_0, val_main_cst_1]
  simp only [Fin.sum_univ_one]
  rfl

end Reference

section Together
open Cert.Reference9Ideal.Read
variable (c : Dev nD)

/-- The products agree at a row that is not padding. -/
theorem entry_live (r : Fin 4112) (b : Fin 1024) : entry (n := 4224) (V m c main_v1) (V m c main_v3) (live r) b
    = val_main_v17 (F := Ideal) (m ((c : Thread nD τ).loc main_arg2)) (m ((c : Thread nD τ).loc main_arg4)) (ix2 r b) := by
  rw [ref_prod, entry, dp_eq, w_eq]
  refine Finset.sum_congr rfl fun k _ => ?_
  rw [padded_live]
  pointwise []

/-- The input's rows, read where they are not padding. -/
theorem h_live (r : Fin 4112) (k : Fin 1024) : V m c main_v4 (ix2 (live r) k) = m ((c : Thread nD τ).loc main_arg0) (ix2 r k) := by
  rw [h_eq]; exact padded_live r k

/-- The gradient that passes by, read where it is not padding. -/
theorem dho_live (r : Fin 4112) (k : Fin 1024) : V m c main_v6 (ix2 (live r) k) = m ((c : Thread nD τ).loc main_arg3) (ix2 r k) := by
  rw [dho_eq]; exact padded_live r k

/-- The gain, read at an entry. -/
theorem gain_at (k : Fin 1024) : V m c main_v5 (ix2 0 k) = m ((c : Thread nD τ).loc main_arg1) (ix1 k) := by
  rw [gain_eq]
  pointwise []

/-- The rows' gradient is the reference's. -/
theorem rows_eq : rows (V m c main_v1) (V m c main_v3) (V m c main_v4) (V m c main_v5) (V m c main_v6)
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ext2 fun p b => ?_
  rcases row_cases p with hp | ⟨r, rfl⟩
  · refine Eq.trans ?_ (padded_low (h := Cert.Reference9Ideal.Facts₀.pads_S4112x1024_S4224x1024_11200_000) p b hp).symm
    rw [rows, kept, if_neg (by show ¬ 112 ≤ p.val; omega), mul_zero]
  · refine Eq.trans ?_ ((padded_live (h := Cert.Reference9Ideal.Facts₀.pads_S4112x1024_S4224x1024_11200_000) r b).trans (ref_rows _ _ _ _ _ r b)).symm
    rw [rows, kept, if_pos (by show 112 ≤ r.val + 112; omega), mul_one]
    refine congr (congrArg _ (dho_live m c r b)) (congrFun (congr (congrArg grad ?_) ?_) b)
    · exact funext fun k => h_live m c r k
    · exact funext fun k => congr (congrArg _ (entry_live m c r k)) (gain_at m c k)

/-- The gain's gradient is the reference's. -/
theorem gain_grad_eq : gain (V m c main_v1) (V m c main_v3) (V m c main_v4)
    = val_main_v40 (F := Ideal) (m ((c : Thread nD τ).loc main_arg0)) (m ((c : Thread nD τ).loc main_arg2)) (m ((c : Thread nD τ).loc main_arg4)) := by
  refine ext2 fun z b => ?_
  rw [Subsingleton.elim z 0, ref_gain]
  refine (sum_rows _ fun p hp => ?_).trans (Finset.sum_congr rfl fun r _ => ?_)
  · have h0 : V m c main_v4 (ix2 p b) = (0 : EReal) := by rw [h_eq]; exact padded_low p b hp
    exact (congrArg (fun x : EReal => x * _ * _) h0).trans (by rw [zero_mul, zero_mul])
  · refine congr (congrArg _ (congr (congrArg _ (h_live m c r b)) (congrArg scale ?_))) (entry_live m c r b)
    exact funext fun k => h_live m c r k

end Together

/-- The claim. -/
theorem algebraic : Cert.algebraic_Kernel9Ideal_Reference9Ideal := fun m g m' g' _ hag =>
  ⟨fun c => Cert.Reference9Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.Reference9Ideal.Read.val_main_v40 (F := Ideal) (m ((c : Thread nD τ).loc main_arg0)) (m ((c : Thread nD τ).loc main_arg2)) (m ((c : Thread nD τ).loc main_arg4)),
    (θ_run _ _ _).mono (fun r h c => ⟨(h c).1.trans ((rows_final m c).trans (rows_eq m c)),
      (h c).2.1.trans ((gain_final m c).trans (gain_grad_eq m c)), (h c).2.2⟩) (Value.run_blocks m g),
    (θ_run _ _ _).mono (fun r h c => ⟨(h c).1.trans (by
        rw [Cert.Reference9Ideal.Read.val_main_v39_eq, (hag c).1, (hag c).2.1, (hag c).2.2.1, (hag c).2.2.2.1, (hag c).2.2.2.2]),
      (h c).2.1.trans (by
        rw [Cert.Reference9Ideal.Read.val_main_v40_eq, (hag c).1, (hag c).2.2.1, (hag c).2.2.2.2]), (h c).2.2⟩)
      (Cert.Reference9Ideal.Value.run m' g')⟩

end Cert.Kernel9Ideal.Tied

end
-- ==== Proof.MixInWeights.lean ====
/-
  The gradient of a mixer's input weight, transposed: the kernel's product of two padded arrays, block of columns by block
  of columns, is the reference's over the 4112 rows.
-/
module

public import proofs.«01_k».proof.Proof.Rows
public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.Tied

open Cert.Kernel10Ideal Cert.Kernel10Ideal.Gen Cert.Rows

variable (m : (ℓ : Loc nD τ sig) → Buf (Elt Ideal) ℓ)

/-- The first operand at region entry. -/
theorem left_eq (c : Dev nD) : V m c main_v1 = padded (m ((c : Thread nD τ).loc main_arg2)) pads_S4112x3200_S4224x3200_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The second operand at region entry. -/
theorem right_eq (c : Dev nD) : V m c main_v16 = padded (Cert.Reference10Ideal.Read.val_main_v13 (F := Ideal)
    (m ((c : Thread nD τ).loc main_arg0)) (m ((c : Thread nD τ).loc main_arg1)))
    pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![0, t.val] ∧ win0_1.index t = ![0, 0] ∧ win0_2.index t = ![t.val, 0] := by decide +kernel

/-- What the body stores: one block of columns of the product. -/
theorem pay (x : Vec Ideal S4224x640 .bf16) (y : Vec Ideal S4224x1024 .bf16) (j : S640x1024.Idx) :
    k0_pay1 x y j = ∑ p : Fin 4224, x (ix2 p (j 0)) * y (ix2 p (j 1)) := by
  unfold_payloads
  pointwise [dot_S4224x640_S4224x1024_S640x1024_0_0_1_1_n_n]

/-- The result array after the run: the product of the two arrays at region entry. -/
theorem final (c : Dev nD) : (dats m 0 c).arrAt 2 cfg0.N = tn (V m c main_v1) (V m c main_v16) := by
  refine (dats m 0 c).arrAt_eq_of_covers 2 _ (by decide +kernel) fun t hf y => ?_
  blk_simp
  rw [after0_2]
  frame_out
  rw [pay]
  refine Finset.sum_congr (M := EReal) rfl fun k _ => ?_
  congr 1 <;> blk_ext [iblk, idx t]

open Cert.Reference10Ideal.Read in
/-- The product over the padded rows is the reference's over the 4112. -/
theorem product_eq (c : Dev nD) : tn (V m c main_v1) (V m c main_v16) = val_main_v17 (F := Ideal) (m ((c : Thread nD τ).loc main_arg0)) (m ((c : Thread nD τ).loc main_arg1)) (m ((c : Thread nD τ).loc main_arg2)) := by
  refine ext2 fun a b => ?_
  rw [left_eq, right_eq]
  refine (tn_padded a b).trans ?_
  refine Eq.symm ?_
  pointwise [val_main_v17, val_main_v16, val_main_v15, Cert.Reference10Ideal.dot_S4112x3200_S4112x1024_S3200x1024_0_0_1_1_n_n]

/-- The claim. -/
theorem algebraic : Cert.algebraic_Kernel10Ideal_Reference10Ideal := fun m g m' g' _ hag =>
  ⟨fun c => Cert.Reference10Ideal.Read.val_main_v17 (F := Ideal) (m ((c : Thread nD τ).loc main_arg0)) (m ((c : Thread nD τ).loc main_arg1)) (m ((c : Thread nD τ).loc main_arg2)),
    (θ_run _ _ _).mono (fun r h c => ⟨(h c).1.trans ((final m c).trans (product_eq m c)), (h c).2⟩) (Value.run_blocks m g),
    (θ_run _ _ _).mono (fun r h c => ⟨(h c).1.trans (by
      rw [Cert.Reference10Ideal.Read.val_main_v17_eq, (hag c).1, (hag c).2.1, (hag c).2.2]), (h c).2⟩)
      (Cert.Reference10Ideal.Value.run m' g')⟩

end Cert.Kernel10Ideal.Tied

end
-- ==== Proof.MixOutWeights.lean ====
/-
  The gradient of a mixer's output weight: the kernel's product of two padded arrays, block of columns by block of columns,
  is the reference's over the 4112 rows.
-/
module

public import proofs.«01_k».proof.Proof.Rows
public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel11Ideal.Tied

open Cert.Kernel11Ideal Cert.Kernel11Ideal.Gen Cert.Rows

variable (m : (ℓ : Loc nD τ sig) → Buf (Elt Ideal) ℓ)

/-- The first operand at region entry. -/
theorem left_eq (c : Dev nD) : V m c main_v0 = padded (m ((c : Thread nD τ).loc main_arg0)) pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The second operand at region entry. -/
theorem right_eq (c : Dev nD) : V m c main_v2 = padded (m ((c : Thread nD τ).loc main_arg1))
    pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![0, t.val] ∧ win0_1.index t = ![0, 0] ∧ win0_2.index t = ![t.val, 0] := by decide +kernel

/-- What the body stores: one block of columns of the product. -/
theorem pay (x : Vec Ideal S4224x512 .f32) (y : Vec Ideal S4224x1024 .bf16) (j : S512x1024.Idx) :
    k0_pay1 x y j = ∑ p : Fin 4224, x (ix2 p (j 0)) * y (ix2 p (j 1)) := by
  unfold_payloads
  pointwise [dot_S4224x512_S4224x1024_S512x1024_0_0_1_1_n_n]

/-- The result array after the run: the product of the two arrays at region entry. -/
theorem final (c : Dev nD) : (dats m 0 c).arrAt 2 cfg0.N = tn (V m c main_v0) (V m c main_v2) := by
  refine (dats m 0 c).arrAt_eq_of_covers 2 _ (by decide +kernel) fun t hf y => ?_
  blk_simp
  rw [after0_2]
  frame_out
  rw [pay]
  refine Finset.sum_congr (M := EReal) rfl fun k _ => ?_
  congr 1 <;> blk_ext [iblk, idx t]

open Cert.Reference11Ideal.Read in
/-- The product over the padded rows is the reference's over the 4112. -/
theorem product_eq (c : Dev nD) : tn (V m c main_v0) (V m c main_v2) = val_main_v3 (F := Ideal) (m ((c : Thread nD τ).loc main_arg0)) (m ((c : Thread nD τ).loc main_arg1)) := by
  refine ext2 fun a b => ?_
  rw [left_eq, right_eq]
  refine (tn_padded a b).trans ?_
  refine Eq.symm ?_
  pointwise [val_main_v3, val_main_v2, Cert.Reference11Ideal.dot_S4112x1024_S4112x1024_S1024x1024_0_0_1_1_n_n]
  exact Finset.sum_congr rfl fun r _ => mul_comm _ _

/-- The claim. -/
theorem algebraic : Cert.algebraic_Kernel11Ideal_Reference11Ideal := fun m g m' g' _ hag =>
  ⟨fun c => Cert.Reference11Ideal.Read.val_main_v3 (F := Ideal) (m ((c : Thread nD τ).loc main_arg0)) (m ((c : Thread nD τ).loc main_arg1)),
    (θ_run _ _ _).mono (fun r h c => ⟨(h c).1.trans ((final m c).trans (product_eq m c)), (h c).2⟩) (Value.run_blocks m g),
    (θ_run _ _ _).mono (fun r h c => ⟨(h c).1.trans (by
      rw [Cert.Reference11Ideal.Read.val_main_v3_eq, (hag c).1, (hag c).2]), (h c).2⟩)
      (Cert.Reference11Ideal.Value.run m' g')⟩

end Cert.Kernel11Ideal.Tied

end
-- ==== Proof.MixInForward.lean ====
/-
  A mixer's input, forward: the normalised rows and their product with the input weight, block by block over the 4224
  padded rows, are the reference's.
-/
module

public import proofs.«01_k».proof.Proof.Rows
public import proofs.«01_k».proof.Proof.Norm
public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel12Ideal.Tied

open Cert.Kernel12Ideal Cert.Kernel12Ideal.Gen Cert.Rows Cert.Norm

variable (m : (ℓ : Loc nD τ sig) → Buf (Elt Ideal) ℓ)

/-- The rows at region entry. -/
theorem h_eq (c : Dev nD) : V m c main_v0 = padded (m ((c : Thread nD τ).loc main_arg0)) pads_S4112x1024_S4224x1024_11200_000 h_S_ := by
  simp only [V, hostOps0, hostOps0_1, hostOps0_2, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The gain at region entry. -/
theorem gain_eq (c : Dev nD) : V m c main_v1 = shapeCast S1x1024 (m ((c : Thread nD τ).loc main_arg1)) shapeCasts_S1024_S1x1024 := by
  simp only [V, hostOps0, hostOps0_1, hostOps0_2, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The weight at region entry, transposed. -/
theorem w_eq (c : Dev nD) : V m c main_v3
    = transpose S3200x1024 [1, 0] (m ((c : Thread nD τ).loc main_arg2)) transposes_S1024x3200_S3200x1024_1_0 := by
  simp only [V, hostOps0, hostOps0_1, hostOps0_2, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![t.val, 0] ∧ win0_1.index t = ![0, 0] ∧ win0_2.index t = ![0, 0]
    ∧ win0_3.index t = ![t.val, 0] ∧ win0_4.index t = ![t.val, 0] := by decide +kernel

section Arrays
variable {n : Nat} (f : (⟨2, ![n, 1024]⟩ : Shape).Idx → EReal) (w : S1x1024.Idx → EReal) (y : S3200x1024.Idx → EReal)

/-- The normalised rows. -/
def hn (i : Fin n) (b : Fin 1024) : EReal := normed (fun k => f (ix2 i k)) (fun k => w (ix2 0 k)) b

/-- Their product with the weight. -/
def proj (i : Fin n) (k : Fin 3200) : EReal := ∑ b : Fin 1024, hn f w i b * y (ix2 k b)

end Arrays

section Payloads
variable (x : Vec Ideal S384x1024 .f32) (w : Vec Ideal S1x1024 .f32) (y : Vec Ideal S3200x1024 .bf16) (i : Fin 384)

theorem pay_hn (b : Fin 1024) : k0_pay1 x w (ix2 i b) = hn x w i b := by
  unfold_payloads
  pointwise []
  rfl

theorem pay_proj (k : Fin 3200) : k0_pay2 x w y (ix2 i k) = proj x w y i k := by
  unfold k0_pay2
  pointwise [dot_S384x1024_S3200x1024_S384x3200_1_1_0_0_n_n]
  simp only [pay_hn]
  rfl

end Payloads

section Blocks
variable (c : Dev nD) (t : Fin cfg0.N) (i : Fin 384)

theorem blk_h (k : Fin 1024) : iblk m c 0 t (ix2 i k) = V m c main_v0 (ix2 (at_ t i) k) := by blk_ext [iblk, idx t]
theorem blk_gain (k : Fin 1024) : iblk m c 1 t (ix2 0 k) = V m c main_v1 (ix2 0 k) := by blk_ext [iblk, idx t]
theorem blk_w (k : Fin 3200) (b : Fin 1024) : iblk m c 2 t (ix2 k b) = V m c main_v3 (ix2 k b) := by blk_ext [iblk, idx t]

theorem blk_hn (b : Fin 1024) : hn (n := 384) (iblk m c 0 t) (iblk m c 1 t) i b
    = hn (n := 4224) (V m c main_v0) (V m c main_v1) (at_ t i) b := by
  simp only [hn, blk_h, blk_gain]

theorem blk_proj (k : Fin 3200) : proj (n := 384) (iblk m c 0 t) (iblk m c 1 t) (iblk m c 2 t) i k
    = proj (n := 4224) (V m c main_v0) (V m c main_v1) (V m c main_v3) (at_ t i) k := by
  simp only [proj, blk_hn, blk_w]

end Blocks

/-- The normalised rows after the run. -/
theorem hn_final (c : Dev nD) : (dats m 0 c).arrAt 3 cfg0.N
    = fun i : S4224x1024.Idx => hn (V m c main_v0) (V m c main_v1) (i 0) (i 1) := by
  refine (dats m 0 c).arrAt_eq_of_covers 3 _ (by decide +kernel) fun t hf y => ?_
  have e : (((View.whole main_v4_0).slice (win0_3.rect t)).emb y) = ix2 (at_ t (y 0)) (y 1) := by
    blk_ext [idx t]
  blk_simp
  rw [after0_3, e]
  frame_out
  refine (congrArg _ (eq_ix2 y)).trans ?_
  exact (pay_hn _ _ (y 0) (y 1)).trans (blk_hn m c t (y 0) (y 1))

/-- The product after the run. -/
theorem proj_final (c : Dev nD) : (dats m 0 c).arrAt 4 cfg0.N
    = fun i : S4224x3200.Idx => proj (V m c main_v0) (V m c main_v1) (V m c main_v3) (i 0) (i 1) := by
  refine (dats m 0 c).arrAt_eq_of_covers 4 _ (by decide +kernel) fun t hf y => ?_
  have e : (((View.whole main_v4_1).slice (win0_4.rect t)).emb y) = ix2 (at_ t (y 0)) (y 1) := by
    blk_ext [idx t]
  blk_simp
  rw [after0_4, e]
  frame_out
  refine (congrArg _ (eq_ix2 y)).trans ?_
  exact (pay_proj _ _ _ (y 0) (y 1)).trans (blk_proj m c t (y 0) (y 1))

section Padding
variable (c : Dev nD)

theorem hn_low (p : Fin 4224) (hp : p.val < 112) (b : Fin 1024) : hn (V m c main_v0) (V m c main_v1) p b = 0 := by
  rw [h_eq]
  exact normed_zero (fun k => padded_low p k hp) _ b

theorem proj_low (p : Fin 4224) (hp : p.val < 112) (k : Fin 3200) :
    proj (V m c main_v0) (V m c main_v1) (V m c main_v3) p k = 0 :=
  Finset.sum_eq_zero fun b _ => by rw [hn_low m c p hp, zero_mul]

end Padding

section Reference
open Cert.Reference12Ideal.Read
variable (c : Dev nD) (r : Fin 4112)

theorem ref_hn (b : Fin 1024) : val_main_v12 (F := Ideal) (m ((c : Thread nD τ).loc main_arg0))
    (m ((c : Thread nD τ).loc main_arg1)) (ix2 r b) = hn (V m c main_v0) (V m c main_v1) (live r) b := by
  rw [h_eq, gain_eq]
  pointwise [val_main_v12, val_main_v11, val_main_v10, val_main_v9, val_main_v8, val_main_v7, val_main_v6, val_main_v5,
    val_main_cst_1, val_main_v4, val_main_v3, val_main_cst_0, val_main_v2, val_main_v1, val_main_v0, val_main_cst]
  simp only [hn, padded_live]
  pointwise []
  rfl

theorem ref_proj (k : Fin 3200) : val_main_v15 (F := Ideal) (m ((c : Thread nD τ).loc main_arg0))
    (m ((c : Thread nD τ).loc main_arg1)) (m ((c : Thread nD τ).loc main_arg2)) (ix2 r k)
      = proj (V m c main_v0) (V m c main_v1) (V m c main_v3) (live r) k := by
  rw [val_main_v15_apply, w_eq]
  refine Finset.sum_congr rfl fun b _ => congr (congrArg _ ?_) ?_
  · exact (congrArg _ (at2 rfl rfl)).trans (ref_hn m c r b)
  · refine (congrArg _ (at2 rfl rfl)).trans (Eq.symm (?_ : _ = m ((c : Thread nD τ).loc main_arg2) (ix2 b k)))
    pointwise []

end Reference

open Cert.Reference12Ideal.Read in
/-- The claim. -/
theorem algebraic : Cert.algebraic_Kernel12Ideal_Reference12Ideal := fun m g m' g' _ hag =>
  ⟨fun c => val_main_v14 (F := Ideal) (m ((c : Thread nD τ).loc main_arg0)) (m ((c : Thread nD τ).loc main_arg1)),
    fun c => val_main_v16 (F := Ideal) (m ((c : Thread nD τ).loc main_arg0)) (m ((c : Thread nD τ).loc main_arg1))
      (m ((c : Thread nD τ).loc main_arg2)),
    (θ_run _ _ _).mono (fun r h c => ⟨
      (h c).1.trans ((hn_final m c).trans (eq_padded (h := Cert.Reference12Ideal.Facts₀.pads_S4112x1024_S4224x1024_11200_000)
        (fun p q hp => hn_low m c p hp q) fun r q => (ref_hn m c r q).symm)),
      (h c).2.1.trans ((proj_final m c).trans (eq_padded (h := Cert.Reference12Ideal.Facts₀.pads_S4112x3200_S4224x3200_11200_000)
        (fun p q hp => proj_low m c p hp q) fun r q => (ref_proj m c r q).symm)),
      (h c).2.2⟩) (Value.run_blocks m g),
    (θ_run _ _ _).mono (fun r h c => ⟨
      (h c).1.trans (by rw [val_main_v14_eq, (hag c).1, (hag c).2.1]),
      (h c).2.1.trans (by rw [val_main_v16_eq, (hag c).1, (hag c).2.1, (hag c).2.2]), (h c).2.2⟩)
      (Cert.Reference12Ideal.Value.run m' g')⟩

end Cert.Kernel12Ideal.Tied

end
-- ==== Proof.MixOutForward.lean ====
/-
  A mixer's output, forward: the product with the output weight and the rows plus its normalised rows, block by block over
  the 4224 padded rows, are the reference's.
-/
module

public import proofs.«01_k».proof.Proof.Rows
public import proofs.«01_k».proof.Proof.Norm
public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel13Ideal.Tied

open Cert.Kernel13Ideal Cert.Kernel13Ideal.Gen Cert.Rows Cert.Norm

variable (m : (ℓ : Loc nD τ sig) → Buf (Elt Ideal) ℓ)

/-- The left operand at region entry. -/
theorem left_eq (c : Dev nD) : V m c main_v0 = padded (m ((c : Thread nD τ).loc main_arg0)) pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The weight at region entry. -/
theorem w_eq (c : Dev nD) : V m c main_v1 = m ((c : Thread nD τ).loc main_arg1) := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The rows that pass by, at region entry. -/
theorem h_eq (c : Dev nD) : V m c main_v2 = padded (m ((c : Thread nD τ).loc main_arg2)) pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The gain at region entry. -/
theorem gain_eq (c : Dev nD) : V m c main_v3 = shapeCast S1x1024 (m ((c : Thread nD τ).loc main_arg3)) shapeCasts_S1024_S1x1024 := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![t.val, 0] ∧ win0_1.index t = ![0, 0] ∧ win0_2.index t = ![t.val, 0]
    ∧ win0_3.index t = ![0, 0] ∧ win0_4.index t = ![t.val, 0] ∧ win0_5.index t = ![t.val, 0] := by decide +kernel

/-- Rows, plus the normalised rows of a product. -/
def out {n : Nat} (x : (⟨2, ![n, 1024]⟩ : Shape).Idx → EReal) (y : S1024x1024.Idx → EReal)
    (h : (⟨2, ![n, 1024]⟩ : Shape).Idx → EReal) (w : S1x1024.Idx → EReal) (i : Fin n) (b : Fin 1024) : EReal :=
  residual (1) (fun k => h (ix2 i k)) (mm x y i) (fun k => w (ix2 0 k)) b

section Payloads
variable (x : Vec Ideal S384x1024 .f32) (y : Vec Ideal S1024x1024 .bf16) (h : Vec Ideal S384x1024 .f32)
  (w : Vec Ideal S1x1024 .f32) (i : Fin 384) (b : Fin 1024)

theorem pay_prod : k0_pay1 x y (ix2 i b) = mm x y i b := by
  unfold_payloads
  pointwise [dot_S384x1024_S1024x1024_S384x1024_1_0_0_1_n_n]
  rfl

theorem pay_out : k0_pay2 x y h w (ix2 i b) = out x y h w i b := by
  unfold k0_pay2
  pointwise []
  simp only [pay_prod]
  rw [out, residual_one]
  rfl

end Payloads

section Blocks
variable (c : Dev nD) (t : Fin cfg0.N) (i : Fin 384)

theorem blk_left (k : Fin 1024) : iblk m c 0 t (ix2 i k) = V m c main_v0 (ix2 (at_ t i) k) := by blk_ext [iblk, idx t]
theorem blk_w (k : Fin 1024) (b : Fin 1024) : iblk m c 1 t (ix2 k b) = V m c main_v1 (ix2 k b) := by blk_ext [iblk, idx t]
theorem blk_h (k : Fin 1024) : iblk m c 2 t (ix2 i k) = V m c main_v2 (ix2 (at_ t i) k) := by blk_ext [iblk, idx t]
theorem blk_gain (k : Fin 1024) : iblk m c 3 t (ix2 0 k) = V m c main_v3 (ix2 0 k) := by blk_ext [iblk, idx t]

theorem blk_prod (b : Fin 1024) : mm (n := 384) (k := 1024) (l := 1024) (iblk m c 0 t) (iblk m c 1 t) i b
    = mm (V m c main_v0) (V m c main_v1) (at_ t i) b := by
  simp only [mm, blk_left, blk_w]

theorem blk_out (b : Fin 1024) : out (n := 384) (iblk m c 0 t) (iblk m c 1 t) (iblk m c 2 t) (iblk m c 3 t) i b
    = out (V m c main_v0) (V m c main_v1) (V m c main_v2) (V m c main_v3) (at_ t i) b := by
  simp only [out, blk_h, blk_gain, funext (blk_prod m c t i)]

end Blocks

/-- The product after the run. -/
theorem prod_final (c : Dev nD) : (dats m 0 c).arrAt 4 cfg0.N
    = fun i : S4224x1024.Idx => mm (V m c main_v0) (V m c main_v1) (i 0) (i 1) := by
  refine (dats m 0 c).arrAt_eq_of_covers 4 _ (by decide +kernel) fun t hf y => ?_
  have e : (((View.whole main_v4_0).slice (win0_4.rect t)).emb y) = ix2 (at_ t (y 0)) (y 1) := by
    blk_ext [idx t]
  blk_simp
  rw [after0_4, e]
  frame_out
  refine (congrArg _ (eq_ix2 y)).trans ?_
  exact (pay_prod _ _ (y 0) (y 1)).trans (blk_prod m c t (y 0) (y 1))

/-- The second result after the run. -/
theorem out_final (c : Dev nD) : (dats m 0 c).arrAt 5 cfg0.N
    = fun i : S4224x1024.Idx => out (V m c main_v0) (V m c main_v1) (V m c main_v2) (V m c main_v3) (i 0) (i 1) := by
  refine (dats m 0 c).arrAt_eq_of_covers 5 _ (by decide +kernel) fun t hf y => ?_
  have e : (((View.whole main_v4_1).slice (win0_5.rect t)).emb y) = ix2 (at_ t (y 0)) (y 1) := by
    blk_ext [idx t]
  blk_simp
  rw [after0_5, e]
  frame_out
  refine (congrArg _ (eq_ix2 y)).trans ?_
  exact (pay_out _ _ _ _ (y 0) (y 1)).trans (blk_out m c t (y 0) (y 1))

/-- A padding row of the product is zero. -/
theorem prod_low (c : Dev nD) (p : Fin 4224) (hp : p.val < 112) (b : Fin 1024) :
    mm (V m c main_v0) (V m c main_v1) p b = 0 := by
  rw [left_eq]
  exact mm_zero (fun k => padded_low p k hp) b

/-- A padding row of the second result is zero. -/
theorem out_low (c : Dev nD) (p : Fin 4224) (hp : p.val < 112) (b : Fin 1024) :
    out (V m c main_v0) (V m c main_v1) (V m c main_v2) (V m c main_v3) p b = 0 := by
  rw [h_eq]
  exact residual_zero (fun k => padded_low p k hp) (fun k => prod_low m c p hp k) _ _ b

section Reference
open Cert.Reference13Ideal.Read
variable (c : Dev nD) (r : Fin 4112) (b : Fin 1024)

theorem ref_prod : val_main_v0 (F := Ideal) (m ((c : Thread nD τ).loc main_arg0)) (m ((c : Thread nD τ).loc main_arg1)) (ix2 r b)
    = mm (V m c main_v0) (V m c main_v1) (live r) b := by
  rw [left_eq, w_eq, val_main_v0_apply]
  refine Finset.sum_congr rfl fun k _ => congr (congrArg _ ?_) ?_
  · exact (congrArg _ (at2 rfl rfl)).trans (padded_live r k).symm
  · exact congrArg _ (at2 rfl rfl)

theorem ref_out : val_main_v15 (F := Ideal) (m ((c : Thread nD τ).loc main_arg0)) (m ((c : Thread nD τ).loc main_arg1))
    (m ((c : Thread nD τ).loc main_arg2)) (m ((c : Thread nD τ).loc main_arg3)) (ix2 r b)
      = out (V m c main_v0) (V m c main_v1) (V m c main_v2) (V m c main_v3) (live r) b := by
  rw [h_eq, gain_eq]
  simp only [out, ← funext (ref_prod m c r), padded_live]
  pointwise [val_main_v2, val_main_v3, val_main_v4, val_main_v5, val_main_v6, val_main_v7, val_main_v8, val_main_v9,
    val_main_v10, val_main_v11, val_main_v12, val_main_v13, val_main_v14, val_main_v15, val_main_cst,
    val_main_cst_0, val_main_cst_1]
  rw [residual_one]
  rfl

end Reference

open Cert.Reference13Ideal.Read in
/-- The claim. -/
theorem algebraic : Cert.algebraic_Kernel13Ideal_Reference13Ideal := fun m g m' g' _ hag =>
  ⟨fun c => val_main_v1 (F := Ideal) (m ((c : Thread nD τ).loc main_arg0)) (m ((c : Thread nD τ).loc main_arg1)),
    fun c => val_main_v16 (F := Ideal) (m ((c : Thread nD τ).loc main_arg0)) (m ((c : Thread nD τ).loc main_arg1))
      (m ((c : Thread nD τ).loc main_arg2)) (m ((c : Thread nD τ).loc main_arg3)),
    (θ_run _ _ _).mono (fun r h c => ⟨
      (h c).1.trans ((prod_final m c).trans (eq_padded (h := Cert.Reference13Ideal.Facts₀.pads_S4112x1024_S4224x1024_11200_000)
        (fun p q hp => prod_low m c p hp q) fun r q => (ref_prod m c r q).symm)),
      (h c).2.1.trans ((out_final m c).trans (eq_padded (h := Cert.Reference13Ideal.Facts₀.pads_S4112x1024_S4224x1024_11200_000)
        (fun p q hp => out_low m c p hp q) fun r q => (ref_out m c r q).symm)),
      (h c).2.2⟩) (Value.run_blocks m g),
    (θ_run _ _ _).mono (fun r h c => ⟨
      (h c).1.trans (by rw [val_main_v1_eq, (hag c).1, (hag c).2.1]),
      (h c).2.1.trans (by rw [val_main_v16_eq, (hag c).1, (hag c).2.1, (hag c).2.2.1, (hag c).2.2.2]), (h c).2.2⟩)
      (Cert.Reference13Ideal.Value.run m' g')⟩

end Cert.Kernel13Ideal.Tied

end
-- ==== Proof.ConvForward.lean ====
/-
  The mixers' short causal convolution: three blocks of columns of the projection, four taps over the rows behind. The
  body keeps a block of rows with the eight rows before it in one buffer and loads it at four places.
-/
module

public import proofs.«01_k».proof.Proof.Rows
public import proofs.«01_k».proof.Proof.Shifted
public import proofs.«01_k».proof.Defs
public import proofs.«01_k».proof.Proof.Gen.Kernel14Ideal.Value
public import proofs.«01_k».proof.Proof.Gen.Reference14Ideal.Read
public import Idealize.ShloMosaic.Lib.Pipeline.ValueKit
public import Idealize.ShloMosaic.Lib.KernelVsHost
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel14Ideal.Tied

open Cert.Kernel14Ideal Cert.Kernel14Ideal.Gen Cert.Rows Cert.Shifted

variable (m : (ℓ : Loc nD τ sig) → Buf (Elt Ideal) ℓ)

/-- The block every window is at. -/
theorem idx : ∀ t, win0_0.index t = ![t.val % 11, 2 + t.val / 11] ∧ win0_1.index t = ![t.val % 11 * 48 - 1, 2 + t.val / 11]
    ∧ win0_2.index t = ![0, t.val / 11] ∧ win0_3.index t = ![t.val % 11, t.val / 11] := by decide +kernel

/-- The four taps over the rows behind. -/
def taps (x : S4224x3200.Idx → EReal) (w : S4x1536.Idx → EReal) (p : Nat) (q : Fin 1536) : EReal :=
  w (ix2 0 q) * behind x (p + 5) q + w (ix2 1 q) * behind x (p + 6) q + w (ix2 2 q) * behind x (p + 7) q
    + w (ix2 3 q) * behind x (p + 8) q

/-! ## Payloads -/

section Payloads
variable (i : Fin 384) (b : Fin 512)

/-- The block stored: one row of the weights times the rows loaded, four times. -/
theorem pay (w0 w1 w2 w3 : Vec Ideal S1x512 .f32) (x5 x6 x7 x8 : Vec Ideal S384x512 .f32) :
    k0_pay1 (k0_pay4 w0 x5 w1 x6 w2 x7) x8 (k0_pay5 w3) (ix2 i b) = w0 (ix2 0 b) * x5 (ix2 i b) + w1 (ix2 0 b) * x6 (ix2 i b)
      + w2 (ix2 0 b) * x7 (ix2 i b) + w3 (ix2 0 b) * x8 (ix2 i b) := by
  unfold_payloads
  pointwise []

theorem pay_block (x : Vec Ideal S384x512 .f32) : k0_pay3 x (ix2 i b) = x (ix2 i b) := by
  unfold_payloads
  pointwise []

/-- Whether a block of rows is not the first. -/
theorem not_first : ∀ t : Fin grid0.N, Scalar.cmpi .sgt (BitVec.ofNat 32 (grid0.coords t 1).val) 0#32
    = if 0 < t.val % 11 then 1#1 else 0#1 := by decide +kernel

theorem pay_before (t : Fin grid0.N) (h : Vec Ideal S8x512 .f32) (r : Fin 8) : k0_pay2 (grid0.coords t) h (ix2 r b)
    = if 0 < t.val % 11 then h (ix2 r b) else 0 := by
  unfold k0_pay2
  simp only [not_first]
  split <;> pointwise []

end Payloads

/-! ## The blocks at a grid point -/

section Blocks
variable (c : Dev nD) (t : Fin cfg0.N) (i : Fin 384) (b : Fin 512)

/-- The column of the sequence that column `b` of the block is. -/
abbrev col : Fin 1536 := ⟨t.val / 11 * 512 + b.val, by have : t.val < 33 := t.isLt; omega⟩

/-- The row that row `i` of the block is. -/
abbrev row : Fin 4224 := ⟨t.val % 11 * 384 + i.val, by omega⟩

theorem blk_w (j : Fin 4) : iblk m c 2 t (ix2 j b) = V m c main_arg1 (ix2 j (col t b)) := by blk_ext [iblk, idx t]
theorem blk_x : X0_0 m c t (ix2 i b) = V m c main_v0 (ix2 (row t i) (wide (col t b))) := by
  unfold X0_0 Pipeline.Window.fill
  rw [dif_pos (moved0_0 t _)]
  blk_ext [iblk, idx t]
theorem blk_x_before (h : 0 < t.val % 11) (r : Fin 8) : X0_1 m c t (ix2 r b)
    = V m c main_v0 (ix2 ⟨t.val % 11 * 384 + r.val - 8, by omega⟩ (wide (col t b))) := by
  unfold X0_1 Pipeline.Window.fill
  rw [dif_pos (moved0_1 t _)]
  blk_ext [iblk, idx t]

end Blocks

/-! ## The buffer at a grid point -/

section Buffer
variable (c : Dev nD) (t : Fin cfg0.N)

/-- The buffer of the sequence holds the eight rows before the block's and the block's. -/
theorem load_behind {κ : Kind} {sp : Space} (v : View sig κ sp S392x512 .f32) (o : Nat)
    (ho : ∀ a, (![o, 0] : Fin 2 → Nat) a + (![384, 512] : Fin 2 → Nat) a ≤ S392x512.size a) (i : Fin 384) (b : Fin 512) :
    v.readCov (Val := Elt Ideal) [⟨Rect.unit ![8, 0] ![384, 512] inb_S392x512_S384x512_8_0, k0_pay3 (X0_0 m c t)⟩,
        ⟨Rect.unit ![0, 0] ![8, 512] inb_S392x512_S8x512_0_0, k0_pay2 (grid0.coords t) (X0_1 m c t)⟩]
      (Rect.unit (s := S392x512) ![o, 0] ![384, 512] ho).toLoadRect (ix2 i b)
      = behind (V m c main_v0) (t.val % 11 * 384 + i.val + o) (col t b) := by
  refine (two_pieces v 8 384 o rfl _ _ ho _ _ (fun p q => behind (V m c main_v0) (t.val % 11 * 384 + p) (col t q))
    (fun p q => ?_) (fun r q => ?_) i b).trans ?_
  · refine (pay_block p q _).trans ?_
    rw [blk_x]
    exact behind_of _ _ _ (by show _ + _ + 8 = _ + (8 + _); omega)
  · refine (pay_before q t _ r).trans ?_
    by_cases h : 0 < t.val % 11
    · rw [if_pos h, blk_x_before m c t q h r]
      exact behind_of _ _ _ (by show _ + _ - 8 + 8 = _; omega)
    · rw [if_neg h, behind, dif_neg (by omega)]
  · show behind _ (_ + (o + i.val)) _ = _
    rw [show t.val % 11 * 384 + (o + i.val) = t.val % 11 * 384 + i.val + o by omega]

/-- The block the body stores. -/
theorem stored (i : Fin 384) (b : Fin 512) : outsAt0 m c t (ix2 i b)
    = taps (V m c main_v0) (V m c main_arg1) (row t i).val (col t b) := by
  unfold outsAt0
  frame_out
  refine (pay i b _ _ _ _ _ _ _ _).trans ?_
  rw [load_behind, load_behind, load_behind, load_behind, row_load 0 _ 0 b _ rfl, row_load 1 _ 1 b _ rfl,
    row_load 2 _ 2 b _ rfl, row_load 3 _ 3 b _ rfl, blk_w, blk_w, blk_w, blk_w]
  rfl

/-- The result array after the run. -/
theorem final : (dats m 0 c).arrAt 3 cfg0.N = fun i : S4224x1536.Idx => taps (V m c main_v0) (V m c main_arg1) (i 0).val (i 1) := by
  refine (dats m 0 c).arrAt_eq_of_covers 3 _ (by decide +kernel) fun t hf y => ?_
  obtain ⟨i, b, rfl⟩ : ∃ (i : Fin 384) (b : Fin 512), y = ix2 i b := ⟨_, _, eq_ix2 y⟩
  have e : (((View.whole main_v1).slice (win0_3.rect t)).emb (ix2 i b)) = ix2 (row t i) (col t b) := by
    blk_ext [idx t]
  blk_simp
  rw [after0_3, e, show win0_3.index t 0 = t.val % 11 by rw [(idx t).2.2.2]; rfl]
  exact stored m c t i b

end Buffer

/-- The projection, as the region finds it. -/
theorem x_eq (c : Dev nD) : V m c main_v0 = padded (m ((c : Thread nD τ).loc main_arg0)) pads_S4112x3200_S4224x3200_11200_000 h_S_ := by
  simp only [V, hostOps0, hostOps0_1, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The weights, as the region finds them. -/
theorem w_eq (c : Dev nD) : V m c main_arg1 = m ((c : Thread nD τ).loc main_arg1) := by
  simp only [V, hostOps0, hostOps0_1, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-! ## The reference -/

section Ref
open Cert.Reference14Ideal.Read
variable (x : (⟨2, ![4112, 3200]⟩ : Shape).Idx → EReal) (w : S4x1536.Idx → EReal)

/-- The sequence with three zero rows in front. -/
theorem ref_rows (p : Fin 4227) (q : Fin 1536) : (val_main_v3 (F := Ideal) x (ix2 p q) : EReal)
    = behind (val_main_v0 (F := Ideal) x) (p.val + 5) q :=
  rows_in_front (fun i => by pointwise [val_main_v2, val_main_cst]) (fun _ _ => (val_main_v1_apply _ _).trans (congrArg _ (at2 rfl rfl))) p q

/-- The reference's result: the four taps over the rows behind. -/
theorem ref_taps (p : Fin 4224) (q : Fin 1536) : (val_main_v32 (F := Ideal) x w (ix2 p q) : EReal)
    = taps (val_main_v0 (F := Ideal) x) w p.val q := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_cst_0]
  rw [ref_rows, ref_rows, ref_rows, ref_rows, taps, show 1 + p.val + 5 = p.val + 6 by omega,
    show 2 + p.val + 5 = p.val + 7 by omega, show 3 + p.val + 5 = p.val + 8 by omega]

end Ref

/-- The claim. -/
theorem algebraic : Cert.algebraic_Kernel14Ideal_Reference14Ideal := fun m g m' g' _ hag =>
  ⟨fun c => Cert.Reference14Ideal.Read.val_main_v32 (F := Ideal) (m ((c : Thread nD τ).loc main_arg0)) (m ((c : Thread nD τ).loc main_arg1)),
    (θ_run _ _ _).mono (fun r h c => ⟨(h c).1.trans ((final m c).trans (ext2 fun p q => by
      rw [x_eq, w_eq]
      exact (ref_taps _ _ p q).symm)), (h c).2⟩) (Value.run_blocks m g),
    (θ_run _ _ _).mono (fun r h c => ⟨(h c).1.trans (by
      rw [Cert.Reference14Ideal.Read.val_main_v32_eq, (hag c).1, (hag c).2]), (h c).2⟩) (Cert.Reference14Ideal.Value.run m' g')⟩

end Cert.Kernel14Ideal.Tied

end
-- ==== Proof.MixOutForwardEven.lean ====
/-
  The even layer's mixer output, forward: the kernel multiplies each of two halves with its half of the output weight and
  adds the two, the reference sets the halves side by side and multiplies once. The rows plus the normalised rows of the
  product are the reference's too.
-/
module

public import proofs.«01_k».proof.Proof.Rows
public import proofs.«01_k».proof.Proof.Norm
public import proofs.«01_k».proof.Defs
public import proofs.«01_k».proof.Proof.Gen.Kernel15Ideal.Value
public import proofs.«01_k».proof.Proof.Gen.Reference15Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel15Ideal.Tied

open Cert.Kernel15Ideal Cert.Kernel15Ideal.Gen Cert.Rows Cert.Norm

variable (m : (ℓ : Loc nD τ sig) → Buf (Elt Ideal) ℓ)

/-- The first half at region entry. -/
theorem left_eq (c : Dev nD) : V m c main_v0 = padded (m ((c : Thread nD τ).loc main_arg0)) pads_S4112x512_S4224x512_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The second half at region entry. -/
theorem right_eq (c : Dev nD) : V m c main_v1 = padded (m ((c : Thread nD τ).loc main_arg1)) pads_S4112x512_S4224x512_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The weight at region entry. -/
theorem w_eq (c : Dev nD) : V m c main_v2 = m ((c : Thread nD τ).loc main_arg2) := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The rows that pass by, at region entry. -/
theorem h_eq (c : Dev nD) : V m c main_v3 = padded (m ((c : Thread nD τ).loc main_arg3)) pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The gain at region entry. -/
theorem gain_eq (c : Dev nD) : V m c main_v4 = shapeCast S1x1024 (m ((c : Thread nD τ).loc main_arg4)) shapeCasts_S1024_S1x1024 := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![t.val, 0] ∧ win0_1.index t = ![t.val, 0] ∧ win0_2.index t = ![0, 0]
    ∧ win0_3.index t = ![t.val, 0] ∧ win0_4.index t = ![0, 0] ∧ win0_5.index t = ![t.val, 0]
    ∧ win0_6.index t = ![t.val, 0] := by decide +kernel

/-- The rows of the upper half of the weight. -/
def upper (k : Fin 512) : Fin 1024 := ⟨k.val, by omega⟩

/-- The rows of the lower half of the weight. -/
def lower (k : Fin 512) : Fin 1024 := ⟨512 + k.val, by omega⟩

/-- Two halves times a weight: the sum of the first times its upper half and the second times its lower. -/
def two {n : Nat} (x y : (⟨2, ![n, 512]⟩ : Shape).Idx → EReal) (w : S1024x1024.Idx → EReal) (i : Fin n) (b : Fin 1024) : EReal :=
  (∑ k : Fin 512, x (ix2 i k) * w (ix2 (upper k) b)) + ∑ k : Fin 512, y (ix2 i k) * w (ix2 (lower k) b)

/-- Rows, plus the normalised rows of the two halves' product. -/
def out {n : Nat} (x y : (⟨2, ![n, 512]⟩ : Shape).Idx → EReal) (w : S1024x1024.Idx → EReal)
    (h : (⟨2, ![n, 1024]⟩ : Shape).Idx → EReal) (g : S1x1024.Idx → EReal) (i : Fin n) (b : Fin 1024) : EReal :=
  residual (1) (fun k => h (ix2 i k)) (two x y w i) (fun k => g (ix2 0 k)) b

section Payloads
variable (x y : Vec Ideal S384x512 .f32) (w : Vec Ideal S1024x1024 .bf16) (h : Vec Ideal S384x1024 .f32)
  (g : Vec Ideal S1x1024 .f32) (i : Fin 384) (b : Fin 1024)

/-- The load of the weight's upper half. -/
def top : Vec Ideal S512x1024 .bf16 :=
  View.ld (Val := Elt Ideal) (e' := .bf16) w (Rect.unit ![0, 0] S512x1024.size inb_S1024x1024_S512x1024_0_0)

/-- The load of the weight's lower half. -/
def bottom : Vec Ideal S512x1024 .bf16 :=
  View.ld (Val := Elt Ideal) (e' := .bf16) w (Rect.unit ![512, 0] S512x1024.size inb_S1024x1024_S512x1024_512_0)

theorem top_at (k : Fin 512) : top w (ix2 k b) = w (ix2 (upper k) b) :=
  congrArg w (at2 (by simp [upper]) (by simp))

theorem bottom_at (k : Fin 512) : bottom w (ix2 k b) = w (ix2 (lower k) b) :=
  congrArg w (at2 (by simp [lower]) (by simp))

/-- What the body stores as the product. -/
theorem pay_prod : k0_pay1 x (top w) y (bottom w) (ix2 i b) = two x y w i b := by
  unfold_payloads
  pointwise [dot_S384x512_S512x1024_S384x1024_1_0_0_1_n_n]
  simp only [top_at, bottom_at]
  rfl

/-- What the body stores as the second result. -/
theorem pay_out : k0_pay2 x (top w) y (bottom w) h g (ix2 i b) = out x y w h g i b := by
  unfold k0_pay2
  pointwise []
  simp only [pay_prod]
  rw [out, residual_one]
  rfl

end Payloads

section Blocks
variable (c : Dev nD) (t : Fin cfg0.N) (i : Fin 384)

theorem blk_left (k : Fin 512) : iblk m c 0 t (ix2 i k) = V m c main_v0 (ix2 (at_ t i) k) := by blk_ext [iblk, idx t]
theorem blk_right (k : Fin 512) : iblk m c 1 t (ix2 i k) = V m c main_v1 (ix2 (at_ t i) k) := by blk_ext [iblk, idx t]
theorem blk_w (k : Fin 1024) (b : Fin 1024) : iblk m c 2 t (ix2 k b) = V m c main_v2 (ix2 k b) := by blk_ext [iblk, idx t]
theorem blk_h (k : Fin 1024) : iblk m c 3 t (ix2 i k) = V m c main_v3 (ix2 (at_ t i) k) := by blk_ext [iblk, idx t]
theorem blk_gain (k : Fin 1024) : iblk m c 4 t (ix2 0 k) = V m c main_v4 (ix2 0 k) := by blk_ext [iblk, idx t]

/-- A block of the product is the array's. -/
theorem blk_prod (b : Fin 1024) : two (n := 384) (iblk m c 0 t) (iblk m c 1 t) (iblk m c 2 t) i b
    = two (V m c main_v0) (V m c main_v1) (V m c main_v2) (at_ t i) b := by
  simp only [two, blk_left, blk_right, blk_w]

/-- A block of the second result is the array's. -/
theorem blk_out (b : Fin 1024) : out (n := 384) (iblk m c 0 t) (iblk m c 1 t) (iblk m c 2 t) (iblk m c 3 t) (iblk m c 4 t) i b
    = out (V m c main_v0) (V m c main_v1) (V m c main_v2) (V m c main_v3) (V m c main_v4) (at_ t i) b := by
  simp only [out, blk_h, blk_gain, funext (blk_prod m c t i)]

end Blocks

/-- The product after the run. -/
theorem prod_final (c : Dev nD) : (dats m 0 c).arrAt 5 cfg0.N
    = fun i : S4224x1024.Idx => two (V m c main_v0) (V m c main_v1) (V m c main_v2) (i 0) (i 1) := by
  refine (dats m 0 c).arrAt_eq_of_covers 5 _ (by decide +kernel) fun t hf y => ?_
  have e : (((View.whole main_v5_0).slice (win0_5.rect t)).emb y) = ix2 (at_ t (y 0)) (y 1) := by
    blk_ext [idx t]
  blk_simp
  rw [after0_5, e]
  frame_out
  refine (congrArg _ (eq_ix2 y)).trans ?_
  exact (pay_prod _ _ _ (y 0) (y 1)).trans (blk_prod m c t (y 0) (y 1))

/-- The second result after the run. -/
theorem out_final (c : Dev nD) : (dats m 0 c).arrAt 6 cfg0.N = fun i : S4224x1024.Idx =>
    out (V m c main_v0) (V m c main_v1) (V m c main_v2) (V m c main_v3) (V m c main_v4) (i 0) (i 1) := by
  refine (dats m 0 c).arrAt_eq_of_covers 6 _ (by decide +kernel) fun t hf y => ?_
  have e : (((View.whole main_v5_1).slice (win0_6.rect t)).emb y) = ix2 (at_ t (y 0)) (y 1) := by
    blk_ext [idx t]
  blk_simp
  rw [after0_6, e]
  frame_out
  refine (congrArg _ (eq_ix2 y)).trans ?_
  exact (pay_out _ _ _ _ _ (y 0) (y 1)).trans (blk_out m c t (y 0) (y 1))

/-- A padding row of the product is zero. -/
theorem prod_low (c : Dev nD) (p : Fin 4224) (hp : p.val < 112) (b : Fin 1024) :
    two (V m c main_v0) (V m c main_v1) (V m c main_v2) p b = 0 := by
  rw [left_eq, right_eq, two, Finset.sum_eq_zero fun k _ => ?_, Finset.sum_eq_zero fun k _ => ?_, add_zero]
  · rw [padded_low p k hp, zero_mul]
  · rw [padded_low p k hp, zero_mul]

/-- A padding row of the second result is zero. -/
theorem out_low (c : Dev nD) (p : Fin 4224) (hp : p.val < 112) (b : Fin 1024) :
    out (V m c main_v0) (V m c main_v1) (V m c main_v2) (V m c main_v3) (V m c main_v4) p b = 0 := by
  rw [h_eq]
  exact residual_zero (fun k => padded_low p k hp) (fun k => prod_low m c p hp k) _ _ b

section Reference
open Cert.Reference15Ideal.Read
variable (c : Dev nD) (r : Fin 4112) (b : Fin 1024)

/-- The two halves side by side: a column of the first. -/
theorem side_left (k : Fin 512) : val_main_v0 (F := Ideal) (m ((c : Thread nD τ).loc main_arg0)) (m ((c : Thread nD τ).loc main_arg1))
    (ix2 r (upper k)) = m ((c : Thread nD τ).loc main_arg0) (ix2 r k) :=
  concatenate_pair_apply_left 1 (m ((c : Thread nD τ).loc main_arg0)) (m ((c : Thread nD τ).loc main_arg1))
    Cert.Reference15Ideal.Facts₀.concatenates_S4112x512_S4112x512_S4112x1024_d1 _ rfl _ fun a => match a with
    | ⟨0, _⟩ => rfl
    | ⟨1, _⟩ => rfl

/-- The two halves side by side: a column of the second. -/
theorem side_right (k : Fin 512) : val_main_v0 (F := Ideal) (m ((c : Thread nD τ).loc main_arg0)) (m ((c : Thread nD τ).loc main_arg1))
    (ix2 r (lower k)) = m ((c : Thread nD τ).loc main_arg1) (ix2 r k) :=
  concatenate_pair_apply_right 1 (m ((c : Thread nD τ).loc main_arg0)) (m ((c : Thread nD τ).loc main_arg1))
    Cert.Reference15Ideal.Facts₀.concatenates_S4112x512_S4112x512_S4112x1024_d1 _ rfl rfl _ (fun a ha => match a with
    | ⟨0, _⟩ => rfl
    | ⟨1, _⟩ => absurd rfl ha) (Nat.add_comm k.val 512)

/-- The reference's product. -/
theorem ref_prod : val_main_v1 (F := Ideal) (m ((c : Thread nD τ).loc main_arg0)) (m ((c : Thread nD τ).loc main_arg1))
    (m ((c : Thread nD τ).loc main_arg2)) (ix2 r b) = two (V m c main_v0) (V m c main_v1) (V m c main_v2) (live r) b := by
  rw [left_eq, right_eq, w_eq, val_main_v1_apply]
  refine (Fin.sum_univ_add (a := 512) (b := 512) _).trans (congr (congrArg _ ?_) ?_) <;>
    refine Finset.sum_congr rfl fun k _ => congr (congrArg _ ?_) ?_
  · exact (congrArg _ (at2 rfl rfl)).trans ((side_left m c r k).trans (padded_live r k).symm)
  · exact congrArg _ (at2 rfl rfl)
  · exact (congrArg _ (at2 rfl rfl)).trans ((side_right m c r k).trans (padded_live r k).symm)
  · exact congrArg _ (at2 rfl rfl)

/-- The reference's second result. -/
theorem ref_out : val_main_v16 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (ix2 r b)
      = out (V m c main_v0) (V m c main_v1) (V m c main_v2) (V m c main_v3) (V m c main_v4) (live r) b := by
  rw [h_eq, gain_eq]
  simp only [out, ← funext (ref_prod m c r), padded_live]
  pointwise [val_main_v3, val_main_v4, val_main_v5, val_main_v6, val_main_v7, val_main_v8, val_main_v9,
    val_main_v10, val_main_v11, val_main_v12, val_main_v13, val_main_v14, val_main_v15, val_main_v16, val_main_cst,
    val_main_cst_0, val_main_cst_1]
  rw [residual_one]
  rfl

end Reference

open Cert.Reference15Ideal.Read in
/-- The claim. -/
theorem algebraic : Cert.algebraic_Kernel15Ideal_Reference15Ideal := fun m g m' g' _ hag =>
  ⟨fun c => val_main_v2 (F := Ideal) (m ((c : Thread nD τ).loc main_arg0)) (m ((c : Thread nD τ).loc main_arg1))
      (m ((c : Thread nD τ).loc main_arg2)),
    fun c => val_main_v17 (F := Ideal) (m ((c : Thread nD τ).loc main_arg0)) (m ((c : Thread nD τ).loc main_arg1))
      (m ((c : Thread nD τ).loc main_arg2)) (m ((c : Thread nD τ).loc main_arg3)) (m ((c : Thread nD τ).loc main_arg4)),
    (θ_run _ _ _).mono (fun r h c => ⟨
      (h c).1.trans ((prod_final m c).trans (eq_padded (h := Cert.Reference15Ideal.Facts₀.pads_S4112x1024_S4224x1024_11200_000)
        (fun p q hp => prod_low m c p hp q) fun r q => (ref_prod m c r q).symm)),
      (h c).2.1.trans ((out_final m c).trans (eq_padded (h := Cert.Reference15Ideal.Facts₀.pads_S4112x1024_S4224x1024_11200_000)
        (fun p q hp => out_low m c p hp q) fun r q => (ref_out m c r q).symm)),
      (h c).2.2⟩) (Value.run_blocks m g),
    (θ_run _ _ _).mono (fun r h c => ⟨
      (h c).1.trans (by rw [val_main_v2_eq, (hag c).1, (hag c).2.1, (hag c).2.2.1]),
      (h c).2.1.trans (by rw [val_main_v17_eq, (hag c).1, (hag c).2.1, (hag c).2.2.1, (hag c).2.2.2.1, (hag c).2.2.2.2]), (h c).2.2⟩)
      (Cert.Reference15Ideal.Value.run m' g')⟩

end Cert.Kernel15Ideal.Tied

end
-- ==== Proof.MixOutWeightsEven.lean ====
/-
  The gradient of half the even layer's output weight: the kernel's product of two padded arrays is the reference's over the
  4112 rows.
-/
module

public import proofs.«01_k».proof.Proof.Rows
public import proofs.«01_k».proof.Defs
public import proofs.«01_k».proof.Proof.Gen.Kernel16Ideal.Value
public import proofs.«01_k».proof.Proof.Gen.Reference16Ideal.Read
public import Idealize.ShloMosaic.Lib.Pipeline.ValueKit
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel16Ideal.Tied

open Cert.Kernel16Ideal Cert.Kernel16Ideal.Gen Cert.Rows

variable (m : (ℓ : Loc nD τ sig) → Buf (Elt Ideal) ℓ)

/-- The first operand at region entry. -/
theorem left_eq (c : Dev nD) : V m c main_v0 = padded (m ((c : Thread nD τ).loc main_arg0)) pads_S4112x512_S4224x512_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

/-- The second operand at region entry. -/
theorem right_eq (c : Dev nD) : V m c main_v2 = padded (m ((c : Thread nD τ).loc main_arg1))
    pads_S4112x1024_S4224x1024_11200_000 h_S_ := by
  simp only [V, hostOps0, hostOps0_1, hostOps0_2, hostOps0_3, hostOps0_4, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
  rfl

/-- The block every window is at. -/
theorem idx : ∀ t, win0_0.index t = ![0, t.val] ∧ win0_1.index t = ![0, 0] ∧ win0_2.index t = ![t.val, 0] := by decide +kernel

/-- What the body stores: the product. -/
theorem pay (x : Vec Ideal S4224x512 .f32) (y : Vec Ideal S4224x1024 .bf16) (j : S512x1024.Idx) :
    k0_pay1 x y j = ∑ p : Fin 4224, x (ix2 p (j 0)) * y (ix2 p (j 1)) := by
  unfold_payloads
  pointwise [dot_S4224x512_S4224x1024_S512x1024_0_0_1_1_n_n]

/-- The result array after the run: the product of the two arrays at region entry. -/
theorem final (c : Dev nD) : (dats m 0 c).arrAt 2 cfg0.N = tn (V m c main_v0) (V m c main_v2) := by
  refine (dats m 0 c).arrAt_eq_of_covers 2 _ (by decide +kernel) fun t hf y => ?_
  blk_simp
  rw [after0_2]
  frame_out
  rw [pay]
  refine Finset.sum_congr (M := EReal) rfl fun k _ => ?_
  congr 1 <;> blk_ext [iblk, idx t]

open Cert.Reference16Ideal.Read in
/-- The product over the padded rows is the reference's over the 4112. -/
theorem product_eq (c : Dev nD) : tn (V m c main_v0) (V m c main_v2) = val_main_v3 (F := Ideal) (m ((c : Thread nD τ).loc main_arg0)) (m ((c : Thread nD τ).loc main_arg1)) := by
  refine ext2 fun a b => ?_
  rw [left_eq, right_eq]
  refine (tn_padded a b).trans ?_
  refine Eq.symm ?_
  pointwise [val_main_v3, val_main_v2, Cert.Reference16Ideal.dot_S4112x1024_S4112x512_S1024x512_0_0_1_1_n_n]
  exact Finset.sum_congr rfl fun r _ => mul_comm _ _

/-- The claim. -/
theorem algebraic : Cert.algebraic_Kernel16Ideal_Reference16Ideal := fun m g m' g' _ hag =>
  ⟨fun c => Cert.Reference16Ideal.Read.val_main_v3 (F := Ideal) (m ((c : Thread nD τ).loc main_arg0)) (m ((c : Thread nD τ).loc main_arg1)),
    (θ_run _ _ _).mono (fun r h c => ⟨(h c).1.trans ((final m c).trans (product_eq m c)), (h c).2⟩) (Value.run_blocks m g),
    (θ_run _ _ _).mono (fun r h c => ⟨(h c).1.trans (by
      rw [Cert.Reference16Ideal.Read.val_main_v3_eq, (hag c).1, (hag c).2]), (h c).2⟩)
      (Cert.Reference16Ideal.Value.run m' g')⟩

end Cert.Kernel16Ideal.Tied

end
-- ==== Proof.Loss.lean ====
/-
  The loss head on one device's rows: half the mean square of what the rows after the learned ones miss their targets
  by, summed over the rows, and its gradient, which is zero on the padding and on the learned rows. The body runs over
  blocks of 128 rows: the first block is the padding and the learned rows, and the others add to one number.
-/
module

public import proofs.«01_k».proof.Proof.Rows
public import proofs.«01_k».proof.Proof.Reals
public import proofs.«01_k».proof.Defs
public import proofs.«01_k».proof.Proof.Gen.Kernel17Ideal.Value
public import proofs.«01_k».proof.Proof.Gen.Reference17Ideal.Read
public import Idealize.ShloMosaic.Lib.Pipeline.ValueKit
public import Idealize.ShloMosaic.Lib.KernelVsHost
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel17Ideal.Tied

open Cert.Kernel17Ideal Cert.Kernel17Ideal.Gen Cert.Rows Cert.Reals

variable (m : (ℓ : Loc nD τ sig) → Buf (Elt Ideal) ℓ)

/-- The block every window is at. -/
theorem idx : ∀ t, win0_0.index t = ![t.val, 0] ∧ win0_1.index t = ![t.val - 1, 0]
    ∧ win0_2.index t = ![t.val, 0] := by decide +kernel

/-! ## The constants -/

/-- One half and one over the number of columns, as the kernel has them. -/
abbrev half : EReal := Ideal.ofBits .f32 0x3F000000#32
abbrev unit : EReal := Ideal.ofBits .f32 0x3A800000#32

theorem unit_eq : unit = ((1 / 1024 : ℝ) : EReal) := by
  simp [unit, Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

/-- A quotient by the number of columns. -/
theorem div_columns (x : EReal) : Ideal.div x (Ideal.ofBits .f32 0x44800000#32) = x * unit := by
  rw [word_1024, Ideal.div_coe (by norm_num), unit_eq]

/-- Twice the half over the number of columns. -/
theorem twice_half (x : EReal) : Ideal.div half (Ideal.ofBits .f32 0x44800000#32) * (Ideal.ofBits .f32 0x40000000#32 * x) = x * unit := by
  rw [div_columns, ← mul_assoc, mul_comm _ x, word_two, half, word_half, unit_eq, ← EReal.coe_mul, ← EReal.coe_mul]
  norm_num

/-- A real factor that is not negative, taken out of a sum. -/
theorem factor {n : Nat} {k : ℝ} (hk : 0 ≤ k) (f : Fin n → EReal) : ∑ i, (k : EReal) * f i = (k : EReal) * ∑ i, f i := by
  induction n with
  | zero => simp
  | succ n ih =>
    rw [Fin.sum_univ_succ, Fin.sum_univ_succ, ih,
      EReal.left_distrib_of_nonneg_of_ne_top (EReal.coe_nonneg.mpr hk) (EReal.coe_ne_top k)]

/-! ## What is computed -/

section Miss
variable (x : S4224x1024.Idx → EReal) (y : S4096x1024.Idx → EReal)

/-- What a row misses its target by. -/
def miss (r : Fin 4096) (b : Fin 1024) : EReal := x (ix2 ⟨128 + r.val, by omega⟩ b) - y (ix2 r b)

/-- The sum of its squares. -/
def square (r : Fin 4096) : EReal := ∑ b, miss x y r b * miss x y r b

/-- The gradient. -/
def slope (i : S4224x1024.Idx) : EReal :=
  if h : 128 ≤ (i 0).val then miss x y ⟨(i 0).val - 128, by have : (i 0).val < 4224 := (i 0).isLt; omega⟩ (i 1) * unit else 0

/-- What block `n` adds to the loss. -/
def added (n : Nat) : EReal :=
  if h : 1 ≤ n ∧ n < 33 then half * (∑ i : Fin 128, square x y ⟨(n - 1) * 128 + i.val, by omega⟩) * unit else 0

/-- The blocks' shares are half the sum of the rows' means. -/
theorem sum_added : ∑ s : Fin 33, added x y s.val = half * ∑ r : Fin 4096, square x y r * unit := by
  have e (s : Fin 32) : added x y (Fin.succ s).val = half * (∑ i : Fin 128, unit * square x y ⟨s.val * 128 + i.val, by omega⟩) := by
    rw [added, dif_pos (by show 1 ≤ s.val + 1 ∧ s.val + 1 < 33; omega), mul_assoc, mul_comm _ unit, unit_eq, factor (by norm_num)]
    rfl
  rw [Fin.sum_univ_succ, show added x y (0 : Fin 33).val = 0 from dif_neg (by decide), zero_add, Finset.sum_congr rfl fun s _ => e s]
  rw [half, word_half, factor (by norm_num), Finset.sum_congr rfl fun r _ => mul_comm (square x y r) unit]
  exact congrArg _ (Fin.sum_mul_add_fin 32 128 fun r : Fin 4096 => unit * square x y r)

end Miss

/-! ## Payloads -/

theorem pay_none (i : S1x1.Idx) : k0_pay1 (F := Ideal) i = 0 := by
  unfold_payloads
  pointwise []

theorem pay_flat (i : S128x1024.Idx) : k0_pay2 (F := Ideal) i = 0 := by
  unfold_payloads
  pointwise []

theorem pay_slope (h t : Vec Ideal S128x1024 .f32) (i : Fin 128) (b : Fin 1024) :
    k0_pay4 h t (ix2 i b) = (h (ix2 i b) - t (ix2 i b)) * unit := by
  unfold_payloads
  pointwise []

theorem pay_loss (h t : Vec Ideal S128x1024 .f32) (o : Vec Ideal S1x1 .f32) : k0_pay5 h t o (ix2 0 0) = o (ix2 0 0)
    + half * (∑ i : Fin 128, ∑ b : Fin 1024, (h (ix2 i b) - t (ix2 i b)) * (h (ix2 i b) - t (ix2 i b))) * unit := by
  unfold_payloads
  pointwise []

/-! ## The blocks at a grid point -/

section Blocks
variable (c : Dev nD) (t : Fin cfg0.N)

/-- The row that row `i` of the block is, among all, and among the rows that have a target. -/
abbrev row (i : Fin 128) : Fin 4224 := ⟨t.val * 128 + i.val, by have : t.val < 33 := t.isLt; omega⟩
abbrev aim (i : Fin 128) : Fin 4096 := ⟨(t.val - 1) * 128 + i.val, by have : t.val < 33 := t.isLt; omega⟩

theorem blk_h (i : Fin 128) (b : Fin 1024) : iblk m c 0 t (ix2 i b) = V m c main_v0 (ix2 (row t i) b) := by blk_ext [iblk, idx t]
theorem blk_t (i : Fin 128) (b : Fin 1024) : iblk m c 1 t (ix2 i b) = V m c main_arg1 (ix2 (aim t i) b) := by blk_ext [iblk, idx t]

/-- The difference of the two blocks is what the rows miss by. -/
theorem blk_miss (h : 1 ≤ t.val) (i : Fin 128) (b : Fin 1024) : (show EReal from iblk m c 0 t (ix2 i b)) - (show EReal from iblk m c 1 t (ix2 i b))
    = miss (V m c main_v0) (V m c main_arg1) (aim t i) b := by
  rw [blk_h, blk_t]
  have e : row t i = ⟨128 + (aim t i).val, by omega⟩ :=
    Fin.ext (by show t.val * 128 + i.val = 128 + ((t.val - 1) * 128 + i.val); omega)
  rw [e]
  rfl

/-- The block of the gradient the body stores. -/
theorem stored (i : Fin 128) (b : Fin 1024) : (outsAt0 m c t.val t.isLt).1 (ix2 i b)
    = slope (V m c main_v0) (V m c main_arg1) (ix2 (row t i) b) := by
  by_cases h : 1 ≤ t.val
  · have ht : t.val < 33 := t.isLt
    rw [outsAt0_B m c t (by omega) h]
    frame_out
    refine (pay_slope _ _ i b).trans ?_
    rw [blk_miss m c t h, slope, dif_pos (by show 128 ≤ t.val * 128 + i.val; omega)]
    exact congrArg (fun r => miss _ _ r b * unit) (Fin.ext (by show (t.val - 1) * 128 + i.val = t.val * 128 + i.val - 128; omega))
  · rw [outsAt0_A m c t (by omega) h]
    frame_out
    rw [slope, dif_neg (by show ¬128 ≤ t.val * 128 + i.val; omega)]
    exact pay_flat _

/-- What block `t` adds to the loss. -/
abbrev share (_ : S1x1.Idx) : EReal := added (V m c main_v0) (V m c main_arg1) t.val

/-- The number the body keeps: nothing at the first block, then what the block before left and the block's share. -/
theorem stepA (h : t.val % 33 = 0) (y : S1x1.Idx) : (outsAt0 m c t.val t.isLt).2 y = 0 + share m c t y := by
  have ht : t.val < 33 := t.isLt
  rw [outsAt0_A m c t h (by omega)]
  frame_out
  rw [share, added, dif_neg (by omega), add_zero]
  exact pay_none _
theorem stepB (h : ¬t.val % 33 = 0) (y : S1x1.Idx) : (outsAt0 m c t.val t.isLt).2 y
    = (outsAt0 m c (t.val - 1) (Nat.lt_of_le_of_lt (Nat.sub_le _ _) t.isLt)).2 y + share m c t y := by
  have ht : t.val < 33 := t.isLt
  rw [outsAt0_B m c t h (by omega)]
  frame_out
  obtain rfl : y = ix2 0 0 := (eq_ix2 y).trans (congr (congrArg ix2 (Fin.fin_one_eq_zero (y 0))) (Fin.fin_one_eq_zero (y 1)))
  refine (pay_loss _ _ _).trans ?_
  rw [share, added, dif_pos (by omega)]
  refine congrArg (_ + half * · * unit) (Finset.sum_congr (M := EReal) rfl fun i _ => Finset.sum_congr (M := EReal) rfl fun b _ => ?_)
  rw [blk_miss m c t (by omega)]

end Blocks

/-! ## The results after the run -/

section Final
variable (c : Dev nD)

theorem slope_final : (dats m 0 c).arrAt 2 cfg0.N = slope (V m c main_v0) (V m c main_arg1) := by
  refine (dats m 0 c).arrAt_eq_of_covers 2 _ (by decide +kernel) fun t hf y => ?_
  obtain ⟨i, b, rfl⟩ : ∃ (i : Fin 128) (b : Fin 1024), y = ix2 i b := ⟨_, _, eq_ix2 y⟩
  have e : (((View.whole main_v1_0).slice (win0_2.rect t)).emb (ix2 i b)) = ix2 (row t i) b := by
    blk_ext [idx t]
  blk_simp
  rw [after0_2, e]
  exact stored m c t i b

theorem loss_final : (dats m 0 c).arrAt 3 cfg0.N = fun _ : S1x1.Idx =>
    ∑ s : Fin 33, added (V m c main_v0) (V m c main_arg1) s.val := by
  refine (dats m 0 c).arrAt_eq_of_covers 3 _ (by decide +kernel) fun t hf y => ?_
  have hr : t.val % 33 = 32 := (flush0_3 t).mp hf
  have ht : t.val < 33 := t.isLt
  blk_simp
  rw [after0_3]
  refine (Pipeline.eq_sum_fin_of_reset_step_apply_of_flush (N := cfg0.N) (fun n hn => (outsAt0 m c n hn).2) 33 (fun _ => (0 : EReal)) (share m c)
    (fun t h i => stepA m c t h i) (fun t h i => stepB m c t h i) t hr y).trans ?_
  refine (zero_add _).trans (Finset.sum_congr rfl fun s _ => congrArg (added _ _) ?_)
  show 33 * (t.val / 33) + s.val = s.val
  omega

/-- The rows and the targets, as the region finds them. -/
theorem h_eq : V m c main_v0 = padded (m ((c : Thread nD τ).loc main_arg0)) pads_S4112x1024_S4224x1024_11200_000 h_S_ := by
  simp only [V, hostOps0, hostOps0_1, List.flatten_cons, List.flatten_nil,
    List.cons_append, List.nil_append, List.append_nil, StableHlo.TRef.binary, StableHlo.TRef.nullary, StableHlo.TRef.unary, StableHlo.TRef.toBuf, StableHlo.TRef.ofBuf, cast_eq]
  after_results
theorem t_eq : V m c main_arg1 = m ((c : Thread nD τ).loc main_arg1) := by
  simp only [V, hostOps0, hostOps0_1, List.flatten_cons, List.flatten_nil,
    List.cons_append, List.nil_append, List.append_nil, StableHlo.TRef.binary, StableHlo.TRef.nullary, StableHlo.TRef.unary, StableHlo.TRef.toBuf, StableHlo.TRef.ofBuf, cast_eq]
  after_results

end Final

/-! ## The reference -/

section Ref
open Cert.Reference17Ideal.Read
variable (c : Dev nD)

/-- The rows and the targets of the run. -/
abbrev rows : S4112x1024.Idx → EReal := m ((c : Thread nD τ).loc main_arg0)
abbrev aims : S4096x1024.Idx → EReal := m ((c : Thread nD τ).loc main_arg1)

/-- What a row misses its target by, in the array before it is padded. -/
theorem miss_eq (r : Fin 4096) (b : Fin 1024) : miss (V m c main_v0) (V m c main_arg1) r b
    = rows m c (ix2 ⟨16 + r.val, by omega⟩ b) - aims m c (ix2 r b) := by
  rw [miss, h_eq, t_eq]
  refine congrArg (· - _) (Eq.trans (congrArg _ (at2 ?_ rfl)) (padded_live ⟨16 + r.val, by omega⟩ b))
  show 128 + r.val = 16 + r.val + 112
  omega

theorem ref_loss (i : S_.Idx) : (val_main_v9 (F := Ideal) (rows m c) (aims m c) i : EReal)
    = half * ∑ r : Fin 4096, square (V m c main_v0) (V m c main_arg1) r * unit := by
  pointwise [val_main_v9, val_main_cst_3, val_main_v8, val_main_v7, val_main_v6, val_main_cst_1, val_main_cst_2, val_main_v5,
    val_main_cst_0, val_main_v2, val_main_v1, val_main_v0]
  refine congrArg (half * ·) (Finset.sum_congr rfl fun r _ => (div_columns _).trans (congrArg (· * unit) (Finset.sum_congr rfl fun b _ => ?_)))
  rw [miss_eq]

/-- The gradient of the rows that have a target. -/
theorem ref_slope (r : Fin 4096) (b : Fin 1024) : (val_main_v15 (F := Ideal) (rows m c) (aims m c) (ix2 r b) : EReal)
    = miss (V m c main_v0) (V m c main_arg1) r b * unit := by
  pointwise [val_main_v15, val_main_v14, val_main_v13, val_main_v12, val_main_v11, val_main_v10, val_main_cst_4, val_main_cst_5,
    val_main_cst_6, val_main_v4, val_main_v3, val_main_cst, val_main_v1, val_main_v0]
  rw [miss_eq]
  exact twice_half _

/-- The learned rows have none. -/
theorem ref_learned (p : Fin 4112) (q : Fin 1024) (hp : p.val < 16) : val_main_v16 (F := Ideal) (rows m c) (aims m c) (ix2 p q) = (0 : EReal) :=
  (pad_apply_of_not_inside _ _ _ _ _ _ _ _ 0 (by
    show ¬(16 ≤ p.val ∧ (p.val - 16) % 1 = 0 ∧ (p.val - 16) / 1 < 4096)
    omega)).trans (by pointwise [val_main_cst_7])
theorem ref_rest (r : Fin 4096) (p : Fin 4112) (q : Fin 1024) (hp : p.val = 16 + r.val) : val_main_v16 (F := Ideal) (rows m c) (aims m c) (ix2 p q)
    = val_main_v15 (F := Ideal) (rows m c) (aims m c) (ix2 r q) :=
  pad_apply_of_inside _ _ _ _ _ _ _ _ _ (Fin.forall_fin_two.mpr
    ⟨hp.trans (by show _ = 16 + r.val * 1; omega), by show q.val = 0 + q.val * 1; omega⟩)

/-- The gradient over the padded rows is the reference's. -/
theorem slope_eq : slope (V m c main_v0) (V m c main_arg1) = val_main_v17 (F := Ideal) (rows m c) (aims m c) :=
  eq_padded (h := Cert.Reference17Ideal.Facts₀.pads_S4112x1024_S4224x1024_11200_000)
    (fun p q hp => dif_neg (by show ¬128 ≤ p.val; omega)) fun r q => by
    by_cases h : r.val < 16
    · rw [ref_learned m c r q h]
      exact dif_neg (by show ¬128 ≤ r.val + 112; omega)
    · rw [ref_rest m c ⟨r.val - 16, by omega⟩ r q (by show r.val = 16 + (r.val - 16); omega), ref_slope]
      refine (dif_pos (by show 128 ≤ r.val + 112; omega)).trans ?_
      exact congrArg (fun k => miss _ _ k q * unit) (Fin.ext (by show r.val + 112 - 128 = r.val - 16; omega))

/-- The loss is the reference's. -/
theorem loss_eq : (fun _ : S1x1.Idx => ∑ s : Fin 33, added (V m c main_v0) (V m c main_arg1) s.val)
    = val_main_v18 (F := Ideal) (rows m c) (aims m c) :=
  funext fun i => (sum_added _ _).trans (ref_loss m c _).symm

end Ref

/-- The claim. -/
theorem algebraic : Cert.algebraic_Kernel17Ideal_Reference17Ideal := fun m g m' g' _ hag =>
  ⟨fun c => Cert.Reference17Ideal.Read.val_main_v17 (F := Ideal) (rows m c) (aims m c),
    fun c => Cert.Reference17Ideal.Read.val_main_v18 (F := Ideal) (rows m c) (aims m c),
    (θ_run _ _ _).mono (fun r h c => ⟨(h c).1.trans ((slope_final m c).trans (slope_eq m c)),
      (h c).2.1.trans ((loss_final m c).trans (loss_eq m c)), (h c).2.2⟩) (Value.run_blocks m g),
    (θ_run _ _ _).mono (fun r h c => ⟨(h c).1.trans (by
      rw [Cert.Reference17Ideal.Read.val_main_v17_eq, (hag c).1, (hag c).2]), (h c).2.1.trans (by
      rw [Cert.Reference17Ideal.Read.val_main_v18_eq, (hag c).1, (hag c).2]), (h c).2.2⟩) (Cert.Reference17Ideal.Value.run m' g')⟩

end Cert.Kernel17Ideal.Tied

end
-- ==== Proof.Adam.lean ====
/-
  One AdamW step of one weight, as the kernel computes it: the two moments, and what is added to the weight. The kernel
  multiplies by the inverses of the two numbers the reference divides by, which over the reals is the same.
-/
module

public import proofs.«01_k».proof.Proof.Rows
public import Idealize.ShloMosaic.Lib.Pipeline.ValueKit

@[expose] public section

noncomputable section

namespace Cert.Adam

open Idealize.ShloMosaic Cert.Rows

/-- What the moments are multiplied by before the step is taken. -/
def inv1 : EReal := ((8388608 / 5463681 : ℝ) : EReal)
def inv2 : EReal := ((268435456 / 2672307 : ℝ) : EReal)

/-- The two moments after the step. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)

/-- What is added to the weight `w`, from the moments after the step. -/
def delta (w m v : EReal) : EReal := Ideal.ofBits .f32 0xBA83126F#32
  * (Ideal.div (m * inv1) (Ideal.sqrt (v * inv2) + Ideal.ofBits .f32 0x322BCC77#32) + Ideal.ofBits .f32 0x3C23D70A#32 * w)

/-- A quotient by one less the tenth power of the first moment's factor. -/
theorem div_first (x : EReal) : Ideal.div x (Ideal.ofBits .f32 0x3F26BD02#32) = x * inv1 := by
  have e : Ideal.ofBits .f32 0x3F26BD02#32 = ((5463681 / 8388608 : ℝ) : EReal) := by
    simp [Ideal.ofBits, Ideal.ieee]; rw [← EReal.coe_mul]; norm_num
  rw [e, Ideal.div_coe (by norm_num), inv1]
  norm_num

/-- A quotient by one less the tenth power of the second moment's factor. -/
theorem div_second (x : EReal) : Ideal.div x (Ideal.ofBits .f32 0x3C231ACC#32) = x * inv2 := by
  have e : Ideal.ofBits .f32 0x3C231ACC#32 = ((2672307 / 268435456 : ℝ) : EReal) := by
    simp [Ideal.ofBits, Ideal.ieee]; rw [← EReal.coe_mul]; norm_num
  rw [e, Ideal.div_coe (by norm_num), inv2]
  norm_num

/-- The index of slab `k`, row `i` and column `b`, however it is written. -/
theorem at3 {n0 n1 n2 : Nat} {j : (⟨3, ![n0, n1, n2]⟩ : Shape).Idx} {k : Fin n0} {i : Fin n1} {b : Fin n2}
    (h0 : (j 0).val = k.val) (h1 : (j 1).val = i.val) (h2 : (j 2).val = b.val) : j = ix3 k i b := by
  rw [eq_ix3 j, show j 0 = k from Fin.ext h0, show j 1 = i from Fin.ext h1, show j 2 = b from Fin.ext h2]

/-- Two functions of a slab, a row and a column that agree. -/
theorem ext3 {n0 n1 n2 : Nat} {α : Type} {f g : (⟨3, ![n0, n1, n2]⟩ : Shape).Idx → α}
    (h : ∀ k i b, f (ix3 k i b) = g (ix3 k i b)) : f = g := funext fun j => by rw [eq_ix3 j]; exact h _ _ _

/-- Every index of an array of one slab is of that slab. -/
theorem one_slab {n1 n2 : Nat} (y : (⟨3, ![1, n1, n2]⟩ : Shape).Idx) : ∃ (i : Fin n1) (b : Fin n2), y = ix3 0 i b :=
  ⟨y 1, y 2, at3 (congrArg Fin.val (Fin.fin_one_eq_zero (y 0))) rfl rfl⟩

section Slabs
variable {R C : Nat} (x : (⟨3, ![8, R, C]⟩ : Shape).Idx → EReal) (i : Fin R) (b : Fin C)

/-- The sum of the eight devices' gradients. -/
def gathered : EReal := ∑ k : Fin 8, x (ix3 k i b)

/-- A load of slab `n` of a block. -/
theorem slab_load (n : Nat) (hn : n < 8) (h : ∀ a, (![n, 0, 0] : Fin 3 → Nat) a + (![1, R, C] : Fin 3 → Nat) a ≤ (⟨3, ![8, R, C]⟩ : Shape).size a) :
    View.ld (Val := Elt Ideal) (e' := .bf16) x (Rect.unit ![n, 0, 0] ![1, R, C] h) (ix3 0 i b) = x (ix3 ⟨n, hn⟩ i b) :=
  congrArg x (at3 (Rect.idx_unit_val (s := ⟨3, ![8, R, C]⟩) ![n, 0, 0] ![1, R, C] h (ix3 0 i b) 0)
    ((Rect.idx_unit_val (s := ⟨3, ![8, R, C]⟩) ![n, 0, 0] ![1, R, C] h (ix3 0 i b) 1).trans (Nat.zero_add _))
    ((Rect.idx_unit_val (s := ⟨3, ![8, R, C]⟩) ![n, 0, 0] ![1, R, C] h (ix3 0 i b) 2).trans (Nat.zero_add _)))

/-- The eight slabs, added one after the other. -/
theorem gathered_eq : x (ix3 ⟨0, by omega⟩ i b) + x (ix3 ⟨1, by omega⟩ i b) + x (ix3 ⟨2, by omega⟩ i b) + x (ix3 ⟨3, by omega⟩ i b)
    + x (ix3 ⟨4, by omega⟩ i b) + x (ix3 ⟨5, by omega⟩ i b) + x (ix3 ⟨6, by omega⟩ i b) + x (ix3 ⟨7, by omega⟩ i b) = gathered x i b :=
  (Fin.sum_univ_eight fun k => x (ix3 k i b)).symm

end Slabs

end Cert.Adam

end
-- ==== Proof.OutStep.lean ====
/-
  AdamW of an output weight's shard, in one block: the gradient is the sum of the eight devices', and the moments and the
  weight follow it.
-/
module

public import proofs.«01_k».proof.Proof.Adam
public import proofs.«01_k».proof.Defs
public import proofs.«01_k».proof.Proof.Gen.Kernel18Ideal.Value
public import proofs.«01_k».proof.Proof.Gen.Reference18Ideal.Read
public import Idealize.ShloMosaic.Lib.Pipeline.ValueKit
public import Idealize.ShloMosaic.Lib.KernelVsHost
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel18Ideal.Tied

open Cert.Kernel18Ideal Cert.Kernel18Ideal.Gen Cert.Rows Cert.Adam

variable (m : (ℓ : Loc nD τ sig) → Buf (Elt Ideal) ℓ)

/-- The block every window is at. -/
theorem idx : ∀ t, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0, 0] := by decide +kernel

theorem pay_sum (x0 x1 x2 x3 x4 x5 x6 x7 : Vec Ideal S1x128x1024 .bf16) (i : Fin 128) (b : Fin 1024) :
    k0_pay2 x0 x1 x2 x3 x4 x5 x6 x7 (ix2 i b) = x0 (ix3 0 i b) + x1 (ix3 0 i b) + x2 (ix3 0 i b) + x3 (ix3 0 i b)
      + x4 (ix3 0 i b) + x5 (ix3 0 i b) + x6 (ix3 0 i b) + x7 (ix3 0 i b) := by
  unfold_payloads
  pointwise []

theorem pay_first (g : FVec Ideal S128x1024 .f32) (x : Vec Ideal S1x128x1024 .f32) (i : Fin 128) (b : Fin 1024) :
    k0_pay4 g (k0_pay3 x) (ix2 i b) = first (g (ix2 i b)) (x (ix3 0 i b)) := by
  unfold_payloads
  pointwise []
  rfl

theorem pay_second (g : FVec Ideal S128x1024 .f32) (x : Vec Ideal S1x128x1024 .f32) (i : Fin 128) (b : Fin 1024) :
    k0_pay5 g x (ix2 i b) = second (g (ix2 i b)) (x (ix3 0 i b)) := by
  unfold_payloads
  pointwise []
  rfl

theorem pay_delta (g : FVec Ideal S128x1024 .f32) (w x y : Vec Ideal S1x128x1024 .f32) (i : Fin 128) (b : Fin 1024) :
    k0_pay1 (k0_pay9 g (k0_pay3 x) y) (k0_pay10 w) (ix3 0 i b)
      = delta (w (ix3 0 i b)) (first (g (ix2 i b)) (x (ix3 0 i b))) (second (g (ix2 i b)) (y (ix3 0 i b))) := by
  rw [← pay_first, ← pay_second]
  unfold k0_pay1 k0_pay9 k0_pay10
  pointwise []
  rfl

theorem pay_keep (g : FVec Ideal S128x1024 .f32) (i : Fin 128) (b : Fin 1024) : k0_pay6 g (ix3 0 i b) = g (ix2 i b) := by
  unfold_payloads
  pointwise []

theorem pay_keep_first (g x : FVec Ideal S128x1024 .f32) (i : Fin 128) (b : Fin 1024) :
    k0_pay7 g x (ix3 0 i b) = k0_pay4 g x (ix2 i b) := by
  unfold k0_pay7
  pointwise []

theorem pay_keep_second (g : FVec Ideal S128x1024 .f32) (x : Vec Ideal S1x128x1024 .f32) (i : Fin 128) (b : Fin 1024) :
    k0_pay8 g x (ix3 0 i b) = k0_pay5 g x (ix2 i b) := by
  unfold k0_pay8
  pointwise []

/-! ## The blocks, and what is stored -/

section Point
variable (c : Dev nD) (t : Fin cfg0.N) (i : Fin 128) (b : Fin 1024)

theorem blk_g (k : Fin 8) : iblk m c 0 t (ix3 k i b) = V m c main_arg0 (ix3 k i b) := by blk_ext [iblk, idx t]
theorem blk_w : iblk m c 1 t (ix3 0 i b) = V m c main_arg1 (ix3 0 i b) := by blk_ext [iblk, idx t]
theorem blk_m : iblk m c 2 t (ix3 0 i b) = V m c main_arg2 (ix3 0 i b) := by blk_ext [iblk, idx t]
theorem blk_v : iblk m c 3 t (ix3 0 i b) = V m c main_arg3 (ix3 0 i b) := by blk_ext [iblk, idx t]

/-- The gradient. -/
abbrev grad : EReal := gathered (V m c main_arg0) i b

/-- The sum of the eight slabs that the body loads. -/
theorem slabs (h0 h1 h2 h3 h4 h5 h6 h7) : k0_pay2 (F := Ideal)
    (View.ld (iblk m c 0 t) (Rect.unit ![0, 0, 0] ![1, 128, 1024] h0)) (View.ld (iblk m c 0 t) (Rect.unit ![1, 0, 0] ![1, 128, 1024] h1))
    (View.ld (iblk m c 0 t) (Rect.unit ![2, 0, 0] ![1, 128, 1024] h2)) (View.ld (iblk m c 0 t) (Rect.unit ![3, 0, 0] ![1, 128, 1024] h3))
    (View.ld (iblk m c 0 t) (Rect.unit ![4, 0, 0] ![1, 128, 1024] h4)) (View.ld (iblk m c 0 t) (Rect.unit ![5, 0, 0] ![1, 128, 1024] h5))
    (View.ld (iblk m c 0 t) (Rect.unit ![6, 0, 0] ![1, 128, 1024] h6)) (View.ld (iblk m c 0 t) (Rect.unit ![7, 0, 0] ![1, 128, 1024] h7))
    (ix2 i b) = grad m c i b := by
  refine (pay_sum _ _ _ _ _ _ _ _ i b).trans ?_
  rw [slab_load _ i b 0 (by omega), slab_load _ i b 1 (by omega), slab_load _ i b 2 (by omega), slab_load _ i b 3 (by omega),
    slab_load _ i b 4 (by omega), slab_load _ i b 5 (by omega), slab_load _ i b 6 (by omega), slab_load _ i b 7 (by omega)]
  simp only [blk_g]
  exact gathered_eq _ i b

theorem stored_grad : (outsAt0 m c t).1 (ix3 0 i b) = grad m c i b := by
  unfold outsAt0
  frame_out
  exact (pay_keep _ i b).trans (slabs ..)

theorem stored_first : (outsAt0 m c t).2.2.1 (ix3 0 i b) = first (grad m c i b) (V m c main_arg2 (ix3 0 i b)) := by
  unfold outsAt0
  frame_out
  rw [pay_keep_first, pay_first, slabs]
  exact congrArg _ (blk_m m c t i b)

theorem stored_second : (outsAt0 m c t).2.2.2 (ix3 0 i b) = second (grad m c i b) (V m c main_arg3 (ix3 0 i b)) := by
  unfold outsAt0
  frame_out
  rw [pay_keep_second, pay_second, slabs]
  exact congrArg _ (blk_v m c t i b)

theorem stored_delta : (outsAt0 m c t).2.1 (ix3 0 i b) = delta (V m c main_arg1 (ix3 0 i b))
    (first (grad m c i b) (V m c main_arg2 (ix3 0 i b))) (second (grad m c i b) (V m c main_arg3 (ix3 0 i b))) := by
  unfold outsAt0
  frame_out
  rw [pay_delta, slabs, slabs, blk_w, blk_m, blk_v]

end Point

/-! ## The result arrays -/

section Final
variable (c : Dev nD)

/-- What the four results are made of: the gradient, the step, the moments. -/
abbrev grads (j : S1x128x1024.Idx) : EReal := grad m c (j 1) (j 2)
abbrev firsts (j : S1x128x1024.Idx) : EReal := first (grads m c j) (V m c main_arg2 j)
abbrev seconds (j : S1x128x1024.Idx) : EReal := second (grads m c j) (V m c main_arg3 j)
abbrev deltas (j : S1x128x1024.Idx) : EReal := delta (V m c main_arg1 j) (firsts m c j) (seconds m c j)

theorem final_grad : (dats m 0 c).arrAt 4 cfg0.N = grads m c := by
  refine (dats m 0 c).arrAt_eq_of_covers 4 _ (by decide +kernel) fun t hf y => ?_
  obtain ⟨i, b, rfl⟩ := one_slab y
  have e : (((View.whole main_v0_0).slice (win0_4.rect t)).emb (ix3 0 i b)) = ix3 0 i b := by blk_ext [idx t]
  blk_simp
  rw [after0_4]
  exact (stored_grad m c t i b).trans (congrArg (grads m c) e.symm)

theorem final_delta : (dats m 0 c).arrAt 5 cfg0.N = deltas m c := by
  refine (dats m 0 c).arrAt_eq_of_covers 5 _ (by decide +kernel) fun t hf y => ?_
  obtain ⟨i, b, rfl⟩ := one_slab y
  have e : (((View.whole main_v0_1).slice (win0_5.rect t)).emb (ix3 0 i b)) = ix3 0 i b := by blk_ext [idx t]
  blk_simp
  rw [after0_5]
  exact (stored_delta m c t i b).trans (congrArg (deltas m c) e.symm)

theorem final_first : (dats m 0 c).arrAt 6 cfg0.N = firsts m c := by
  refine (dats m 0 c).arrAt_eq_of_covers 6 _ (by decide +kernel) fun t hf y => ?_
  obtain ⟨i, b, rfl⟩ := one_slab y
  have e : (((View.whole main_v0_2).slice (win0_6.rect t)).emb (ix3 0 i b)) = ix3 0 i b := by blk_ext [idx t]
  blk_simp
  rw [after0_6]
  exact (stored_first m c t i b).trans (congrArg (firsts m c) e.symm)

theorem final_second : (dats m 0 c).arrAt 7 cfg0.N = seconds m c := by
  refine (dats m 0 c).arrAt_eq_of_covers 7 _ (by decide +kernel) fun t hf y => ?_
  obtain ⟨i, b, rfl⟩ := one_slab y
  have e : (((View.whole main_v0_3).slice (win0_7.rect t)).emb (ix3 0 i b)) = ix3 0 i b := by blk_ext [idx t]
  blk_simp
  rw [after0_7]
  exact (stored_second m c t i b).trans (congrArg (seconds m c) e.symm)

end Final

/-! ## The reference -/

section Ref
open Cert.Reference18Ideal.Read
variable (x : S8x128x1024.Idx → EReal) (w a v : S1x128x1024.Idx → EReal) (k : Fin 1) (i : Fin 128) (b : Fin 1024)

theorem ref_grad : val_main_v2 (F := Ideal) x (ix3 k i b) = gathered x i b := by
  pointwise [val_main_v2, val_main_v1, val_main_v0, val_main_cst]
  rfl

theorem ref_first : val_main_v7 (F := Ideal) x a (ix3 k i b) = first (gathered x i b) (a (ix3 k i b)) := by
  rw [← ref_grad x k i b]
  pointwise [val_main_v7, val_main_v6, val_main_v5, val_main_v4, val_main_v3, val_main_cst_0, val_main_cst_1]
  rfl

theorem ref_second : val_main_v13 (F := Ideal) x v (ix3 k i b) = second (gathered x i b) (v (ix3 k i b)) := by
  rw [← ref_grad x k i b]
  pointwise [val_main_v13, val_main_v12, val_main_v11, val_main_v10, val_main_v9, val_main_v8, val_main_cst_2, val_main_cst_3]
  rfl

theorem ref_delta : val_main_v26 (F := Ideal) x w a v (ix3 k i b) = delta (w (ix3 k i b)) (first (gathered x i b) (a (ix3 k i b)))
    (second (gathered x i b) (v (ix3 k i b))) := by
  rw [← ref_first x a k i b, ← ref_second x v k i b, delta, ← div_first, ← div_second]
  pointwise [val_main_v26, val_main_v25, val_main_v24, val_main_v23, val_main_v22, val_main_v21, val_main_v20, val_main_v19,
    val_main_v18, val_main_v17, val_main_v16, val_main_v15, val_main_v14, val_main_cst_4, val_main_cst_5, val_main_cst_6,
    val_main_cst_7, val_main_cst_8]

end Ref

section Claim
open Cert.Reference18Ideal.Read
variable (m : (ℓ : Loc nD τ sig) → Buf (Elt Ideal) ℓ) (c : Dev nD)

theorem result_grad : (dats m 0 c).arrAt 4 cfg0.N = val_main_v2 (F := Ideal) (V m c main_arg0) :=
  (final_grad m c).trans (ext3 fun k i b => (ref_grad (V m c main_arg0) k i b).symm)

theorem result_delta : (dats m 0 c).arrAt 5 cfg0.N = val_main_v26 (F := Ideal) (V m c main_arg0) (V m c main_arg1)
    (V m c main_arg2) (V m c main_arg3) :=
  (final_delta m c).trans (ext3 fun k i b =>
    (ref_delta (V m c main_arg0) (V m c main_arg1) (V m c main_arg2) (V m c main_arg3) k i b).symm)

theorem result_first : (dats m 0 c).arrAt 6 cfg0.N = val_main_v7 (F := Ideal) (V m c main_arg0) (V m c main_arg2) :=
  (final_first m c).trans (ext3 fun k i b => (ref_first (V m c main_arg0) (V m c main_arg2) k i b).symm)

theorem result_second : (dats m 0 c).arrAt 7 cfg0.N = val_main_v13 (F := Ideal) (V m c main_arg0) (V m c main_arg3) :=
  (final_second m c).trans (ext3 fun k i b => (ref_second (V m c main_arg0) (V m c main_arg3) k i b).symm)

end Claim

section Claim
open Cert.Reference18Ideal.Read

/-- The claim: at entry the four arguments are what was handed over. -/
theorem algebraic : Cert.algebraic_Kernel18Ideal_Reference18Ideal := fun m g m' g' _ hag =>
  ⟨fun c => val_main_v2 (F := Ideal) (V m c main_arg0),
    fun c => val_main_v26 (F := Ideal) (V m c main_arg0) (V m c main_arg1) (V m c main_arg2) (V m c main_arg3),
    fun c => val_main_v7 (F := Ideal) (V m c main_arg0) (V m c main_arg2),
    fun c => val_main_v13 (F := Ideal) (V m c main_arg0) (V m c main_arg3),
    (θ_run _ _ _).mono (fun r h c => ⟨(h c).1.trans (result_grad m c), (h c).2.1.trans (result_delta m c),
      (h c).2.2.1.trans (result_first m c), (h c).2.2.2.1.trans (result_second m c), (h c).2.2.2.2⟩) (Value.run_blocks m g),
    (θ_run _ _ _).mono (fun r h c => ⟨(h c).1.trans (by rw [val_main_v2_eq, (hag c).1]),
      (h c).2.1.trans (by rw [val_main_v26_eq, (hag c).1, (hag c).2.1, (hag c).2.2.1, (hag c).2.2.2]),
      (h c).2.2.1.trans (by rw [val_main_v7_eq, (hag c).1, (hag c).2.2.1]),
      (h c).2.2.2.1.trans (by rw [val_main_v13_eq, (hag c).1, (hag c).2.2.2]), (h c).2.2.2.2⟩)
      (Cert.Reference18Ideal.Value.run m' g')⟩

/-- Each of the two inverses is the name's real. -/
theorem preserves : Cert.preserves_Kernel18_Kernel18Ideal :=
  ⟨IdealRules.named_const.statement κ "inv_1" .f32 0x3FC48605#32 ((8388608 / 5463681 : ℝ) : EReal) rfl,
    IdealRules.named_const.statement κ "inv_2" .f32 0x42C8E6D3#32 ((268435456 / 2672307 : ℝ) : EReal) rfl⟩

end Claim

end Cert.Kernel18Ideal.Tied

end
-- ==== Proof.FfnStep.lean ====
/-
  AdamW of the first block's shard of the feed-forward's last weight, in two blocks of 176 rows: written into the first slab
  of four arrays, whose other three slabs stay as they came.
-/
module

public import proofs.«01_k».proof.Proof.Adam
public import proofs.«01_k».proof.Defs
public import proofs.«01_k».proof.Proof.Gen.Kernel19Ideal.Value
public import proofs.«01_k».proof.Proof.Gen.Reference19Ideal.Read
public import Idealize.ShloMosaic.Lib.Pipeline.ValueKit
public import Idealize.ShloMosaic.Lib.KernelVsHost
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel19Ideal.Tied

open Cert.Kernel19Ideal Cert.Kernel19Ideal.Gen Cert.Rows Cert.Adam

variable (m : (ℓ : Loc nD τ sig) → Buf (Elt Ideal) ℓ)

/-- The block every window is at: the first slab's, by the second grid coordinate. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] := by decide +kernel

theorem pay_sum (x0 x1 x2 x3 x4 x5 x6 x7 : Vec Ideal S1x176x1024 .bf16) (i : Fin 176) (b : Fin 1024) :
    k0_pay2 x0 x1 x2 x3 x4 x5 x6 x7 (ix2 i b) = x0 (ix3 0 i b) + x1 (ix3 0 i b) + x2 (ix3 0 i b) + x3 (ix3 0 i b)
      + x4 (ix3 0 i b) + x5 (ix3 0 i b) + x6 (ix3 0 i b) + x7 (ix3 0 i b) := by
  unfold_payloads
  pointwise []

theorem pay_first (g : FVec Ideal S176x1024 .f32) (x : Vec Ideal S1x176x1024 .f32) (i : Fin 176) (b : Fin 1024) :
    k0_pay4 g (k0_pay3 x) (ix2 i b) = first (g (ix2 i b)) (x (ix3 0 i b)) := by
  unfold_payloads
  pointwise []
  rfl

theorem pay_second (g : FVec Ideal S176x1024 .f32) (x : Vec Ideal S1x176x1024 .f32) (i : Fin 176) (b : Fin 1024) :
    k0_pay5 g x (ix2 i b) = second (g (ix2 i b)) (x (ix3 0 i b)) := by
  unfold_payloads
  pointwise []
  rfl

theorem pay_delta (g : FVec Ideal S176x1024 .f32) (w x y : Vec Ideal S1x176x1024 .f32) (i : Fin 176) (b : Fin 1024) :
    k0_pay1 (k0_pay9 g (k0_pay3 x) y) (k0_pay10 w) (ix3 0 i b)
      = delta (w (ix3 0 i b)) (first (g (ix2 i b)) (x (ix3 0 i b))) (second (g (ix2 i b)) (y (ix3 0 i b))) := by
  rw [← pay_first, ← pay_second]
  unfold k0_pay1 k0_pay9 k0_pay10
  pointwise []
  rfl

theorem pay_keep (g : FVec Ideal S176x1024 .f32) (i : Fin 176) (b : Fin 1024) : k0_pay6 g (ix3 0 i b) = g (ix2 i b) := by
  unfold_payloads
  pointwise []

theorem pay_keep_first (g x : FVec Ideal S176x1024 .f32) (i : Fin 176) (b : Fin 1024) :
    k0_pay7 g x (ix3 0 i b) = k0_pay4 g x (ix2 i b) := by
  unfold k0_pay7
  pointwise []

theorem pay_keep_second (g : FVec Ideal S176x1024 .f32) (x : Vec Ideal S1x176x1024 .f32) (i : Fin 176) (b : Fin 1024) :
    k0_pay8 g x (ix3 0 i b) = k0_pay5 g x (ix2 i b) := by
  unfold k0_pay8
  pointwise []

/-! ## The blocks, and what is stored -/

section Point
variable (c : Dev nD) (t : Fin cfg0.N) (i : Fin 176) (b : Fin 1024)

/-- The row that row `i` of the block is. -/
abbrev row : Fin 352 := ⟨t.val * 176 + i.val, by have : t.val < 2 := t.isLt; omega⟩

theorem blk_g (k : Fin 8) : iblk m c 0 t (ix3 k i b) = V m c main_arg0 (ix3 k (row t i) b) := by blk_ext [iblk, idx t]
theorem blk_w : iblk m c 1 t (ix3 0 i b) = V m c main_arg1 (ix3 0 (row t i) b) := by blk_ext [iblk, idx t]
theorem blk_m : iblk m c 2 t (ix3 0 i b) = V m c main_arg2 (ix3 0 (row t i) b) := by blk_ext [iblk, idx t]
theorem blk_v : iblk m c 3 t (ix3 0 i b) = V m c main_arg3 (ix3 0 (row t i) b) := by blk_ext [iblk, idx t]

/-- The gradient. -/
abbrev grad (r : Fin 352) (b : Fin 1024) : EReal := gathered (V m c main_arg0) r b

/-- The sum of the eight slabs that the body loads. -/
theorem slabs (h0 h1 h2 h3 h4 h5 h6 h7) : k0_pay2 (F := Ideal)
    (View.ld (iblk m c 0 t) (Rect.unit ![0, 0, 0] ![1, 176, 1024] h0)) (View.ld (iblk m c 0 t) (Rect.unit ![1, 0, 0] ![1, 176, 1024] h1))
    (View.ld (iblk m c 0 t) (Rect.unit ![2, 0, 0] ![1, 176, 1024] h2)) (View.ld (iblk m c 0 t) (Rect.unit ![3, 0, 0] ![1, 176, 1024] h3))
    (View.ld (iblk m c 0 t) (Rect.unit ![4, 0, 0] ![1, 176, 1024] h4)) (View.ld (iblk m c 0 t) (Rect.unit ![5, 0, 0] ![1, 176, 1024] h5))
    (View.ld (iblk m c 0 t) (Rect.unit ![6, 0, 0] ![1, 176, 1024] h6)) (View.ld (iblk m c 0 t) (Rect.unit ![7, 0, 0] ![1, 176, 1024] h7))
    (ix2 i b) = grad m c (row t i) b := by
  refine (pay_sum _ _ _ _ _ _ _ _ i b).trans ?_
  rw [slab_load _ i b 0 (by omega), slab_load _ i b 1 (by omega), slab_load _ i b 2 (by omega), slab_load _ i b 3 (by omega),
    slab_load _ i b 4 (by omega), slab_load _ i b 5 (by omega), slab_load _ i b 6 (by omega), slab_load _ i b 7 (by omega)]
  simp only [blk_g]
  exact gathered_eq _ (row t i) b

theorem stored_grad : (outsAt0 m c t).1 (ix3 0 i b) = grad m c (row t i) b := by
  unfold outsAt0
  frame_out
  exact (pay_keep _ i b).trans (slabs ..)

theorem stored_first : (outsAt0 m c t).2.2.1 (ix3 0 i b) = first (grad m c (row t i) b) (V m c main_arg2 (ix3 0 (row t i) b)) := by
  unfold outsAt0
  frame_out
  rw [pay_keep_first, pay_first, slabs]
  exact congrArg _ (blk_m m c t i b)

theorem stored_second : (outsAt0 m c t).2.2.2 (ix3 0 i b) = second (grad m c (row t i) b) (V m c main_arg3 (ix3 0 (row t i) b)) := by
  unfold outsAt0
  frame_out
  rw [pay_keep_second, pay_second, slabs]
  exact congrArg _ (blk_v m c t i b)

theorem stored_delta : (outsAt0 m c t).2.1 (ix3 0 i b) = delta (V m c main_arg1 (ix3 0 (row t i) b))
    (first (grad m c (row t i) b) (V m c main_arg2 (ix3 0 (row t i) b))) (second (grad m c (row t i) b) (V m c main_arg3 (ix3 0 (row t i) b))) := by
  unfold outsAt0
  frame_out
  rw [pay_delta, slabs, slabs, blk_w, blk_m, blk_v]

end Point

/-! ## The result arrays -/

section Final
variable (c : Dev nD)

/-- What the first slabs of the four results are made of: the gradient, the step, the moments. -/
abbrev grads (j : S4x352x1024.Idx) : EReal := grad m c (j 1) (j 2)
abbrev firsts (j : S4x352x1024.Idx) : EReal := first (grads m c j) (V m c main_arg2 j)
abbrev seconds (j : S4x352x1024.Idx) : EReal := second (grads m c j) (V m c main_arg3 j)
abbrev deltas (j : S4x352x1024.Idx) : EReal := delta (V m c main_arg1 j) (firsts m c j) (seconds m c j)

theorem final_grad : (dats m 0 c).arrAt 4 cfg0.N = fun j : S4x352x1024.Idx =>
    if (j 0).val / 1 = 0 then grads m c j else V m c main_v0_0 j := by
  refine (dats m 0 c).arrAt_eq_of_coversWhere 4 _ (fun β => β (0 : Fin _) = 0) (by decide +kernel) (fun t hf y => ?_)
    (fun j => Iff.rfl)
  obtain ⟨i, b, rfl⟩ := one_slab y
  have e : (((View.whole main_v0_0).slice (win0_4.rect t)).emb (ix3 0 i b)) = ix3 0 (row t i) b := by blk_ext [idx t]
  blk_simp
  rw [after0_4]
  exact (stored_grad m c t i b).trans (congrArg (grads m c) e.symm)

theorem final_delta : (dats m 0 c).arrAt 5 cfg0.N = fun j : S4x352x1024.Idx =>
    if (j 0).val / 1 = 0 then deltas m c j else V m c main_v0_1 j := by
  refine (dats m 0 c).arrAt_eq_of_coversWhere 5 _ (fun β => β (0 : Fin _) = 0) (by decide +kernel) (fun t hf y => ?_)
    (fun j => Iff.rfl)
  obtain ⟨i, b, rfl⟩ := one_slab y
  have e : (((View.whole main_v0_1).slice (win0_5.rect t)).emb (ix3 0 i b)) = ix3 0 (row t i) b := by blk_ext [idx t]
  blk_simp
  rw [after0_5]
  exact (stored_delta m c t i b).trans (congrArg (deltas m c) e.symm)

theorem final_first : (dats m 0 c).arrAt 6 cfg0.N = fun j : S4x352x1024.Idx =>
    if (j 0).val / 1 = 0 then firsts m c j else V m c main_v0_2 j := by
  refine (dats m 0 c).arrAt_eq_of_coversWhere 6 _ (fun β => β (0 : Fin _) = 0) (by decide +kernel) (fun t hf y => ?_)
    (fun j => Iff.rfl)
  obtain ⟨i, b, rfl⟩ := one_slab y
  have e : (((View.whole main_v0_2).slice (win0_6.rect t)).emb (ix3 0 i b)) = ix3 0 (row t i) b := by blk_ext [idx t]
  blk_simp
  rw [after0_6]
  exact (stored_first m c t i b).trans (congrArg (firsts m c) e.symm)

theorem final_second : (dats m 0 c).arrAt 7 cfg0.N = fun j : S4x352x1024.Idx =>
    if (j 0).val / 1 = 0 then seconds m c j else V m c main_v0_3 j := by
  refine (dats m 0 c).arrAt_eq_of_coversWhere 7 _ (fun β => β (0 : Fin _) = 0) (by decide +kernel) (fun t hf y => ?_)
    (fun j => Iff.rfl)
  obtain ⟨i, b, rfl⟩ := one_slab y
  have e : (((View.whole main_v0_3).slice (win0_7.rect t)).emb (ix3 0 i b)) = ix3 0 (row t i) b := by blk_ext [idx t]
  blk_simp
  rw [after0_7]
  exact (stored_second m c t i b).trans (congrArg (seconds m c) e.symm)

/-- At entry each array holds what was handed over. -/
theorem held_grad : V m c main_v0_0 = m ((c : Thread nD τ).loc main_arg4) := by
  simp only [V, hostOps0]
  after_results
  rfl
theorem held_delta : V m c main_v0_1 = m ((c : Thread nD τ).loc main_arg5) := by
  simp only [V, hostOps0]
  after_results
  rfl
theorem held_first : V m c main_v0_2 = m ((c : Thread nD τ).loc main_arg6) := by
  simp only [V, hostOps0]
  after_results
  rfl
theorem held_second : V m c main_v0_3 = m ((c : Thread nD τ).loc main_arg7) := by
  simp only [V, hostOps0]
  after_results
  rfl

end Final

/-! ## The reference -/

section Ref
open Cert.Reference19Ideal.Read
variable (x : S8x352x1024.Idx → EReal) (w a v held : S4x352x1024.Idx → EReal) (i : Fin 352) (b : Fin 1024)

theorem ref_grad : val_main_v2 (F := Ideal) x (ix3 0 i b) = gathered x i b := by
  pointwise [val_main_v2, val_main_v1, val_main_v0, val_main_cst]
  rfl

theorem ref_first : val_main_v10 (F := Ideal) x a (ix3 0 i b) = first (gathered x i b) (a (ix3 0 i b)) := by
  rw [← ref_grad x i b]
  pointwise [val_main_v10, val_main_v9, val_main_v8, val_main_v7, val_main_v6, val_main_v4, val_main_cst_0, val_main_cst_1]
  rfl

theorem ref_second : val_main_v16 (F := Ideal) x v (ix3 0 i b) = second (gathered x i b) (v (ix3 0 i b)) := by
  rw [← ref_grad x i b]
  pointwise [val_main_v16, val_main_v15, val_main_v14, val_main_v13, val_main_v12, val_main_v11, val_main_v5, val_main_cst_2,
    val_main_cst_3]
  rfl

theorem ref_delta : val_main_v29 (F := Ideal) x w a v (ix3 0 i b) = delta (w (ix3 0 i b)) (first (gathered x i b) (a (ix3 0 i b)))
    (second (gathered x i b) (v (ix3 0 i b))) := by
  rw [← ref_first x a i b, ← ref_second x v i b, delta, ← div_first, ← div_second]
  pointwise [val_main_v29, val_main_v28, val_main_v27, val_main_v26, val_main_v25, val_main_v24, val_main_v23, val_main_v22,
    val_main_v21, val_main_v20, val_main_v19, val_main_v18, val_main_v17, val_main_v3, val_main_cst_4, val_main_cst_5,
    val_main_cst_6, val_main_cst_7, val_main_cst_8]

/-- One slab set before the last three of an array. -/
theorem joined (f : (⟨3, ![1, 352, 1024]⟩ : Shape).Idx → EReal) (g : S4x352x1024.Idx → EReal) (h : ∀ i b, f (ix3 0 i b) = g (ix3 0 i b))
    (hs hc) : (fun j : S4x352x1024.Idx => if (j 0).val / 1 = 0 then g j else held j)
    = concatenate S4x352x1024 0 [⟨⟨3, ![1, 352, 1024]⟩, f⟩,
      ⟨⟨3, ![3, 352, 1024]⟩, extractStridedSlice (α := EReal) ⟨3, ![3, 352, 1024]⟩ ![1, 0, 0] held hs⟩] hc := ext3 fun k i b => by
  pointwise []
  fin_vals k with hk
  all_goals simp only [hk, Nat.reduceSub, Nat.reduceLT, Nat.reduceDiv, ↓reduceDIte, ↓reduceIte]
  · obtain rfl : k = 0 := Fin.ext hk
    exact (h i b).symm
  all_goals exact (if_neg (by decide)).trans (congrArg (fun k => held (ix3 k i b)) (Fin.ext hk))

end Ref

section Claim
open Cert.Reference19Ideal.Read
variable (m : (ℓ : Loc nD τ sig) → Buf (Elt Ideal) ℓ) (c : Dev nD)

theorem result_grad : (dats m 0 c).arrAt 4 cfg0.N = val_main_v31 (F := Ideal) (V m c main_arg0) (V m c main_v0_0) :=
  (final_grad m c).trans (joined _ _ _ (fun i b => ref_grad (V m c main_arg0) i b) _ _)

theorem result_delta : (dats m 0 c).arrAt 5 cfg0.N = val_main_v33 (F := Ideal) (V m c main_arg0) (V m c main_arg1)
    (V m c main_arg2) (V m c main_arg3) (V m c main_v0_1) :=
  (final_delta m c).trans (joined _ _ _
    (fun i b => ref_delta (V m c main_arg0) (V m c main_arg1) (V m c main_arg2) (V m c main_arg3) i b) _ _)

theorem result_first : (dats m 0 c).arrAt 6 cfg0.N = val_main_v35 (F := Ideal) (V m c main_arg0) (V m c main_arg2) (V m c main_v0_2) :=
  (final_first m c).trans (joined _ _ _ (fun i b => ref_first (V m c main_arg0) (V m c main_arg2) i b) _ _)

theorem result_second : (dats m 0 c).arrAt 7 cfg0.N = val_main_v37 (F := Ideal) (V m c main_arg0) (V m c main_arg3) (V m c main_v0_3) :=
  (final_second m c).trans (joined _ _ _ (fun i b => ref_second (V m c main_arg0) (V m c main_arg3) i b) _ _)

end Claim

section Claim
open Cert.Reference19Ideal.Read

/-- The claim: at entry the four arguments that the windows read are what was handed over. -/
theorem algebraic : Cert.algebraic_Kernel19Ideal_Reference19Ideal := fun m g m' g' _ hag =>
  ⟨fun c => val_main_v31 (F := Ideal) (V m c main_arg0) (V m c main_v0_0),
    fun c => val_main_v33 (F := Ideal) (V m c main_arg0) (V m c main_arg1) (V m c main_arg2) (V m c main_arg3) (V m c main_v0_1),
    fun c => val_main_v35 (F := Ideal) (V m c main_arg0) (V m c main_arg2) (V m c main_v0_2),
    fun c => val_main_v37 (F := Ideal) (V m c main_arg0) (V m c main_arg3) (V m c main_v0_3),
    (θ_run _ _ _).mono (fun r h c => ⟨(h c).1.trans (result_grad m c), (h c).2.1.trans (result_delta m c),
      (h c).2.2.1.trans (result_first m c), (h c).2.2.2.1.trans (result_second m c), (h c).2.2.2.2⟩) (Value.run_blocks m g),
    (θ_run _ _ _).mono (fun r h c => by
      obtain ⟨e0, e1, e2, e3, e4, e5, e6, e7⟩ := hag c
      exact ⟨(h c).1.trans (by beta_reduce; rw [val_main_v31_eq, e0, e4, V_main_arg0, held_grad]),
        (h c).2.1.trans (by beta_reduce; rw [val_main_v33_eq, e0, e1, e2, e3, e5, V_main_arg0, V_main_arg1, V_main_arg2, V_main_arg3, held_delta]),
        (h c).2.2.1.trans (by beta_reduce; rw [val_main_v35_eq, e0, e2, e6, V_main_arg0, V_main_arg2, held_first]),
        (h c).2.2.2.1.trans (by beta_reduce; rw [val_main_v37_eq, e0, e3, e7, V_main_arg0, V_main_arg3, held_second]), (h c).2.2.2.2⟩)
      (Cert.Reference19Ideal.Value.run m' g')⟩

/-- Each of the two inverses is the name's real. -/
theorem preserves : Cert.preserves_Kernel19_Kernel19Ideal :=
  ⟨IdealRules.named_const.statement κ "inv_1" .f32 0x3FC48605#32 ((8388608 / 5463681 : ℝ) : EReal) rfl,
    IdealRules.named_const.statement κ "inv_2" .f32 0x42C8E6D3#32 ((268435456 / 2672307 : ℝ) : EReal) rfl⟩

end Claim

end Cert.Kernel19Ideal.Tied

end
-- ==== Proof.InStep.lean ====
/-
  AdamW of an input weight's shard, whose 386 columns are rows here: the eight devices' gradients come with 400 rows, are
  added into a scratch buffer, and the first 386 rows of it are taken up. The weight and its moments are transposed on the way
  in.
-/
module

public import proofs.«01_k».proof.Proof.Adam
public import proofs.«01_k».proof.Defs
public import proofs.«01_k».proof.Proof.Gen.Kernel20Ideal.Value
public import proofs.«01_k».proof.Proof.Gen.Reference20Ideal.Read
public import Idealize.ShloMosaic.Lib.Pipeline.ValueKit
public import Idealize.ShloMosaic.Lib.KernelVsHost
public import Idealize.ShloMosaic.Lib.Tactic
public import Idealize.ShloMosaic.Lib.ValueLayout
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel20Ideal.Tied

open Cert.Kernel20Ideal Cert.Kernel20Ideal.Gen Cert.Rows Cert.Adam

variable (m : (ℓ : Loc nD τ sig) → Buf (Elt Ideal) ℓ)

/-- The block every window is at. -/
theorem idx : ∀ t, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0, 0] := by decide +kernel

theorem pay_sum (x0 x1 x2 x3 x4 x5 x6 x7 : Vec Ideal S1x400x1024 .bf16) (i : Fin 400) (b : Fin 1024) :
    k0_pay2 x0 x1 x2 x3 x4 x5 x6 x7 (ix2 i b) = x0 (ix3 0 i b) + x1 (ix3 0 i b) + x2 (ix3 0 i b) + x3 (ix3 0 i b)
      + x4 (ix3 0 i b) + x5 (ix3 0 i b) + x6 (ix3 0 i b) + x7 (ix3 0 i b) := by
  unfold_payloads
  pointwise []

theorem pay_first (g : FVec Ideal S386x1024 .f32) (x : Vec Ideal S1x386x1024 .f32) (i : Fin 386) (b : Fin 1024) :
    k0_pay3 g x (ix2 i b) = first (g (ix2 i b)) (x (ix3 0 i b)) := by
  unfold_payloads
  pointwise []
  rfl

theorem pay_second (g : FVec Ideal S386x1024 .f32) (x : Vec Ideal S1x386x1024 .f32) (i : Fin 386) (b : Fin 1024) :
    k0_pay4 g x (ix2 i b) = second (g (ix2 i b)) (x (ix3 0 i b)) := by
  unfold_payloads
  pointwise []
  rfl

theorem pay_delta (g : FVec Ideal S386x1024 .f32) (w x y : Vec Ideal S1x386x1024 .f32) (i : Fin 386) (b : Fin 1024) :
    k0_pay1 (k0_pay8 g x) (k0_pay9 g y) w (ix3 0 i b)
      = delta (w (ix3 0 i b)) (first (g (ix2 i b)) (x (ix3 0 i b))) (second (g (ix2 i b)) (y (ix3 0 i b))) := by
  rw [← pay_first, ← pay_second]
  unfold k0_pay1 k0_pay8 k0_pay9
  pointwise []
  rfl

theorem pay_keep (g : FVec Ideal S386x1024 .f32) (i : Fin 386) (b : Fin 1024) : k0_pay5 g (ix3 0 i b) = g (ix2 i b) := by
  unfold_payloads
  pointwise []

theorem pay_keep_first (g : FVec Ideal S386x1024 .f32) (x : Vec Ideal S1x386x1024 .f32) (i : Fin 386) (b : Fin 1024) :
    k0_pay6 g x (ix3 0 i b) = k0_pay3 g x (ix2 i b) := by
  unfold k0_pay6
  pointwise []

theorem pay_keep_second (g : FVec Ideal S386x1024 .f32) (x : Vec Ideal S1x386x1024 .f32) (i : Fin 386) (b : Fin 1024) :
    k0_pay7 g x (ix3 0 i b) = k0_pay4 g x (ix2 i b) := by
  unfold k0_pay7
  pointwise []

/-! ## The blocks, and what is stored -/

section Point
variable (c : Dev nD) (t : Fin cfg0.N) (i : Fin 386) (b : Fin 1024)

theorem blk_g (k : Fin 8) (i : Fin 400) : iblk m c 0 t (ix3 k i b) = V m c main_arg0 (ix3 k i b) := by blk_ext [iblk, idx t]
theorem blk_w : iblk m c 1 t (ix3 0 i b) = V m c main_v0 (ix3 0 i b) := by blk_ext [iblk, idx t]
theorem blk_m : iblk m c 2 t (ix3 0 i b) = V m c main_v1 (ix3 0 i b) := by blk_ext [iblk, idx t]
theorem blk_v : iblk m c 3 t (ix3 0 i b) = V m c main_v2 (ix3 0 i b) := by blk_ext [iblk, idx t]

/-- The row of the gradient that row `i` of the weight has. -/
abbrev row : Fin 400 := i.castLE (by omega)

/-- What the body takes up of the scratch buffer: the first rows of what it stored there. -/
theorem taken {κ : Kind} {sp : Space} (v : View sig κ sp S400x1024 .f32) (z : S400x1024.Idx → EReal) (h h') :
    v.readCov (Val := Elt Ideal) [⟨Rect.unit ![0, 0] ![400, 1024] h, z⟩] (Rect.unit (s := S400x1024) ![0, 0] ![386, 1024] h').toLoadRect
      (ix2 i b) = z (ix2 (row i) b) := by
  have e : (Rect.unit (s := S400x1024) ![0, 0] ![400, 1024] h).emb (ix2 (row i) b) = ix2 (row i) b :=
    at2 ((Rect.idx_unit_val (s := S400x1024) ![0, 0] ![400, 1024] h (ix2 (row i) b) 0).trans (Nat.zero_add _))
      ((Rect.idx_unit_val (s := S400x1024) ![0, 0] ![400, 1024] h (ix2 (row i) b) 1).trans (Nat.zero_add _))
  have e' : (Rect.unit (s := S400x1024) ![0, 0] ![386, 1024] h').toLoadRect.idx (ix2 i b) = ix2 (row i) b :=
    at2 ((Rect.idx_unit_val (s := S400x1024) ![0, 0] ![386, 1024] h' (ix2 i b) 0).trans (Nat.zero_add _))
      ((Rect.idx_unit_val (s := S400x1024) ![0, 0] ![386, 1024] h' (ix2 i b) 1).trans (Nat.zero_add _))
  rw [View.readCov_eq_canon']
  refine (congrArg _ (e'.trans e.symm)).trans ?_
  exact View.canon_cons_emb _ _ _ _

/-- The gradient. -/
abbrev grad (i : Fin 400) (b : Fin 1024) : EReal := gathered (V m c main_arg0) i b

/-- The sum of the eight slabs that the body loads. -/
theorem slabs (i : Fin 400) (h0 h1 h2 h3 h4 h5 h6 h7) : k0_pay2 (F := Ideal)
    (View.ld (iblk m c 0 t) (Rect.unit ![0, 0, 0] ![1, 400, 1024] h0)) (View.ld (iblk m c 0 t) (Rect.unit ![1, 0, 0] ![1, 400, 1024] h1))
    (View.ld (iblk m c 0 t) (Rect.unit ![2, 0, 0] ![1, 400, 1024] h2)) (View.ld (iblk m c 0 t) (Rect.unit ![3, 0, 0] ![1, 400, 1024] h3))
    (View.ld (iblk m c 0 t) (Rect.unit ![4, 0, 0] ![1, 400, 1024] h4)) (View.ld (iblk m c 0 t) (Rect.unit ![5, 0, 0] ![1, 400, 1024] h5))
    (View.ld (iblk m c 0 t) (Rect.unit ![6, 0, 0] ![1, 400, 1024] h6)) (View.ld (iblk m c 0 t) (Rect.unit ![7, 0, 0] ![1, 400, 1024] h7))
    (ix2 i b) = grad m c i b := by
  refine (pay_sum _ _ _ _ _ _ _ _ i b).trans ?_
  rw [slab_load _ i b 0 (by omega), slab_load _ i b 1 (by omega), slab_load _ i b 2 (by omega), slab_load _ i b 3 (by omega),
    slab_load _ i b 4 (by omega), slab_load _ i b 5 (by omega), slab_load _ i b 6 (by omega), slab_load _ i b 7 (by omega)]
  simp only [blk_g]
  exact gathered_eq _ i b

theorem stored_grad : (outsAt0 m c t).1 (ix3 0 i b) = grad m c (row i) b := by
  unfold outsAt0
  frame_out
  exact (pay_keep _ i b).trans ((taken ..).trans (slabs ..))

theorem stored_first : (outsAt0 m c t).2.2.1 (ix3 0 i b) = first (grad m c (row i) b) (V m c main_v1 (ix3 0 i b)) := by
  unfold outsAt0
  frame_out
  rw [pay_keep_first, pay_first, taken, slabs]
  exact congrArg _ (blk_m m c t i b)

theorem stored_second : (outsAt0 m c t).2.2.2 (ix3 0 i b) = second (grad m c (row i) b) (V m c main_v2 (ix3 0 i b)) := by
  unfold outsAt0
  frame_out
  rw [pay_keep_second, pay_second, taken, slabs]
  exact congrArg _ (blk_v m c t i b)

theorem stored_delta : (outsAt0 m c t).2.1 (ix3 0 i b) = delta (V m c main_v0 (ix3 0 i b))
    (first (grad m c (row i) b) (V m c main_v1 (ix3 0 i b))) (second (grad m c (row i) b) (V m c main_v2 (ix3 0 i b))) := by
  unfold outsAt0
  frame_out
  rw [pay_delta, taken, slabs, slabs, blk_w, blk_m, blk_v]

end Point

/-! ## The result arrays -/

section Final
variable (c : Dev nD)

/-- What the four results are made of: the gradient, the step, the moments. -/
abbrev grads (j : S1x386x1024.Idx) : EReal := grad m c (row (j 1)) (j 2)
abbrev firsts (j : S1x386x1024.Idx) : EReal := first (grads m c j) (V m c main_v1 j)
abbrev seconds (j : S1x386x1024.Idx) : EReal := second (grads m c j) (V m c main_v2 j)
abbrev deltas (j : S1x386x1024.Idx) : EReal := delta (V m c main_v0 j) (firsts m c j) (seconds m c j)

theorem final_grad : (dats m 0 c).arrAt 4 cfg0.N = grads m c := by
  refine (dats m 0 c).arrAt_eq_of_covers 4 _ (by decide +kernel) fun t hf y => ?_
  obtain ⟨i, b, rfl⟩ := one_slab y
  have e : (((View.whole main_v3_0).slice (win0_4.rect t)).emb (ix3 0 i b)) = ix3 0 i b := by blk_ext [idx t]
  blk_simp
  rw [after0_4]
  exact (stored_grad m c t i b).trans (congrArg (grads m c) e.symm)

theorem final_delta : (dats m 0 c).arrAt 5 cfg0.N = deltas m c := by
  refine (dats m 0 c).arrAt_eq_of_covers 5 _ (by decide +kernel) fun t hf y => ?_
  obtain ⟨i, b, rfl⟩ := one_slab y
  have e : (((View.whole main_v3_1).slice (win0_5.rect t)).emb (ix3 0 i b)) = ix3 0 i b := by blk_ext [idx t]
  blk_simp
  rw [after0_5]
  exact (stored_delta m c t i b).trans (congrArg (deltas m c) e.symm)

theorem final_first : (dats m 0 c).arrAt 6 cfg0.N = firsts m c := by
  refine (dats m 0 c).arrAt_eq_of_covers 6 _ (by decide +kernel) fun t hf y => ?_
  obtain ⟨i, b, rfl⟩ := one_slab y
  have e : (((View.whole main_v3_2).slice (win0_6.rect t)).emb (ix3 0 i b)) = ix3 0 i b := by blk_ext [idx t]
  blk_simp
  rw [after0_6]
  exact (stored_first m c t i b).trans (congrArg (firsts m c) e.symm)

theorem final_second : (dats m 0 c).arrAt 7 cfg0.N = seconds m c := by
  refine (dats m 0 c).arrAt_eq_of_covers 7 _ (by decide +kernel) fun t hf y => ?_
  obtain ⟨i, b, rfl⟩ := one_slab y
  have e : (((View.whole main_v3_3).slice (win0_7.rect t)).emb (ix3 0 i b)) = ix3 0 i b := by blk_ext [idx t]
  blk_simp
  rw [after0_7]
  exact (stored_second m c t i b).trans (congrArg (seconds m c) e.symm)

end Final

/-! ## The arrays at region entry, and the reference -/

section Entry
variable (c : Dev nD) (k : Fin 1) (i : Fin 386) (b : Fin 1024)

theorem entry_w : V m c main_v0 (ix3 k i b) = (m ((c : Thread nD τ).loc main_arg1) : S1x1024x386.Idx → EReal) (ix3 k b i) := by
  simp only [V, hostOps0]
  after_results
  exact ValueIdx.transpose_ix3_021_apply ..
theorem entry_m : V m c main_v1 (ix3 k i b) = (m ((c : Thread nD τ).loc main_arg2) : S1x1024x386.Idx → EReal) (ix3 k b i) := by
  simp only [V, hostOps0]
  after_results
  exact ValueIdx.transpose_ix3_021_apply ..
theorem entry_v : V m c main_v2 (ix3 k i b) = (m ((c : Thread nD τ).loc main_arg3) : S1x1024x386.Idx → EReal) (ix3 k b i) := by
  simp only [V, hostOps0]
  after_results
  exact ValueIdx.transpose_ix3_021_apply ..

end Entry

section Ref
open Cert.Reference20Ideal.Read
variable (x : S8x400x1024.Idx → EReal) (w a v : S1x1024x386.Idx → EReal) (k : Fin 1) (i : Fin 386) (b : Fin 1024)

theorem ref_grad : val_main_v4 (F := Ideal) x (ix3 k b i) = gathered x (row i) b := by
  pointwise [val_main_v4, val_main_v3, val_main_v2, val_main_v1, val_main_v0, val_main_cst]
  rfl

theorem ref_first : val_main_v9 (F := Ideal) x a (ix3 k b i) = first (gathered x (row i) b) (a (ix3 k b i)) := by
  rw [← ref_grad x k i b]
  pointwise [val_main_v9, val_main_v8, val_main_v7, val_main_v6, val_main_v5, val_main_cst_0, val_main_cst_1]
  rfl

theorem ref_second : val_main_v15 (F := Ideal) x v (ix3 k b i) = second (gathered x (row i) b) (v (ix3 k b i)) := by
  rw [← ref_grad x k i b]
  pointwise [val_main_v15, val_main_v14, val_main_v13, val_main_v12, val_main_v11, val_main_v10, val_main_cst_2, val_main_cst_3]
  rfl

theorem ref_delta : val_main_v28 (F := Ideal) x w a v (ix3 k b i) = delta (w (ix3 k b i))
    (first (gathered x (row i) b) (a (ix3 k b i))) (second (gathered x (row i) b) (v (ix3 k b i))) := by
  rw [← ref_first x a k i b, ← ref_second x v k i b, delta, ← div_first, ← div_second]
  pointwise [val_main_v28, val_main_v27, val_main_v26, val_main_v25, val_main_v24, val_main_v23, val_main_v22, val_main_v21,
    val_main_v20, val_main_v19, val_main_v18, val_main_v17, val_main_v16, val_main_cst_4, val_main_cst_5, val_main_cst_6,
    val_main_cst_7, val_main_cst_8]

end Ref

section Claim
open Cert.Reference20Ideal.Read
variable (m : (ℓ : Loc nD τ sig) → Buf (Elt Ideal) ℓ) (c : Dev nD)

theorem result_grad : (dats m 0 c).arrAt 4 cfg0.N = val_main_v29 (F := Ideal) (m ((c : Thread nD τ).loc main_arg0)) :=
  (final_grad m c).trans (ext3 fun k i b => by
    refine Eq.trans ?_ ((ValueIdx.transpose_ix3_021_apply ..).trans (ref_grad _ k i b)).symm
    rw [← V_main_arg0 m c]
    rfl)

theorem result_delta : (dats m 0 c).arrAt 5 cfg0.N = val_main_v30 (F := Ideal) (m ((c : Thread nD τ).loc main_arg0))
    (m ((c : Thread nD τ).loc main_arg1)) (m ((c : Thread nD τ).loc main_arg2)) (m ((c : Thread nD τ).loc main_arg3)) :=
  (final_delta m c).trans (ext3 fun k i b => by
    refine Eq.trans ?_ ((ValueIdx.transpose_ix3_021_apply ..).trans (ref_delta _ _ _ _ k i b)).symm
    rw [← V_main_arg0 m c, ← entry_w m c k i b, ← entry_m m c k i b, ← entry_v m c k i b]
    rfl)

theorem result_first : (dats m 0 c).arrAt 6 cfg0.N = val_main_v31 (F := Ideal) (m ((c : Thread nD τ).loc main_arg0))
    (m ((c : Thread nD τ).loc main_arg2)) :=
  (final_first m c).trans (ext3 fun k i b => by
    refine Eq.trans ?_ ((ValueIdx.transpose_ix3_021_apply ..).trans (ref_first _ _ k i b)).symm
    rw [← V_main_arg0 m c, ← entry_m m c k i b]
    rfl)

theorem result_second : (dats m 0 c).arrAt 7 cfg0.N = val_main_v32 (F := Ideal) (m ((c : Thread nD τ).loc main_arg0))
    (m ((c : Thread nD τ).loc main_arg3)) :=
  (final_second m c).trans (ext3 fun k i b => by
    refine Eq.trans ?_ ((ValueIdx.transpose_ix3_021_apply ..).trans (ref_second _ _ k i b)).symm
    rw [← V_main_arg0 m c, ← entry_v m c k i b]
    rfl)

end Claim

section Claim
open Cert.Reference20Ideal.Read

/-- The claim. -/
theorem algebraic : Cert.algebraic_Kernel20Ideal_Reference20Ideal := fun m g m' g' _ hag =>
  ⟨fun c => val_main_v29 (F := Ideal) (m ((c : Thread nD τ).loc main_arg0)),
    fun c => val_main_v30 (F := Ideal) (m ((c : Thread nD τ).loc main_arg0)) (m ((c : Thread nD τ).loc main_arg1))
      (m ((c : Thread nD τ).loc main_arg2)) (m ((c : Thread nD τ).loc main_arg3)),
    fun c => val_main_v31 (F := Ideal) (m ((c : Thread nD τ).loc main_arg0)) (m ((c : Thread nD τ).loc main_arg2)),
    fun c => val_main_v32 (F := Ideal) (m ((c : Thread nD τ).loc main_arg0)) (m ((c : Thread nD τ).loc main_arg3)),
    (θ_run _ _ _).mono (fun r h c => ⟨(h c).1.trans (result_grad m c), (h c).2.1.trans (result_delta m c),
      (h c).2.2.1.trans (result_first m c), (h c).2.2.2.1.trans (result_second m c), (h c).2.2.2.2⟩) (Value.run_blocks m g),
    (θ_run _ _ _).mono (fun r h c => ⟨(h c).1.trans (by rw [val_main_v29_eq, (hag c).1]),
      (h c).2.1.trans (by rw [val_main_v30_eq, (hag c).1, (hag c).2.1, (hag c).2.2.1, (hag c).2.2.2]),
      (h c).2.2.1.trans (by rw [val_main_v31_eq, (hag c).1, (hag c).2.2.1]),
      (h c).2.2.2.1.trans (by rw [val_main_v32_eq, (hag c).1, (hag c).2.2.2]), (h c).2.2.2.2⟩)
      (Cert.Reference20Ideal.Value.run m' g')⟩

/-- Each of the two inverses is the name's real. -/
theorem preserves : Cert.preserves_Kernel20_Kernel20Ideal :=
  ⟨IdealRules.named_const.statement κ "inv_1" .f32 0x3FC48605#32 ((8388608 / 5463681 : ℝ) : EReal) rfl,
    IdealRules.named_const.statement κ "inv_2" .f32 0x42C8E6D3#32 ((268435456 / 2672307 : ℝ) : EReal) rfl⟩

end Claim

end Cert.Kernel20Ideal.Tied

end
-- ==== Proof.lean ====
/-
  The claims about a layer's forward and backward calls, put together: each program runs to its end with its arguments
  unchanged, and each kernel's results are its reference's over the extended reals. The value claims are in the modules
  beside this one, one module a call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Reference20Ideal
public import proofs.«01_k».proof.Proof.DownBackward
public import proofs.«01_k».proof.Proof.UpBackward
public import proofs.«01_k».proof.Proof.GateUpWeights
public import proofs.«01_k».proof.Proof.DownWeights
public import proofs.«01_k».proof.Proof.UpForward
public import proofs.«01_k».proof.Proof.DownForward
public import proofs.«01_k».proof.Proof.ConvBackward
public import proofs.«01_k».proof.Proof.MixOutBackward
public import proofs.«01_k».proof.Proof.MixInBackward
public import proofs.«01_k».proof.Proof.MixInWeights
public import proofs.«01_k».proof.Proof.MixOutWeights
public import proofs.«01_k».proof.Proof.MixInForward
public import proofs.«01_k».proof.Proof.MixOutForward
public import proofs.«01_k».proof.Proof.ConvForward
public import proofs.«01_k».proof.Proof.MixOutForwardEven
public import proofs.«01_k».proof.Proof.MixOutWeightsEven
public import proofs.«01_k».proof.Proof.Loss
public import proofs.«01_k».proof.Proof.OutStep
public import proofs.«01_k».proof.Proof.FfnStep
public import proofs.«01_k».proof.Proof.InStep
public import Idealize.ShloMosaic.Adequacy
public import Idealize.ShloMosaic.Init

@[expose] public section

noncomputable section

namespace Cert.Proof

open Idealize.ShloMosaic Idealize.SL.Sem Cert.Kernel

/-- The shape facts the precondition's program states. -/
theorem finite_facts : Cert.Pre_finite.Facts where
  bcast_S_S4112x2816 := by decide
  reducesTo_S4112x2816_S_d0_1 := by decide
  h_S_ := by decide
  bcast_S_S2816x1024 := by decide
  reducesTo_S2816x1024_S_d0_1 := by decide
  bcast_S_S1024 := by decide
  reducesTo_S1024_S_d0 := by decide
  bcast_S_S4112x1024 := by decide
  reducesTo_S4112x1024_S_d0_1 := by decide

/-! The references run to their end, their arguments unchanged. -/

theorem reference1 : Cert.quiescent_ReferenceIdeal := fun m ρ _ =>
  (θ_run _ _ _).mono (fun r h => ⟨fun c => (h c).2.2.2, sem_eq_zero_of_no_sems (by decide) r.2⟩)
    (Cert.ReferenceIdeal.Value.run (F := Ideal) m ρ)

theorem reference1_finite [Cert.Pre_finite.Facts] : Cert.quiescent_ReferenceIdeal_pre_finite := fun m ρ _ =>
  (θ_run _ _ _).mono (fun r h => ⟨fun c => (h c).2.2.2, sem_eq_zero_of_no_sems (by decide) r.2⟩)
    (Cert.ReferenceIdeal.Value.run (F := Ideal) m ρ)

theorem reference2 : Cert.quiescent_Reference2Ideal := fun m ρ _ =>
  (θ_run _ _ _).mono (fun r h => ⟨fun c => (h c).2.2, sem_eq_zero_of_no_sems (by decide) r.2⟩)
    (Cert.Reference2Ideal.Value.run (F := Ideal) m ρ)

theorem reference3 : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

theorem reference4 : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

theorem reference5 : Cert.quiescent_Reference5Ideal := fun m ρ _ =>
  (θ_run _ _ _).mono (fun r h => ⟨fun c => (h c).2.2.2.2, sem_eq_zero_of_no_sems (by decide) r.2⟩)
    (Cert.Reference5Ideal.Value.run (F := Ideal) m ρ)

theorem reference6 : Cert.quiescent_Reference6Ideal := fun m ρ _ =>
  (θ_run _ _ _).mono (fun r h => ⟨fun c => (h c).2.2, sem_eq_zero_of_no_sems (by decide) r.2⟩)
    (Cert.Reference6Ideal.Value.run (F := Ideal) m ρ)

theorem reference7 : Cert.quiescent_Reference7Ideal := fun m ρ _ =>
  (θ_run _ _ _).mono (fun r h => ⟨fun c => (h c).2.2, sem_eq_zero_of_no_sems (by decide) r.2⟩)
    (Cert.Reference7Ideal.Value.run (F := Ideal) m ρ)

theorem reference8 : Cert.quiescent_Reference8Ideal := fun m ρ _ =>
  (θ_run _ _ _).mono (fun r h => ⟨fun c => (h c).2.2.2, sem_eq_zero_of_no_sems (by decide) r.2⟩)
    (Cert.Reference8Ideal.Value.run (F := Ideal) m ρ)

theorem reference9 : Cert.quiescent_Reference9Ideal := fun m ρ _ =>
  (θ_run _ _ _).mono (fun r h => ⟨fun c => (h c).2.2, sem_eq_zero_of_no_sems (by decide) r.2⟩)
    (Cert.Reference9Ideal.Value.run (F := Ideal) m ρ)

theorem reference10 : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

theorem reference11 : Cert.quiescent_Reference11Ideal := fun m ρ _ =>
  (θ_run _ _ _).mono (fun r h => ⟨fun c => (h c).2, sem_eq_zero_of_no_sems (by decide) r.2⟩)
    (Cert.Reference11Ideal.Value.run (F := Ideal) m ρ)

theorem reference12 : Cert.quiescent_Reference12Ideal := fun m ρ _ =>
  (θ_run _ _ _).mono (fun r h => ⟨fun c => (h c).2.2, sem_eq_zero_of_no_sems (by decide) r.2⟩)
    (Cert.Reference12Ideal.Value.run (F := Ideal) m ρ)

theorem reference13 : Cert.quiescent_Reference13Ideal := fun m ρ _ =>
  (θ_run _ _ _).mono (fun r h => ⟨fun c => (h c).2.2, sem_eq_zero_of_no_sems (by decide) r.2⟩)
    (Cert.Reference13Ideal.Value.run (F := Ideal) m ρ)

theorem reference14 : Cert.quiescent_Reference14Ideal := fun m ρ _ =>
  (θ_run _ _ _).mono (fun r h => ⟨fun c => (h c).2, sem_eq_zero_of_no_sems (by decide) r.2⟩)
    (Cert.Reference14Ideal.Value.run (F := Ideal) m ρ)

theorem reference15 : Cert.quiescent_Reference15Ideal := fun m ρ _ =>
  (θ_run _ _ _).mono (fun r h => ⟨fun c => (h c).2.2, sem_eq_zero_of_no_sems (by decide) r.2⟩)
    (Cert.Reference15Ideal.Value.run (F := Ideal) m ρ)

theorem reference16 : Cert.quiescent_Reference16Ideal := fun m ρ _ =>
  (θ_run _ _ _).mono (fun r h => ⟨fun c => (h c).2, sem_eq_zero_of_no_sems (by decide) r.2⟩)
    (Cert.Reference16Ideal.Value.run (F := Ideal) m ρ)

theorem reference17 : Cert.quiescent_Reference17Ideal := fun m ρ _ =>
  (θ_run _ _ _).mono (fun r h => ⟨fun c => (h c).2.2, sem_eq_zero_of_no_sems (by decide) r.2⟩)
    (Cert.Reference17Ideal.Value.run (F := Ideal) m ρ)

theorem reference18 : Cert.quiescent_Reference18Ideal := fun m ρ _ =>
  (θ_run _ _ _).mono (fun r h => ⟨fun c => (h c).2.2.2.2, sem_eq_zero_of_no_sems (by decide) r.2⟩)
    (Cert.Reference18Ideal.Value.run (F := Ideal) m ρ)

theorem reference19 : Cert.quiescent_Reference19Ideal := fun m ρ _ =>
  (θ_run _ _ _).mono (fun r h => ⟨fun c => (h c).2.2.2.2, sem_eq_zero_of_no_sems (by decide) r.2⟩)
    (Cert.Reference19Ideal.Value.run (F := Ideal) m ρ)

theorem reference20 : Cert.quiescent_Reference20Ideal := fun m ρ _ =>
  (θ_run _ _ _).mono (fun r h => ⟨fun c => (h c).2.2.2.2, sem_eq_zero_of_no_sems (by decide) r.2⟩)
    (Cert.Reference20Ideal.Value.run (F := Ideal) m ρ)

/-- The certificate's claims, in its order. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, finite_facts,
  ⟨fun m ρ _ => Cert.Kernel.Gen.frame m ρ,
    fun m ρ _ => Cert.KernelIdeal.Gen.frame m ρ,
    fun m ρ _ => Cert.KernelIdeal.Gen.frame m ρ,
    reference1,
    @reference1_finite finite_facts,
    fun m ρ _ => Cert.Kernel2.Gen.frame m ρ,
    fun m ρ _ => Cert.Kernel2Ideal.Gen.frame m ρ,
    reference2,
    fun m ρ _ => Cert.Kernel3.Gen.frame m ρ,
    fun m ρ _ => Cert.Kernel3Ideal.Gen.frame m ρ,
    reference3,
    fun m ρ _ => Cert.Kernel4.Gen.frame m ρ,
    fun m ρ _ => Cert.Kernel4Ideal.Gen.frame m ρ,
    reference4,
    fun m ρ _ => Cert.Kernel5.Gen.frame m ρ,
    fun m ρ _ => Cert.Kernel5Ideal.Gen.frame m ρ,
    reference5,
    fun m ρ _ => Cert.Kernel6.Gen.frame m ρ,
    fun m ρ _ => Cert.Kernel6Ideal.Gen.frame m ρ,
    reference6,
    fun m ρ _ => Cert.Kernel7.Gen.frame m ρ,
    fun m ρ _ => Cert.Kernel7Ideal.Gen.frame m ρ,
    reference7,
    fun m ρ _ => Cert.Kernel8.Gen.frame m ρ,
    fun m ρ _ => Cert.Kernel8Ideal.Gen.frame m ρ,
    reference8,
    fun m ρ _ => Cert.Kernel9.Gen.frame m ρ,
    fun m ρ _ => Cert.Kernel9Ideal.Gen.frame m ρ,
    reference9,
    fun m ρ _ => Cert.Kernel10.Gen.frame m ρ,
    fun m ρ _ => Cert.Kernel10Ideal.Gen.frame m ρ,
    reference10,
    fun m ρ _ => Cert.Kernel11.Gen.frame m ρ,
    fun m ρ _ => Cert.Kernel11Ideal.Gen.frame m ρ,
    reference11,
    fun m ρ _ => Cert.Kernel12.Gen.frame m ρ,
    fun m ρ _ => Cert.Kernel12Ideal.Gen.frame m ρ,
    reference12,
    fun m ρ _ => Cert.Kernel13.Gen.frame m ρ,
    fun m ρ _ => Cert.Kernel13Ideal.Gen.frame m ρ,
    reference13,
    fun m ρ _ => Cert.Kernel14.Gen.frame m ρ,
    fun m ρ _ => Cert.Kernel14Ideal.Gen.frame m ρ,
    reference14,
    fun m ρ _ => Cert.Kernel15.Gen.frame m ρ,
    fun m ρ _ => Cert.Kernel15Ideal.Gen.frame m ρ,
    reference15,
    fun m ρ _ => Cert.Kernel16.Gen.frame m ρ,
    fun m ρ _ => Cert.Kernel16Ideal.Gen.frame m ρ,
    reference16,
    fun m ρ _ => Cert.Kernel17.Gen.frame m ρ,
    fun m ρ _ => Cert.Kernel17Ideal.Gen.frame m ρ,
    reference17,
    fun m ρ _ => Cert.Kernel18.Gen.frame m ρ,
    fun m ρ _ => Cert.Kernel18Ideal.Gen.frame m ρ,
    reference18,
    fun m ρ _ => Cert.Kernel19.Gen.frame m ρ,
    fun m ρ _ => Cert.Kernel19Ideal.Gen.frame m ρ,
    reference19,
    fun m ρ _ => Cert.Kernel20.Gen.frame m ρ,
    fun m ρ _ => Cert.Kernel20Ideal.Gen.frame m ρ,
    reference20,
    trivial,
    @Cert.KernelIdeal.Tied.algebraic finite_facts,
    trivial,
    Cert.Kernel2Ideal.Tied.algebraic,
    trivial,
    Cert.Kernel3Ideal.Tied.algebraic,
    trivial,
    Cert.Kernel4Ideal.Tied.algebraic,
    trivial,
    Cert.Kernel5Ideal.Tied.algebraic,
    trivial,
    Cert.Kernel6Ideal.Tied.algebraic,
    trivial,
    Cert.Kernel7Ideal.Tied.algebraic,
    trivial,
    Cert.Kernel8Ideal.Tied.algebraic,
    trivial,
    Cert.Kernel9Ideal.Tied.algebraic,
    trivial,
    Cert.Kernel10Ideal.Tied.algebraic,
    trivial,
    Cert.Kernel11Ideal.Tied.algebraic,
    trivial,
    Cert.Kernel12Ideal.Tied.algebraic,
    trivial,
    Cert.Kernel13Ideal.Tied.algebraic,
    trivial,
    Cert.Kernel14Ideal.Tied.algebraic,
    trivial,
    Cert.Kernel15Ideal.Tied.algebraic,
    trivial,
    Cert.Kernel16Ideal.Tied.algebraic,
    trivial,
    Cert.Kernel17Ideal.Tied.algebraic,
    Cert.Kernel18Ideal.Tied.preserves,
    Cert.Kernel18Ideal.Tied.algebraic,
    Cert.Kernel19Ideal.Tied.preserves,
    Cert.Kernel19Ideal.Tied.algebraic,
    Cert.Kernel20Ideal.Tied.preserves,
    Cert.Kernel20Ideal.Tied.algebraic⟩⟩

end Cert.Proof

end
